-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x1024x64x128 : S_.BroadcastsInDim S8x1024x64x128 (![] : Fin 0 → Fin S8x1024x64x128.rank)
  reducesTo_S8x1024x64x128_S_d0_1_2_3 : S8x1024x64x128.ReducesTo [0, 1, 2, 3] S_

variable [Facts]

def fn {F : FTy → Type} [FloatOps F] (main_arg0 : FVec F S1x1024x1024 .f32) (main_arg1 : FVec F S1024x1024 .f32) (main_arg2 : FVec F S8x1024x64x128 .f32) (main_arg3 : FVec F S8x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x1024x64x128 .f32 := Host.absf main_arg2
  let main_cst_2 : FVec F S_ .f32 := constant S_ .f32 0x7F800000#32
  let main_v10 : FVec F S8x1024x64x128 .f32 := broadcastInDim S8x1024x64x128 ![] bcast_S_S8x1024x64x128 main_cst_2
  let main_v11 : IVec S8x1024x64x128 1 := cmpf .olt main_v9 main_v10
  let main_c_3 : IVec S_ 1 := constantI S_ 1 1#1
  let main_v12 : IVec S_ 1 := (fun x v => Host.reduce IntOp.andi x v reducesTo_S8x1024x64x128_S_d0_1_2_3 h_S_) main_v11 main_c_3
  let main_v13 : IVec S_ 1 := andi main_v8 main_v12
  main_v13
-- ==== Pre_finite_ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8x1024x64x128 : S_.BroadcastsInDim S8x1024x64x128 (![] : Fin 0 → Fin S8x1024x64x128.rank)
  reducesTo_S8x1024x64x128_S_d0_1_2_3 : S8x1024x64x128.ReducesTo [0, 1, 2, 3] S_

variable [Facts]

def fn {F : FTy → Type} [FloatOps F] (main_arg0 : FVec F S8x1024x1024 .f32) (main_arg1 : FVec F S1024x8192 .f32) (main_arg2 : FVec F S8x1024x64x128 .f32) (main_arg3 : FVec F S8x1024x64x128 .f32) (main_arg4 : FVec F S8192x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8x1024x64x128 .f32 := Host.absf main_arg2
  let main_cst_2 : FVec F S_ .f32 := constant S_ .f32 0x7F800000#32
  let main_v10 : FVec F S8x1024x64x128 .f32 := broadcastInDim S8x1024x64x128 ![] bcast_S_S8x1024x64x128 main_cst_2
  let main_v11 : IVec S8x1024x64x128 1 := cmpf .olt main_v9 main_v10
  let main_c_3 : IVec S_ 1 := constantI S_ 1 1#1
  let main_v12 : IVec S_ 1 := (fun x v => Host.reduce IntOp.andi x v reducesTo_S8x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S2x2x2x1024x1024 : Shape := ⟨5, ![2, 2, 2, 1024, 1024]⟩
abbrev S2x8x1024x128 : Shape := ⟨4, ![2, 8, 1024, 128]⟩
abbrev S2x2x2 : Shape := ⟨3, ![2, 2, 2]⟩
abbrev S2 : Shape := ⟨1, ![2]⟩
abbrev S2x3x2 : Shape := ⟨3, ![2, 3, 2]⟩
abbrev S_ : Shape := ⟨0, ![]⟩
abbrev S1x1x1x1024x1024 : Shape := ⟨5, ![1, 1, 1, 1024, 1024]⟩
abbrev S1 : Shape := ⟨1, ![1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S512x512 : Shape := ⟨2, ![512, 512]⟩
abbrev S1x1x1 : Shape := ⟨3, ![1, 1, 1]⟩
abbrev S1x1x2x512x1024 : Shape := ⟨5, ![1, 1, 2, 512, 1024]⟩
abbrev S2x512x1024 : Shape := ⟨3, ![2, 512, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S8x1024x64x128, .f32⟩
  | .hbm, ⟨3, _⟩ => ⟨S8x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S2x2x2x1024x1024, .bf16⟩
  | .local _ .vmem, ⟨5, _⟩ => ⟨S2x8x1024x128, .f32⟩
  | .local _ .vmem, ⟨6, _⟩ => ⟨S2x8x1024x128, .f32⟩
  | .local _ .vmem, ⟨7, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 13 24 bufScoped semScoped dmaSemScoped tileCredit tileCredit_eq_zero tileCredit_pos).withBarriers [(0, 12)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 12

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_33 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let c8_i32_32 : BitVec 32 := 8#32
  let v31 : BitVec 32 := Scalar.muli v2 c8_i32_32
  let v32 : BitVec 32 := Scalar.addi v31 c0_i32_33
  let c0_i32_65 : BitVec 32 := 0#32
  ![v2.toNat, 0, v32.toNat, 0]
@[reducible] def k0_t1_loop : Scf.Loop 32 :=
  let c0_i32_192 : BitVec 32 := 0#32
  let c8_i32_193 : BitVec 32 := 8#32
  let v220 : BitVec 32 := Scalar.addi c0_i32_192 c8_i32_193
  let c1_i32_194 : BitVec 32 := 1#32
  ⟨c0_i32_192, v220, c1_i32_194⟩
def k0_cond1 (k0_t1 : Fin k0_t1_loop.trips) : BitVec 1 :=
  let c0_i32_192 : BitVec 32 := 0#32
  let c1_i32_194 : BitVec 32 := 1#32
  let arg15 : BitVec 32 := Scf.iv c0_i32_192 c1_i32_194 k0_t1
  let c7_i32_226 : BitVec 32 := 7#32
  let v268 : BitVec 1 := Scalar.cmpi .slt arg15 c7_i32_226
  let v269 : BitVec 32 := Scalar.extui v268
  let c0_i32_227 : BitVec 32 := 0#32
  let v270 : BitVec 1 := Scalar.cmpi .ne v269 c0_i32_227
  v270

def k0_off2 (k0_t1 : Fin k0_t1_loop.trips) : Fin 1 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  ![v928.toNat]
def k0_off3 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c0_i32_581 : BitVec 32 := 0#32
  let c0_i32_582 : BitVec 32 := 0#32
  let c0_i32_583 : BitVec 32 := 0#32
  ![v928.toNat, 0, 0, 0]
def k0_off4 (d0 : Dev nD) (k0_t1 : Fin k0_t1_loop.trips) (c0_i32_550 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_584 : BitVec 32 := 0#32
  let c0_i32_192 : BitVec 32 := 0#32
  let c1_i32_194 : BitVec 32 := 1#32
  let arg15 : BitVec 32 := Scf.iv c0_i32_192 c1_i32_194 k0_t1
  let c1_i32_525 : BitVec 32 := 1#32
  let v889 : BitVec 32 := Scalar.addi arg15 c1_i32_525
  let c0_i32_536 : BitVec 32 := 0#32
  let v910 : BitVec 1 := Scalar.cmpi .eq v889 c0_i32_536
  let c0_i32_540 : BitVec 32 := 0#32
  let c7_i32_537 : BitVec 32 := 7#32
  let v911 : BitVec 1 := Scalar.cmpi .eq v889 c7_i32_537
  let c4_i32_539 : BitVec 32 := 4#32
  let c2_i32_534 : BitVec 32 := 2#32
  let v908 : BitVec 32 := Scalar.remsi v889 c2_i32_534
  let c1_i32_535 : BitVec 32 := 1#32
  let v909 : BitVec 1 := Scalar.cmpi .eq v908 c1_i32_535
  let c0_i32_538 : BitVec 32 := 0#32
  let c1_i32_526 : BitVec 32 := 1#32
  let v890 : BitVec 32 := Scalar.addi v889 c1_i32_526
  let c0_i32_528 : BitVec 32 := 0#32
  let v892 : BitVec 1 := Scalar.cmpi .sgt v890 c0_i32_528
  let v893 : BitVec 32 := Scalar.extui v892
  let c0_i32_529 : BitVec 32 := 0#32
  let v894 : BitVec 1 := Scalar.cmpi .slt v890 c0_i32_529
  let v895 : BitVec 32 := Scalar.extui v894
  let v896 : BitVec 32 := Scalar.subi v893 v895
  let c2_i32_527 : BitVec 32 := 2#32
  let c0_i32_530 : BitVec 32 := 0#32
  let v897 : BitVec 1 := Scalar.cmpi .sgt c2_i32_527 c0_i32_530
  let v898 : BitVec 32 := Scalar.extui v897
  let c0_i32_531 : BitVec 32 := 0#32
  let v899 : BitVec 1 := Scalar.cmpi .slt c2_i32_527 c0_i32_531
  let v900 : BitVec 32 := Scalar.extui v899
  let v901 : BitVec 32 := Scalar.subi v898 v900
  let v902 : BitVec 1 := Scalar.cmpi .ne v896 v901
  let v903 : BitVec 32 := Scalar.remsi v890 c2_i32_527
  let c0_i32_532 : BitVec 32 := 0#32
  let v904 : BitVec 1 := Scalar.cmpi .ne v903 c0_i32_532
  let v905 : BitVec 1 := Scalar.andi v902 v904
  let v891 : BitVec 32 := Scalar.divsi v890 c2_i32_527
  let c1_i32_533 : BitVec 32 := 1#32
  let v906 : BitVec 32 := Scalar.subi v891 c1_i32_533
  let v907 : BitVec 32 := Scalar.select v905 v906 v891
  let v912 : BitVec 32 := Scalar.subi c0_i32_538 v907
  let v913 : BitVec 32 := Scalar.select v909 v912 v907
  let v914 : BitVec 32 := Scalar.select v911 c4_i32_539 v913
  let v915 : BitVec 32 := Scalar.select v910 c0_i32_540 v914
  let v916 : BitVec 32 := Scalar.addi v2 v915
  let c8_i32_541 : BitVec 32 := 8#32
  let c0_i32_542 : BitVec 32 := 0#32
  let v917 : BitVec 1 := Scalar.cmpi .eq c8_i32_541 c0_i32_542
  let c1_i32_543 : BitVec 32 := 1#32
  let v918 : BitVec 32 := Scalar.select v917 c1_i32_543 c8_i32_541
  let v919 : BitVec 32 := Scalar.remsi v916 v918
  let c0_i32_545 : BitVec 32 := 0#32
  let v921 : BitVec 1 := Scalar.cmpi .slt v919 c0_i32_545
  let c0_i32_546 : BitVec 32 := 0#32
  let v922 : BitVec 1 := Scalar.cmpi .slt v918 c0_i32_546
  let v923 : BitVec 1 := Scalar.xori v921 v922
  let c0_i32_544 : BitVec 32 := 0#32
  let v920 : BitVec 1 := Scalar.cmpi .ne v919 c0_i32_544
  let v924 : BitVec 1 := Scalar.andi v923 v920
  let v925 : BitVec 32 := Scalar.addi v919 v918
  let v926 : BitVec 32 := Scalar.select v924 v925 v919
  let c8_i32_549 : BitVec 32 := 8#32
  let v929 : BitVec 32 := Scalar.muli v926 c8_i32_549
  let v930 : BitVec 32 := Scalar.addi v929 c0_i32_550
  let c0_i32_585 : BitVec 32 := 0#32
  ![v2.toNat, 0, v930.toNat, 0]
def k0_off5 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c1_i32_591 : BitVec 32 := 1#32
  let c0_i32_592 : BitVec 32 := 0#32
  let c0_i32_593 : BitVec 32 := 0#32
  ![v928.toNat, 1, 0, 0]
def k0_off6 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c2_i32_601 : BitVec 32 := 2#32
  let c0_i32_602 : BitVec 32 := 0#32
  let c0_i32_603 : BitVec 32 := 0#32
  ![v928.toNat, 2, 0, 0]
def k0_off7 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c3_i32_611 : BitVec 32 := 3#32
  let c0_i32_612 : BitVec 32 := 0#32
  let c0_i32_613 : BitVec 32 := 0#32
  ![v928.toNat, 3, 0, 0]
def k0_off8 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c4_i32_621 : BitVec 32 := 4#32
  let c0_i32_622 : BitVec 32 := 0#32
  let c0_i32_623 : BitVec 32 := 0#32
  ![v928.toNat, 4, 0, 0]
def k0_off9 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c5_i32_631 : BitVec 32 := 5#32
  let c0_i32_632 : BitVec 32 := 0#32
  let c0_i32_633 : BitVec 32 := 0#32
  ![v928.toNat, 5, 0, 0]
def k0_off10 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c6_i32_641 : BitVec 32 := 6#32
  let c0_i32_642 : BitVec 32 := 0#32
  let c0_i32_643 : BitVec 32 := 0#32
  ![v928.toNat, 6, 0, 0]
def k0_off11 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c1_i32_547 : BitVec 32 := 1#32
  let v927 : BitVec 32 := Scalar.addi arg15 c1_i32_547
  let c2_i32_548 : BitVec 32 := 2#32
  let v928 : BitVec 32 := Scalar.remsi v927 c2_i32_548
  let c7_i32_651 : BitVec 32 := 7#32
  let c0_i32_652 : BitVec 32 := 0#32
  let c0_i32_653 : BitVec 32 := 0#32
  ![v928.toNat, 7, 0, 0]
def k0_cond2 (k0_t1 : Fin k0_t1_loop.trips) : BitVec 1 :=
  let c0_i32_192 : BitVec 32 := 0#32
  let c1_i32_194 : BitVec 32 := 1#32
  let arg15 : BitVec 32 := Scf.iv c0_i32_192 c1_i32_194 k0_t1
  let c0_i32_228 : BitVec 32 := 0#32
  let v271 : BitVec 1 := Scalar.cmpi .eq arg15 c0_i32_228
  let v272 : BitVec 32 := Scalar.extui v271
  let c0_i32_229 : BitVec 32 := 0#32
  let v273 : BitVec 1 := Scalar.cmpi .ne v272 c0_i32_229
  v273

def k0_off12 : Fin 3 → Nat :=
  let c0_i32_538 : BitVec 32 := 0#32
  let c1_i32_530 : BitVec 32 := 1#32
  let c2_i32_531 : BitVec 32 := 2#32
  let v892 : BitVec 32 := Scalar.remsi c1_i32_530 c2_i32_531
  let c0_i32_539 : BitVec 32 := 0#32
  ![0, v892.toNat, 0]
def k0_off13 (c1_i32_528 : BitVec 32) : Fin 5 → Nat :=
  let c0_i32_535 : BitVec 32 := 0#32
  let c2_i32_529 : BitVec 32 := 2#32
  let v891 : BitVec 32 := Scalar.remsi c1_i32_528 c2_i32_529
  let c0_i32_542 : BitVec 32 := 0#32
  let c0_i32_543 : BitVec 32 := 0#32
  let c0_i32_544 : BitVec 32 := 0#32
  ![0, v891.toNat, 0, 0, 0]
def k0_dev3 (d0 : Dev nD) : Nat :=
  let c0_i32_541 : BitVec 32 := 0#32
  let true_525 : BitVec 1 := 1#1
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let v889 : BitVec 32 := Scalar.select true_525 v7 v5
  let c1_i32_540 : BitVec 32 := 1#32
  let v894 : BitVec 32 := Scalar.muli v889 c1_i32_540
  let v895 : BitVec 32 := Scalar.addi c0_i32_541 v894
  v895.toNat
def k0_off14 : Fin 3 → Nat :=
  let c1_i32_560 : BitVec 32 := 1#32
  let c1_i32_552 : BitVec 32 := 1#32
  let c2_i32_553 : BitVec 32 := 2#32
  let v907 : BitVec 32 := Scalar.remsi c1_i32_552 c2_i32_553
  let c0_i32_561 : BitVec 32 := 0#32
  ![1, v907.toNat, 0]
def k0_off15 (c1_i32_550 : BitVec 32) : Fin 5 → Nat :=
  let c1_i32_557 : BitVec 32 := 1#32
  let c2_i32_551 : BitVec 32 := 2#32
  let v906 : BitVec 32 := Scalar.remsi c1_i32_550 c2_i32_551
  let c0_i32_564 : BitVec 32 := 0#32
  let c0_i32_565 : BitVec 32 := 0#32
  let c0_i32_566 : BitVec 32 := 0#32
  ![1, v906.toNat, 0, 0, 0]
def k0_dev4 (d0 : Dev nD) : Nat :=
  let c0_i32_563 : BitVec 32 := 0#32
  let v_false : BitVec 1 := 0#1
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let v904 : BitVec 32 := Scalar.select v_false v7 v5
  let c1_i32_562 : BitVec 32 := 1#32
  let v909 : BitVec 32 := Scalar.muli v904 c1_i32_562
  let v910 : BitVec 32 := Scalar.addi c0_i32_563 v909
  v910.toNat
def k0_off16 : Fin 3 → Nat :=
  let c0_i32_583 : BitVec 32 := 0#32
  let c1_i32_575 : BitVec 32 := 1#32
  let c2_i32_576 : BitVec 32 := 2#32
  let v922 : BitVec 32 := Scalar.remsi c1_i32_575 c2_i32_576
  let c1_i32_584 : BitVec 32 := 1#32
  ![0, v922.toNat, 1]
def k0_off17 (c1_i32_573 : BitVec 32) : Fin 5 → Nat :=
  let c0_i32_580 : BitVec 32 := 0#32
  let c2_i32_574 : BitVec 32 := 2#32
  let v921 : BitVec 32 := Scalar.remsi c1_i32_573 c2_i32_574
  let c0_i32_587 : BitVec 32 := 0#32
  let c512_i32 : BitVec 32 := 512#32
  let c0_i32_588 : BitVec 32 := 0#32
  ![0, v921.toNat, 0, 512, 0]
def k0_dev5 (d0 : Dev nD) : Nat :=
  let c0_i32_586 : BitVec 32 := 0#32
  let true_570 : BitVec 1 := 1#1
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let v919 : BitVec 32 := Scalar.select true_570 v7 v5
  let c1_i32_585 : BitVec 32 := 1#32
  let v924 : BitVec 32 := Scalar.muli v919 c1_i32_585
  let v925 : BitVec 32 := Scalar.addi c0_i32_586 v924
  v925.toNat
def k0_off18 : Fin 3 → Nat :=
  let c1_i32_605 : BitVec 32 := 1#32
  let c1_i32_597 : BitVec 32 := 1#32
  let c2_i32_598 : BitVec 32 := 2#32
  let v937 : BitVec 32 := Scalar.remsi c1_i32_597 c2_i32_598
  let c1_i32_606 : BitVec 32 := 1#32
  ![1, v937.toNat, 1]
def k0_off19 (c1_i32_595 : BitVec 32) : Fin 5 → Nat :=
  let c1_i32_602 : BitVec 32 := 1#32
  let c2_i32_596 : BitVec 32 := 2#32
  let v936 : BitVec 32 := Scalar.remsi c1_i32_595 c2_i32_596
  let c0_i32_609 : BitVec 32 := 0#32
  let c512_i32_610 : BitVec 32 := 512#32
  let c0_i32_611 : BitVec 32 := 0#32
  ![1, v936.toNat, 0, 512, 0]
def k0_dev6 (d0 : Dev nD) : Nat :=
  let c0_i32_608 : BitVec 32 := 0#32
  let false_592 : BitVec 1 := 0#1
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let v934 : BitVec 32 := Scalar.select false_592 v7 v5
  let c1_i32_607 : BitVec 32 := 1#32
  let v939 : BitVec 32 := Scalar.muli v934 c1_i32_607
  let v940 : BitVec 32 := Scalar.addi c0_i32_608 v939
  v940.toNat
def k0_cond3 (k0_t1 : Fin k0_t1_loop.trips) : BitVec 1 :=
  let c0_i32_192 : BitVec 32 := 0#32
  let c1_i32_194 : BitVec 32 := 1#32
  let arg15 : BitVec 32 := Scf.iv c0_i32_192 c1_i32_194 k0_t1
  let c1_i32_234 : BitVec 32 := 1#32
  let v282 : BitVec 1 := Scalar.cmpi .sge arg15 c1_i32_234
  let v283 : BitVec 32 := Scalar.extui v282
  let c0_i32_235 : BitVec 32 := 0#32
  let v284 : BitVec 1 := Scalar.cmpi .ne v283 c0_i32_235
  v284

def k0_off20 (k0_t1 : Fin k0_t1_loop.trips) : Fin 3 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c2_i32_529 : BitVec 32 := 2#32
  let v894 : BitVec 32 := Scalar.remsi v253 c2_i32_529
  let c0_i32_531 : BitVec 32 := 0#32
  ![v251.toNat, v894.toNat, 0]
def k0_off21 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_526 : BitVec 32 := 1#32
  let v891 : BitVec 32 := Scalar.addi v253 c1_i32_526
  let c2_i32_527 : BitVec 32 := 2#32
  let v892 : BitVec 32 := Scalar.remsi v891 c2_i32_527
  let c0_i32_534 : BitVec 32 := 0#32
  let c0_i32_535 : BitVec 32 := 0#32
  let c0_i32_536 : BitVec 32 := 0#32
  ![v251.toNat, v892.toNat, 0, 0, 0]
def k0_off22 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c2_i32_528 : BitVec 32 := 2#32
  let v893 : BitVec 32 := Scalar.remsi v253 c2_i32_528
  let c0_i32_537 : BitVec 32 := 0#32
  let c0_i32_538 : BitVec 32 := 0#32
  let c0_i32_539 : BitVec 32 := 0#32
  ![v251.toNat, v893.toNat, 0, 0, 0]
def k0_cond4 (k0_t1 : Fin k0_t1_loop.trips) : BitVec 1 :=
  let c0_i32_192 : BitVec 32 := 0#32
  let c1_i32_194 : BitVec 32 := 1#32
  let arg15 : BitVec 32 := Scf.iv c0_i32_192 c1_i32_194 k0_t1
  let c2_i32_224 : BitVec 32 := 2#32
  let v266 : BitVec 32 := Scalar.remsi arg15 c2_i32_224
  let c1_i32_225 : BitVec 32 := 1#32
  let v267 : BitVec 1 := Scalar.cmpi .eq v266 c1_i32_225
  let c7_i32_230 : BitVec 32 := 7#32
  let v274 : BitVec 1 := Scalar.cmpi .slt arg15 c7_i32_230
  let v275 : BitVec 1 := Scalar.andi v267 v274
  let true_231 : BitVec 1 := 1#1
  let v276 : BitVec 1 := Scalar.xori v267 true_231
  let c2_i32_232 : BitVec 32 := 2#32
  let v277 : BitVec 1 := Scalar.cmpi .sge arg15 c2_i32_232
  let v278 : BitVec 1 := Scalar.andi v276 v277
  let c4_i32_233 : BitVec 32 := 4#32
  let v279 : BitVec 1 := Scalar.cmpi .sle arg15 c4_i32_233
  let v280 : BitVec 1 := Scalar.andi v278 v279
  let v281 : BitVec 1 := Scalar.ori v275 v280
  let v285 : BitVec 32 := Scalar.extui v281
  let c0_i32_236 : BitVec 32 := 0#32
  let v286 : BitVec 1 := Scalar.cmpi .ne v285 c0_i32_236
  v286

def k0_off23 (k0_t1 : Fin k0_t1_loop.trips) : Fin 3 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_525 : BitVec 32 := 1#32
  let v889 : BitVec 32 := Scalar.subi v253 c1_i32_525
  let c0_i32_527 : BitVec 32 := 0#32
  ![v251.toNat, v889.toNat, 0]
def k0_dev7 (d0 : Dev nD) (k0_t1 : Fin k0_t1_loop.trips) : Nat :=
  let c0_i32_530 : BitVec 32 := 0#32
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c0_i32_526 : BitVec 32 := 0#32
  let v890 : BitVec 1 := Scalar.cmpi .eq v251 c0_i32_526
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3 : BitVec 32 := 1#32
  let v6 : BitVec 32 := Scalar.addi v2 c1_i32_3
  let c8_i32_4 : BitVec 32 := 8#32
  let v7 : BitVec 32 := Scalar.remsi v6 c8_i32_4
  let v891 : BitVec 32 := Scalar.select v890 v5 v7
  let c1_i32_529 : BitVec 32 := 1#32
  let v894 : BitVec 32 := Scalar.muli v891 c1_i32_529
  let v895 : BitVec 32 := Scalar.addi c0_i32_530 v894
  v895.toNat
def k0_off24 (k0_t1 : Fin k0_t1_loop.trips) : Fin 3 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_535 : BitVec 32 := 1#32
  let v899 : BitVec 32 := Scalar.addi v253 c1_i32_535
  let c2_i32_540 : BitVec 32 := 2#32
  let v905 : BitVec 32 := Scalar.remsi v899 c2_i32_540
  let c0_i32_543 : BitVec 32 := 0#32
  ![v251.toNat, v905.toNat, 0]
def k0_off25 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_535 : BitVec 32 := 1#32
  let v899 : BitVec 32 := Scalar.addi v253 c1_i32_535
  let c2_i32_539 : BitVec 32 := 2#32
  let v904 : BitVec 32 := Scalar.remsi v899 c2_i32_539
  let c0_i32_546 : BitVec 32 := 0#32
  let c0_i32_547 : BitVec 32 := 0#32
  let c0_i32_548 : BitVec 32 := 0#32
  ![v251.toNat, v904.toNat, 0, 0, 0]
def k0_off26 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_535 : BitVec 32 := 1#32
  let v899 : BitVec 32 := Scalar.addi v253 c1_i32_535
  let c1_i32_537 : BitVec 32 := 1#32
  let v902 : BitVec 32 := Scalar.addi v899 c1_i32_537
  let c2_i32_538 : BitVec 32 := 2#32
  let v903 : BitVec 32 := Scalar.remsi v902 c2_i32_538
  let c0_i32_549 : BitVec 32 := 0#32
  let c0_i32_550 : BitVec 32 := 0#32
  let c0_i32_551 : BitVec 32 := 0#32
  ![v251.toNat, v903.toNat, 0, 0, 0]
def k0_dev8 (d0 : Dev nD) (k0_t1 : Fin k0_t1_loop.trips) : Nat :=
  let c0_i32_545 : BitVec 32 := 0#32
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c0_i32_536 : BitVec 32 := 0#32
  let v900 : BitVec 1 := Scalar.cmpi .eq v251 c0_i32_536
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let v901 : BitVec 32 := Scalar.select v900 v7 v5
  let c1_i32_544 : BitVec 32 := 1#32
  let v907 : BitVec 32 := Scalar.muli v901 c1_i32_544
  let v908 : BitVec 32 := Scalar.addi c0_i32_545 v907
  v908.toNat
def k0_cond5 (k0_t1 : Fin k0_t1_loop.trips) : BitVec 1 :=
  let c0_i32_192 : BitVec 32 := 0#32
  let c1_i32_194 : BitVec 32 := 1#32
  let arg15 : BitVec 32 := Scf.iv c0_i32_192 c1_i32_194 k0_t1
  let c1_i32_237 : BitVec 32 := 1#32
  let v287 : BitVec 1 := Scalar.cmpi .sge arg15 c1_i32_237
  let v288 : BitVec 32 := Scalar.extui v287
  let c0_i32_238 : BitVec 32 := 0#32
  let v289 : BitVec 1 := Scalar.cmpi .ne v288 c0_i32_238
  v289

def k0_off27 (k0_t1 : Fin k0_t1_loop.trips) : Fin 3 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c2_i32_529 : BitVec 32 := 2#32
  let v894 : BitVec 32 := Scalar.remsi v253 c2_i32_529
  let c1_i32_531 : BitVec 32 := 1#32
  ![v251.toNat, v894.toNat, 1]
def k0_off28 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_526 : BitVec 32 := 1#32
  let v891 : BitVec 32 := Scalar.addi v253 c1_i32_526
  let c2_i32_527 : BitVec 32 := 2#32
  let v892 : BitVec 32 := Scalar.remsi v891 c2_i32_527
  let c0_i32_534 : BitVec 32 := 0#32
  let c512_i32 : BitVec 32 := 512#32
  let c0_i32_535 : BitVec 32 := 0#32
  ![v251.toNat, v892.toNat, 0, 512, 0]
def k0_off29 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c2_i32_528 : BitVec 32 := 2#32
  let v893 : BitVec 32 := Scalar.remsi v253 c2_i32_528
  let c0_i32_536 : BitVec 32 := 0#32
  let c512_i32_537 : BitVec 32 := 512#32
  let c0_i32_538 : BitVec 32 := 0#32
  ![v251.toNat, v893.toNat, 0, 512, 0]
def k0_cond6 (k0_t1 : Fin k0_t1_loop.trips) : BitVec 1 :=
  let c0_i32_192 : BitVec 32 := 0#32
  let c1_i32_194 : BitVec 32 := 1#32
  let arg15 : BitVec 32 := Scf.iv c0_i32_192 c1_i32_194 k0_t1
  let c2_i32_224 : BitVec 32 := 2#32
  let v266 : BitVec 32 := Scalar.remsi arg15 c2_i32_224
  let c1_i32_225 : BitVec 32 := 1#32
  let v267 : BitVec 1 := Scalar.cmpi .eq v266 c1_i32_225
  let c7_i32_230 : BitVec 32 := 7#32
  let v274 : BitVec 1 := Scalar.cmpi .slt arg15 c7_i32_230
  let v275 : BitVec 1 := Scalar.andi v267 v274
  let true_231 : BitVec 1 := 1#1
  let v276 : BitVec 1 := Scalar.xori v267 true_231
  let c2_i32_232 : BitVec 32 := 2#32
  let v277 : BitVec 1 := Scalar.cmpi .sge arg15 c2_i32_232
  let v278 : BitVec 1 := Scalar.andi v276 v277
  let c4_i32_233 : BitVec 32 := 4#32
  let v279 : BitVec 1 := Scalar.cmpi .sle arg15 c4_i32_233
  let v280 : BitVec 1 := Scalar.andi v278 v279
  let v281 : BitVec 1 := Scalar.ori v275 v280
  let v290 : BitVec 32 := Scalar.extui v281
  let c0_i32_239 : BitVec 32 := 0#32
  let v291 : BitVec 1 := Scalar.cmpi .ne v290 c0_i32_239
  v291

def k0_off30 (k0_t1 : Fin k0_t1_loop.trips) : Fin 3 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_525 : BitVec 32 := 1#32
  let v889 : BitVec 32 := Scalar.subi v253 c1_i32_525
  let c1_i32_527 : BitVec 32 := 1#32
  ![v251.toNat, v889.toNat, 1]
def k0_dev9 (d0 : Dev nD) (k0_t1 : Fin k0_t1_loop.trips) : Nat :=
  let c0_i32_530 : BitVec 32 := 0#32
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c0_i32_526 : BitVec 32 := 0#32
  let v890 : BitVec 1 := Scalar.cmpi .eq v251 c0_i32_526
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3 : BitVec 32 := 1#32
  let v6 : BitVec 32 := Scalar.addi v2 c1_i32_3
  let c8_i32_4 : BitVec 32 := 8#32
  let v7 : BitVec 32 := Scalar.remsi v6 c8_i32_4
  let v891 : BitVec 32 := Scalar.select v890 v5 v7
  let c1_i32_529 : BitVec 32 := 1#32
  let v894 : BitVec 32 := Scalar.muli v891 c1_i32_529
  let v895 : BitVec 32 := Scalar.addi c0_i32_530 v894
  v895.toNat
def k0_off31 (k0_t1 : Fin k0_t1_loop.trips) : Fin 3 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_535 : BitVec 32 := 1#32
  let v899 : BitVec 32 := Scalar.addi v253 c1_i32_535
  let c2_i32_540 : BitVec 32 := 2#32
  let v905 : BitVec 32 := Scalar.remsi v899 c2_i32_540
  let c1_i32_543 : BitVec 32 := 1#32
  ![v251.toNat, v905.toNat, 1]
def k0_off32 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_535 : BitVec 32 := 1#32
  let v899 : BitVec 32 := Scalar.addi v253 c1_i32_535
  let c2_i32_539 : BitVec 32 := 2#32
  let v904 : BitVec 32 := Scalar.remsi v899 c2_i32_539
  let c0_i32_546 : BitVec 32 := 0#32
  let c512_i32 : BitVec 32 := 512#32
  let c0_i32_547 : BitVec 32 := 0#32
  ![v251.toNat, v904.toNat, 0, 512, 0]
def k0_off33 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c1_i32_535 : BitVec 32 := 1#32
  let v899 : BitVec 32 := Scalar.addi v253 c1_i32_535
  let c1_i32_537 : BitVec 32 := 1#32
  let v902 : BitVec 32 := Scalar.addi v899 c1_i32_537
  let c2_i32_538 : BitVec 32 := 2#32
  let v903 : BitVec 32 := Scalar.remsi v902 c2_i32_538
  let c0_i32_548 : BitVec 32 := 0#32
  let c512_i32_549 : BitVec 32 := 512#32
  let c0_i32_550 : BitVec 32 := 0#32
  ![v251.toNat, v903.toNat, 0, 512, 0]
def k0_dev10 (d0 : Dev nD) (k0_t1 : Fin k0_t1_loop.trips) : Nat :=
  let c0_i32_545 : BitVec 32 := 0#32
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let c0_i32_536 : BitVec 32 := 0#32
  let v900 : BitVec 1 := Scalar.cmpi .eq v251 c0_i32_536
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let v901 : BitVec 32 := Scalar.select v900 v7 v5
  let c1_i32_544 : BitVec 32 := 1#32
  let v907 : BitVec 32 := Scalar.muli v901 c1_i32_544
  let v908 : BitVec 32 := Scalar.addi c0_i32_545 v907
  v908.toNat
def k0_off34 (k0_t1 : Fin k0_t1_loop.trips) : Fin 1 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  ![v292.toNat]
def k0_off35 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c0_i32_273 : BitVec 32 := 0#32
  let c0_i32_274 : BitVec 32 := 0#32
  let c0_i32_275 : BitVec 32 := 0#32
  ![v292.toNat, 0, 0, 0]
def k0_off36 (d0 : Dev nD) (k0_t1 : Fin k0_t1_loop.trips) (c0_i32_242 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  let c0_i32_192 : BitVec 32 := 0#32
  let c1_i32_194 : BitVec 32 := 1#32
  let arg15 : BitVec 32 := Scf.iv c0_i32_192 c1_i32_194 k0_t1
  let c0_i32_206 : BitVec 32 := 0#32
  let v241 : BitVec 1 := Scalar.cmpi .eq arg15 c0_i32_206
  let c0_i32_210 : BitVec 32 := 0#32
  let c7_i32_207 : BitVec 32 := 7#32
  let v242 : BitVec 1 := Scalar.cmpi .eq arg15 c7_i32_207
  let c4_i32_209 : BitVec 32 := 4#32
  let c2_i32_204 : BitVec 32 := 2#32
  let v239 : BitVec 32 := Scalar.remsi arg15 c2_i32_204
  let c1_i32_205 : BitVec 32 := 1#32
  let v240 : BitVec 1 := Scalar.cmpi .eq v239 c1_i32_205
  let c0_i32_208 : BitVec 32 := 0#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v243 : BitVec 32 := Scalar.subi c0_i32_208 v238
  let v244 : BitVec 32 := Scalar.select v240 v243 v238
  let v245 : BitVec 32 := Scalar.select v242 c4_i32_209 v244
  let v246 : BitVec 32 := Scalar.select v241 c0_i32_210 v245
  let v254 : BitVec 32 := Scalar.addi v2 v246
  let c8_i32_217 : BitVec 32 := 8#32
  let c0_i32_218 : BitVec 32 := 0#32
  let v255 : BitVec 1 := Scalar.cmpi .eq c8_i32_217 c0_i32_218
  let c1_i32_219 : BitVec 32 := 1#32
  let v256 : BitVec 32 := Scalar.select v255 c1_i32_219 c8_i32_217
  let v257 : BitVec 32 := Scalar.remsi v254 v256
  let c0_i32_221 : BitVec 32 := 0#32
  let v259 : BitVec 1 := Scalar.cmpi .slt v257 c0_i32_221
  let c0_i32_222 : BitVec 32 := 0#32
  let v260 : BitVec 1 := Scalar.cmpi .slt v256 c0_i32_222
  let v261 : BitVec 1 := Scalar.xori v259 v260
  let c0_i32_220 : BitVec 32 := 0#32
  let v258 : BitVec 1 := Scalar.cmpi .ne v257 c0_i32_220
  let v262 : BitVec 1 := Scalar.andi v261 v258
  let v263 : BitVec 32 := Scalar.addi v257 v256
  let v264 : BitVec 32 := Scalar.select v262 v263 v257
  let c8_i32_241 : BitVec 32 := 8#32
  let v293 : BitVec 32 := Scalar.muli v264 c8_i32_241
  let v294 : BitVec 32 := Scalar.addi v293 c0_i32_242
  let c0_i32_277 : BitVec 32 := 0#32
  ![v2.toNat, 0, v294.toNat, 0]
def k0_off37 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c1_i32_283 : BitVec 32 := 1#32
  let c0_i32_284 : BitVec 32 := 0#32
  let c0_i32_285 : BitVec 32 := 0#32
  ![v292.toNat, 1, 0, 0]
def k0_off38 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c2_i32_293 : BitVec 32 := 2#32
  let c0_i32_294 : BitVec 32 := 0#32
  let c0_i32_295 : BitVec 32 := 0#32
  ![v292.toNat, 2, 0, 0]
def k0_off39 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c3_i32_303 : BitVec 32 := 3#32
  let c0_i32_304 : BitVec 32 := 0#32
  let c0_i32_305 : BitVec 32 := 0#32
  ![v292.toNat, 3, 0, 0]
def k0_off40 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c4_i32_313 : BitVec 32 := 4#32
  let c0_i32_314 : BitVec 32 := 0#32
  let c0_i32_315 : BitVec 32 := 0#32
  ![v292.toNat, 4, 0, 0]
def k0_off41 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c5_i32_323 : BitVec 32 := 5#32
  let c0_i32_324 : BitVec 32 := 0#32
  let c0_i32_325 : BitVec 32 := 0#32
  ![v292.toNat, 5, 0, 0]
def k0_off42 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c6_i32_333 : BitVec 32 := 6#32
  let c0_i32_334 : BitVec 32 := 0#32
  let c0_i32_335 : BitVec 32 := 0#32
  ![v292.toNat, 6, 0, 0]
def k0_off43 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let c7_i32_343 : BitVec 32 := 7#32
  let c0_i32_344 : BitVec 32 := 0#32
  let c0_i32_345 : BitVec 32 := 0#32
  ![v292.toNat, 7, 0, 0]
def k0_off44 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let v421 : Index := Scalar.indexCast v251
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c2_i32_223 : BitVec 32 := 2#32
  let v265 : BitVec 32 := Scalar.remsi v253 c2_i32_223
  let v422 : Index := Scalar.indexCast v265
  let c0_353 : Index := 0#32
  let c0_354 : Index := 0#32
  let c0_355 : Index := 0#32
  ![v421.toNat, v422.toNat, 0, 0, 0]
def k0_off45 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v430 : Index := Scalar.indexCast v292
  let c0_358 : Index := 0#32
  let c0_359 : Index := 0#32
  let c0_360 : Index := 0#32
  ![v430.toNat, 0, 0, 0]
def k0_off46 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v486 : Index := Scalar.indexCast v292
  let c1_378 : Index := 1#32
  let c0_379 : Index := 0#32
  let c0_380 : Index := 0#32
  ![v486.toNat, 1, 0, 0]
def k0_off47 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v542 : Index := Scalar.indexCast v292
  let c2 : Index := 2#32
  let c0_398 : Index := 0#32
  let c0_399 : Index := 0#32
  ![v542.toNat, 2, 0, 0]
def k0_off48 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v598 : Index := Scalar.indexCast v292
  let c3 : Index := 3#32
  let c0_417 : Index := 0#32
  let c0_418 : Index := 0#32
  ![v598.toNat, 3, 0, 0]
def k0_off49 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v654 : Index := Scalar.indexCast v292
  let c4 : Index := 4#32
  let c0_436 : Index := 0#32
  let c0_437 : Index := 0#32
  ![v654.toNat, 4, 0, 0]
def k0_off50 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v710 : Index := Scalar.indexCast v292
  let c5 : Index := 5#32
  let c0_456 : Index := 0#32
  let c0_457 : Index := 0#32
  ![v710.toNat, 5, 0, 0]
def k0_off51 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v766 : Index := Scalar.indexCast v292
  let c6 : Index := 6#32
  let c0_475 : Index := 0#32
  let c0_476 : Index := 0#32
  ![v766.toNat, 6, 0, 0]
def k0_off52 (k0_t1 : Fin k0_t1_loop.trips) : Fin 4 → Nat :=
  let c0_i32_192 : BitVec 32 := 0#32
  let c1_i32_194 : BitVec 32 := 1#32
  let arg15 : BitVec 32 := Scf.iv c0_i32_192 c1_i32_194 k0_t1
  let c2_i32_240 : BitVec 32 := 2#32
  let v292 : BitVec 32 := Scalar.remsi arg15 c2_i32_240
  let v822 : Index := Scalar.indexCast v292
  let c7 : Index := 7#32
  let c0_494 : Index := 0#32
  let c0_495 : Index := 0#32
  ![v822.toNat, 7, 0, 0]
def k0_off53 (k0_t1 : Fin k0_t1_loop.trips) : Fin 5 → Nat :=
  let c0_i32_192 : BitVec 32 := 0#32
  let c1_i32_194 : BitVec 32 := 1#32
  let arg15 : BitVec 32 := Scf.iv c0_i32_192 c1_i32_194 k0_t1
  let c0_i32_211 : BitVec 32 := 0#32
  let v247 : BitVec 1 := Scalar.cmpi .eq arg15 c0_i32_211
  let c7_i32_212 : BitVec 32 := 7#32
  let v248 : BitVec 1 := Scalar.cmpi .eq arg15 c7_i32_212
  let v249 : BitVec 1 := Scalar.ori v247 v248
  let c2_i32_204 : BitVec 32 := 2#32
  let v239 : BitVec 32 := Scalar.remsi arg15 c2_i32_204
  let c1_i32_205 : BitVec 32 := 1#32
  let v240 : BitVec 1 := Scalar.cmpi .eq v239 c1_i32_205
  let v250 : BitVec 1 := Scalar.ori v249 v240
  let c0_i32_213 : BitVec 32 := 0#32
  let c1_i32_214 : BitVec 32 := 1#32
  let v251 : BitVec 32 := Scalar.select v250 c0_i32_213 c1_i32_214
  let v880 : Index := Scalar.indexCast v251
  let c7_i32_215 : BitVec 32 := 7#32
  let v252 : BitVec 1 := Scalar.cmpi .eq arg15 c7_i32_215
  let c4_i32_216 : BitVec 32 := 4#32
  let c1_i32_196 : BitVec 32 := 1#32
  let v221 : BitVec 32 := Scalar.addi arg15 c1_i32_196
  let c0_i32_198 : BitVec 32 := 0#32
  let v223 : BitVec 1 := Scalar.cmpi .sgt v221 c0_i32_198
  let v224 : BitVec 32 := Scalar.extui v223
  let c0_i32_199 : BitVec 32 := 0#32
  let v225 : BitVec 1 := Scalar.cmpi .slt v221 c0_i32_199
  let v226 : BitVec 32 := Scalar.extui v225
  let v227 : BitVec 32 := Scalar.subi v224 v226
  let c2_i32_197 : BitVec 32 := 2#32
  let c0_i32_200 : BitVec 32 := 0#32
  let v228 : BitVec 1 := Scalar.cmpi .sgt c2_i32_197 c0_i32_200
  let v229 : BitVec 32 := Scalar.extui v228
  let c0_i32_201 : BitVec 32 := 0#32
  let v230 : BitVec 1 := Scalar.cmpi .slt c2_i32_197 c0_i32_201
  let v231 : BitVec 32 := Scalar.extui v230
  let v232 : BitVec 32 := Scalar.subi v229 v231
  let v233 : BitVec 1 := Scalar.cmpi .ne v227 v232
  let v234 : BitVec 32 := Scalar.remsi v221 c2_i32_197
  let c0_i32_202 : BitVec 32 := 0#32
  let v235 : BitVec 1 := Scalar.cmpi .ne v234 c0_i32_202
  let v236 : BitVec 1 := Scalar.andi v233 v235
  let v222 : BitVec 32 := Scalar.divsi v221 c2_i32_197
  let c1_i32_203 : BitVec 32 := 1#32
  let v237 : BitVec 32 := Scalar.subi v222 c1_i32_203
  let v238 : BitVec 32 := Scalar.select v236 v237 v222
  let v253 : BitVec 32 := Scalar.select v252 c4_i32_216 v238
  let c2_i32_223 : BitVec 32 := 2#32
  let v265 : BitVec 32 := Scalar.remsi v253 c2_i32_223
  let v881 : Index := Scalar.indexCast v265
  let c1_518 : Index := 1#32
  let c0_519 : Index := 0#32
  let c0_520 : Index := 0#32
  ![v880.toNat, v881.toNat, 1, 0, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S8x1024x8192 : Shape := ⟨3, ![8, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S8x64x1024x1024 : Shape := ⟨4, ![8, 64, 1024, 1024]⟩
abbrev S1x1x1024x1024 : Shape := ⟨4, ![1, 1, 1024, 1024]⟩
abbrev S8x64x1024 : Shape := ⟨3, ![8, 64, 1024]⟩
abbrev S8x64x1024x1 : Shape := ⟨4, ![8, 64, 1024, 1]⟩
abbrev S1x1x1024x1 : Shape := ⟨4, ![1, 1, 1024, 1]⟩
abbrev S8x64x128x1024 : Shape := ⟨4, ![8, 64, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x8192, .f32⟩
  | .hbm, ⟨2, _⟩ => ⟨S8x1024x64x128, .f32⟩
  | .hbm, ⟨3, _⟩ => ⟨S8x1024x64x128, .f32⟩
  | .hbm, ⟨4, _⟩ => ⟨S8192x1024, .f32⟩
  | .hbm, ⟨5, _⟩ => ⟨S8x1024x8192, .f32⟩
  | .hbm, ⟨6, _⟩ => ⟨S8x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S8x64x1024x1024, .f32⟩
  | .hbm, ⟨51, _⟩ => ⟨S_, .f32⟩
  | .hbm, ⟨52, _⟩ => ⟨S8x64x1024x1024, .f32⟩
  | .hbm, ⟨53, _⟩ => ⟨S8x64x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S8x64x1024x1024, .i1⟩
  | .hbm, ⟨58, _⟩ => ⟨S8x64x1024x1024, .f32⟩
  | .hbm, ⟨59, _⟩ => ⟨S8x64x1024x1024, .f32⟩
  | .hbm, ⟨60, _⟩ => ⟨S_, .f32⟩
  | .hbm, ⟨61, _⟩ => ⟨S8x64x1024, .f32⟩
  | .hbm, ⟨62, _⟩ => ⟨S8x64x1024x1, .f32⟩
  | .hbm, ⟨63, _⟩ => ⟨S8x64x1024x1024, .f32⟩
  | .hbm, ⟨64, _⟩ => ⟨S8x64x1024x1024, .f32⟩
  | .hbm, ⟨65, _⟩ => ⟨S8x64x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S8x64x1024, .f32⟩
  | .hbm, ⟨71, _⟩ => ⟨S8x64x1024x1, .f32⟩
  | .hbm, ⟨72, _⟩ => ⟨S_, .f32⟩
  | .hbm, ⟨73, _⟩ => ⟨S_, .f32⟩
  | .hbm, ⟨74, _⟩ => ⟨S8x64x1024x1, .i1⟩
  | .hbm, ⟨75, _⟩ => ⟨S8x64x1024x1, .f32⟩
  | .hbm, ⟨76, _⟩ => ⟨S8x64x1024x1, .f32⟩
  | .hbm, ⟨77, _⟩ => ⟨S8x64x1024x1024, .f32⟩
  | .hbm, ⟨78, _⟩ => ⟨S8x64x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S8x64x1024x1024, .i1⟩
  | .hbm, ⟨83, _⟩ => ⟨S8x64x1024x1024, .f32⟩
  | .hbm, ⟨84, _⟩ => ⟨S8x64x1024x1024, .f32⟩
  | .hbm, ⟨85, _⟩ => ⟨S8x64x128x1024, .f32⟩
  | .hbm, ⟨86, _⟩ => ⟨S8x1024x64x128, .f32⟩
  | .hbm, ⟨87, _⟩ => ⟨S8x1024x8192, .f32⟩
  | .hbm, ⟨88, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelRun.Same.lean ====
/-
The printed kernel and its idealized copy are one program, over any float type whose named
constants mean the bits they stand for.
-/
module

public import proofs.«01_k».proof.Proof.Gen.Kernel
public import proofs.«01_k».proof.Proof.Gen.KernelIdeal

@[expose] public section

namespace Cert.KernelRun
open Idealize.ShloMosaic
variable {F : FTy → Type} [FloatOps F]

@[reducible] def plainNamed : Named F := ⟨fun _ _ {φ} bits => Scalar.ofBits φ bits⟩

attribute [local instance] Cert.Kernel.Gen.facts Cert.KernelIdeal.Gen.facts plainNamed
theorem cc0_eq : Cert.KernelIdeal.cc0_body (F := F) = Cert.Kernel.cc0_body (F := F) := rfl
theorem defs0_eq : Cert.KernelIdeal.defs₀ (F := F) = Cert.Kernel.defs₀ (F := F) := by
  unfold Cert.KernelIdeal.defs₀ Cert.Kernel.defs₀
  refine congrArg Defs.onTc (funext fun l => funext fun a => ?_)
  match l, a with
  | ⟨0, _⟩, (t, s) => rfl

theorem defs_eq : Cert.KernelIdeal.defs (F := F) = Cert.Kernel.defs (F := F) :=
  (congrArg (Pipeline.defs Cert.KernelIdeal.pcfgs) defs0_eq).trans rfl

end Cert.KernelRun
-- ==== Proof.KernelIdealRun.Cells.lean ====
/-
The ring of eight devices, the kernel's semaphore cells and the views its copies run through.

The weights travel both ways round the ring. Way `0` sends to the device after (`+1`), way `1` to the device before
(`+7`); a transfer is one HALF of a two-slot buffer, so the four (way, half) pairs are four independent chains.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL.Sem

/-! ## The ring -/

set_option backward.proofsInPublic true in
/-- The device a transfer of way `d` goes to. -/
def dn (d : Fin 2) (c : Dev nD) : Dev nD := ⟨(c.val + (if d = 0 then 1 else 7)) % 8, Nat.mod_lt _ (by decide)⟩
set_option backward.proofsInPublic true in
/-- The device a transfer of way `d` comes from. -/
def up (d : Fin 2) (c : Dev nD) : Dev nD := ⟨(c.val + (if d = 0 then 7 else 1)) % 8, Nat.mod_lt _ (by decide)⟩
set_option backward.proofsInPublic true in
/-- The device whose weights way `d` has brought to `c` after `p` hops. -/
def src (d : Fin 2) (p : ℕ) (c : Dev nD) : Dev nD := ⟨(c.val + (if d = 0 then 7 else 1) * p) % 8, Nat.mod_lt _ (by decide)⟩

theorem dn_up (d : Fin 2) (c : Dev nD) : dn d (up d c) = c := by revert d c; decide
theorem up_dn (d : Fin 2) (c : Dev nD) : up d (dn d c) = c := by revert d c; decide
theorem src_zero (d : Fin 2) (c : Dev nD) : src d 0 c = c := by revert d c; decide
theorem src_succ_dn (d : Fin 2) (p : ℕ) (c : Dev nD) : src d (p + 1) (dn d c) = src d p c := by
  apply Fin.ext; simp only [src, dn]; split <;> omega

def ringE (d : Fin 2) : Dev nD ≃ Dev nD := ⟨dn d, up d, up_dn d, dn_up d⟩

/-- The number of hops way `d` makes. -/
def last (d : Fin 2) : ℕ := if d = 0 then 4 else 3

/-- The way step `t` handles, and the position of it. -/
def dirT (t : ℕ) : Fin 2 := if (t = 0 ∨ t = 7) ∨ t % 2 = 1 then 0 else 1
def posT (t : ℕ) : ℕ := if t = 7 then 4 else (t + 1) / 2
/-- The step that handles position `q` of way `d`. -/
def stepT (d : Fin 2) (q : ℕ) : ℕ := if d = 0 then 2 * q - 1 else 2 * q
/-- The position of way `d` to be handled next before step `t` (`0`: no hop has been started). -/
def nextP (d : Fin 2) (t : ℕ) : ℕ := if t = 0 then 0 else if d = 0 then t / 2 + 1 else (t + 1) / 2

set_option backward.proofsInPublic true in
/-- The group of heads device `c` works on at step `t`: the device its weights come from. -/
def grp (c : Dev nD) (t : ℕ) : Dev nD := src (dirT t) (posT t) c

set_option backward.proofsInPublic true in
/-- The slot of a position. -/
def sl (p : ℕ) : Fin 2 := ⟨p % 2, Nat.mod_lt _ (by decide)⟩
set_option backward.proofsInPublic true in
/-- The index of the free cell of position `p`. -/
def fi (p : ℕ) : Fin 3 := ⟨(p - 1) % 3, Nat.mod_lt _ (by decide)⟩

/-! ## The cells -/

/-- The kernel's own semaphores: a send and a receive semaphore per way, slot and half; one per slot for the key and the
    value copies; the free semaphores per way, position and half. -/
inductive Ok
  | snd (d s h : Fin 2) | rcv (d s h : Fin 2) | kc (s : Fin 2) | vc (s : Fin 2) | fr (d : Fin 2) (p : Fin 3) (h : Fin 2)
  deriving DecidableEq, Fintype

set_option backward.proofsInPublic true in
abbrev sndS (d s h : Fin 2) : DmaSem sig := ⟨4 + (4 * d.val + 2 * s.val + h.val), by show _ < 24; omega⟩
set_option backward.proofsInPublic true in
abbrev rcvS (d s h : Fin 2) : DmaSem sig := ⟨12 + (4 * d.val + 2 * s.val + h.val), by show _ < 24; omega⟩
set_option backward.proofsInPublic true in
abbrev kcS (s : Fin 2) : DmaSem sig := ⟨20 + s.val, by show _ < 24; omega⟩
set_option backward.proofsInPublic true in
abbrev vcS (s : Fin 2) : DmaSem sig := ⟨22 + s.val, by show _ < 24; omega⟩
set_option backward.proofsInPublic true in
abbrev frS (d : Fin 2) (p : Fin 3) (h : Fin 2) : Sem sig := ⟨6 * d.val + 2 * p.val + h.val, by show _ < 13; omega⟩
abbrev barS : Sem sig := (SemArray.scalar (sig.barrier 0 rfl) : Sems sig S_).sem

abbrev osem : Ok → SemLoc sig
  | .snd d s h => .dma (sndS d s h)
  | .rcv d s h => .dma (rcvS d s h)
  | .kc s => .dma (kcS s)
  | .vc s => .dma (vcS s)
  | .fr d p h => .reg (frS d p h)

/-- All the cells: the runtime's barrier (`none`) and the own ones. -/
abbrev Kd : Type := Option Ok
abbrev csem : Kd → SemLoc sig
  | none => .reg barS
  | some k => osem k

theorem csem_inj : Function.Injective csem := by decide

theorem ownSemFacts : Pipeline.OwnSemFacts cfg0.spec osem := by decide

abbrev cell (c : Dev nD) (k : Kd) : GSem nD τ sig := ((c : Thread nD τ), csem k)
abbrev kcell (ck : Dev nD × Kd) : GSem nD τ sig := cell ck.1 ck.2

/-- Which of the cells a semaphore is. -/
def kdOf (s : SemLoc sig) : Option Kd := if h : ∃ k, csem k = s then some h.choose else none
theorem kdOf_csem (k : Kd) : kdOf (csem k) = some k := by
  have h : ∃ k', csem k' = csem k := ⟨k, rfl⟩
  unfold kdOf; rw [dif_pos h, csem_inj h.choose_spec]
theorem kdOf_some {s : SemLoc sig} {k : Kd} (h : kdOf s = some k) : s = csem k := by
  unfold kdOf at h
  split at h
  · rename_i h'; cases h; exact h'.choose_spec.symm
  · cases h

theorem kcell_inj : Function.Injective (kcell : Dev nD × Kd → GSem nD τ sig) := fun a b h => by
  have h1 : a.1 = b.1 := congrArg (fun g : GSem nD τ sig => g.1.1) h
  have h2 : csem a.2 = csem b.2 := congrArg Prod.snd h
  exact Prod.ext h1 (csem_inj h2)

theorem cell_eq_iff {c c' : Dev nD} {k k' : Kd} : cell c k = cell c' k' ↔ c = c' ∧ k = k' :=
  ⟨fun h => by have := kcell_inj (a₁ := (c, k)) (a₂ := (c', k')) h; exact ⟨congrArg Prod.fst this, congrArg Prod.snd this⟩,
   fun h => by rw [h.1, h.2]⟩

/-! ## The views -/

abbrev commM : Memref sig .tc .vmem S2x2x2x1024x1024 .bf16 := Memref.whole cc0_scratch0
abbrev kbM : Memref sig .tc .vmem S2x8x1024x128 .f32 := Memref.whole cc0_scratch1
abbrev vbM : Memref sig .tc .vmem S2x8x1024x128 .f32 := Memref.whole cc0_scratch2
abbrev ctxM : Memref sig .tc .vmem S1024x1024 .bf16 := Memref.whole cc0_scratch3
abbrev KM : Memref sig .tc .hbm S8x1024x64x128 .f32 := Memref.whole main_arg2
abbrev VM : Memref sig .tc .hbm S8x1024x64x128 .f32 := Memref.whole main_arg3

theorem comm_inb (d s h : Fin 2) : ∀ a, (![d.val, s.val, 0, 512 * h.val, 0] : Fin 5 → ℕ) a + S1x1x2x512x1024.size a ≤ S2x2x2x1024x1024.size a := by
  revert d s h; decide
theorem kb_inb (s : Fin 2) (hh : Fin 8) : ∀ a, (![s.val, hh.val, 0, 0] : Fin 4 → ℕ) a + S1x1x1024x128.size a ≤ S2x8x1024x128.size a := by
  revert s hh; decide
theorem hd_inb (b g hh : Fin 8) : ∀ a, (![b.val, 0, 8 * g.val + hh.val, 0] : Fin 4 → ℕ) a + S1x1024x1x128.size a ≤ S8x1024x64x128.size a := by
  revert b g hh; decide +kernel

abbrev commR (d s h : Fin 2) : Rect S2x2x2x1024x1024 := Rect.unit ![d.val, s.val, 0, 512 * h.val, 0] S1x1x2x512x1024.size (comm_inb d s h)
abbrev kbR (s : Fin 2) (hh : Fin 8) : Rect S2x8x1024x128 := Rect.unit ![s.val, hh.val, 0, 0] S1x1x1024x128.size (kb_inb s hh)
abbrev hdR (b g hh : Fin 8) : Rect S8x1024x64x128 := Rect.unit ![b.val, 0, 8 * g.val + hh.val, 0] S1x1024x1x128.size (hd_inb b g hh)

/-- Half `h` of slot `s` of way `d` of the travelling buffer; -/
abbrev commV (d s h : Fin 2) : Memref sig .tc .vmem S2x512x1024 .bf16 :=
  ((commM).slice (commR d s h) (fun _ => rfl)).squeeze S2x512x1024 squeezes_S1x1x2x512x1024_S2x512x1024
/-- head `hh` of slot `s` of the key (value) buffer; -/
abbrev kbV (s : Fin 2) (hh : Fin 8) : Memref sig .tc .vmem S1024x128 .f32 :=
  ((kbM).slice (kbR s hh) (fun _ => rfl)).squeeze S1024x128 squeezes_S1x1x1024x128_S1024x128
abbrev vbV (s : Fin 2) (hh : Fin 8) : Memref sig .tc .vmem S1024x128 .f32 :=
  ((vbM).slice (kbR s hh) (fun _ => rfl)).squeeze S1024x128 squeezes_S1x1x1024x128_S1024x128
/-- head `hh` of group `g` of the keys (values) of batch `b`. -/
abbrev khV (b g hh : Fin 8) : Memref sig .tc .hbm S1024x128 .f32 :=
  ((KM).slice (hdR b g hh) (fun _ => rfl)).squeeze S1024x128 squeezes_S1x1024x1x128_S1024x128
abbrev vhV (b g hh : Fin 8) : Memref sig .tc .hbm S1024x128 .f32 :=
  ((VM).slice (hdR b g hh) (fun _ => rfl)).squeeze S1024x128 squeezes_S1x1024x1x128_S1024x128

/-- The credit of a half, and of a head. -/
def NW : ℕ := (commV 0 0 0).view.dmaCredit
def NK : ℕ := (kbV 0 0).view.dmaCredit
theorem NW_pos : 0 < NW := View.dmaCredit_pos _ (by decide)
theorem NK_pos : 0 < NK := View.dmaCredit_pos _ (by decide)

/-! ## What the printed offsets, devices and conditions name -/

theorem trips_eq : k0_t1_loop.trips = 8 := by decide

theorem cond1_iff : ∀ t : Fin k0_t1_loop.trips, k0_cond1 t = 1#1 ↔ t.val < 7 := by decide +kernel
theorem cond2_iff : ∀ t : Fin k0_t1_loop.trips, k0_cond2 t = 1#1 ↔ t.val = 0 := by decide +kernel
theorem cond3_iff : ∀ t : Fin k0_t1_loop.trips, k0_cond3 t = 1#1 ↔ 1 ≤ t.val := by decide +kernel
theorem cond4_iff : ∀ t : Fin k0_t1_loop.trips, k0_cond4 t = 1#1 ↔ (1 ≤ t.val ∧ t.val ≤ 5) := by decide +kernel
theorem cond5_iff : ∀ t : Fin k0_t1_loop.trips, k0_cond5 t = 1#1 ↔ 1 ≤ t.val := by decide +kernel
theorem cond6_iff : ∀ t : Fin k0_t1_loop.trips, k0_cond6 t = 1#1 ↔ (1 ≤ t.val ∧ t.val ≤ 5) := by decide +kernel

theorem off4_eq : ∀ (c : Dev nD) (t : Fin k0_t1_loop.trips), t.val < 7 → ∀ (hh : Fin 8),
    k0_off4 c t (BitVec.ofNat 32 hh.val) = ![c.val, 0, 8 * (grp c (t.val + 1)).val + hh.val, 0] := by decide +kernel
theorem off36_eq : ∀ (c : Dev nD) (t : Fin k0_t1_loop.trips) (hh : Fin 8),
    k0_off36 c t (BitVec.ofNat 32 hh.val) = ![c.val, 0, 8 * (grp c t.val).val + hh.val, 0] := by decide +kernel
theorem off23_eq : ∀ t : Fin k0_t1_loop.trips, 1 ≤ t.val → t.val ≤ 5 → k0_off23 t = ![(dirT t.val).val, (fi (posT t.val)).val, 0] := by decide +kernel
theorem off30_eq : ∀ t : Fin k0_t1_loop.trips, 1 ≤ t.val → t.val ≤ 5 → k0_off30 t = ![(dirT t.val).val, (fi (posT t.val)).val, 1] := by decide +kernel

end Cert.KernelIdealRun

end
-- ==== Proof.KernelIdealRun.Sched.lean ====
/-
The protocol: which duties each cell's rounds have, what each pays, and the levels of the cells.
-/
module

public import proofs.«01_k».proof.Proof.KernelIdealRun.Cells

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 8)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Contents -/

/-- The whole-buffer contents the protocol hands over by: what the travelling buffer holds where it holds device `d`'s
    weights (`W d`, the same in both slots); the key and value arrays of a device (`Ka`, `Va`). -/
structure Data (F : FTy → Type) where
  W : Dev nD → cc0_scratch0.ty.Contents (Elt F)
  Ka : Dev nD → main_arg2.ty.Contents (Elt F)
  Va : Dev nD → main_arg3.ty.Contents (Elt F)
  uni : ∀ (g : Dev nD) (d s s' h : Fin 2), (commV d s h).view.read (Elt F) (W g) = (commV d s' h).view.read (Elt F) (W g)

/-- The index of head `hh` of group `g` of batch `b`, row and column as the buffer's index has them. -/
def hdIdx (b g : Fin 8) (i : S2x8x1024x128.Idx) : S8x1024x64x128.Idx := fun
  | ⟨0, _⟩ => b
  | ⟨1, _⟩ => i 2
  | ⟨2, _⟩ => (⟨8 * g.val + (i 1).val, by have h1 : (i 1).val < 8 := (i 1).isLt; omega⟩ : Fin 64)
  | ⟨3, _⟩ => i 3
  | ⟨n + 4, h⟩ => absurd h (Nat.not_lt.2 (Nat.le_add_left _ _))

/-- The key buffer where it holds group `g`'s heads of device `c`'s keys; the value buffer likewise. -/
def KC (D : Data F) (c g : Dev nD) : cc0_scratch1.ty.Contents (Elt F) := fun i => D.Ka c (hdIdx c g i)
def VC (D : Data F) (c g : Dev nD) : cc0_scratch2.ty.Contents (Elt F) := fun i => D.Va c (hdIdx c g i)

abbrev ktok (s : Fin 2) (hh : Fin 8) : PosShare TreeShare := Transfers.shareTokN fullShare (8 * s.val + hh.val)

/-! ## The points-to's -/

def cPts (c : Dev nD) (d s h : Fin 2) (q : PosShare TreeShare) (f : cc0_scratch0.ty.Contents (Elt F)) : sProp 𝕄 :=
  (commV d s h).view.loc (c : Thread nD τ) ↦[(commV d s h).view.set]{q} f
/-- The region at the full share, at anything. -/
def cAny (c : Dev nD) (d s h : Fin 2) : sProp 𝕄 := iprop(∃ f, cPts (F := F) c d s h fullShare f)
def kPts (c : Dev nD) (s : Fin 2) (hh : Fin 8) (f : cc0_scratch1.ty.Contents (Elt F)) : sProp 𝕄 :=
  (kbV s hh).view.loc (c : Thread nD τ) ↦[(kbV s hh).view.set]{fullShare} f
def vPts (c : Dev nD) (s : Fin 2) (hh : Fin 8) (f : cc0_scratch2.ty.Contents (Elt F)) : sProp 𝕄 :=
  (vbV s hh).view.loc (c : Thread nD τ) ↦[(vbV s hh).view.set]{fullShare} f
def kTok (D : Data F) (c : Dev nD) (s : Fin 2) (hh : Fin 8) : sProp 𝕄 := ((c : Thread nD τ).loc main_arg2) ↦{ktok s hh} D.Ka c
def vTok (D : Data F) (c : Dev nD) (s : Fin 2) (hh : Fin 8) : sProp 𝕄 := ((c : Thread nD τ).loc main_arg3) ↦{ktok s hh} D.Va c

instance cPts_storable (c : Dev nD) (d s h q f) : BI.Storable (upEmb : UEmb _ 𝕄) (cPts (F := F) c d s h q f) := by unfold cPts; infer_instance
instance cAny_storable (c : Dev nD) (d s h) : BI.Storable (upEmb : UEmb _ 𝕄) (cAny (F := F) c d s h) := by unfold cAny; infer_instance
instance kPts_storable (c : Dev nD) (s hh f) : BI.Storable (upEmb : UEmb _ 𝕄) (kPts (F := F) c s hh f) := by unfold kPts; infer_instance
instance vPts_storable (c : Dev nD) (s hh f) : BI.Storable (upEmb : UEmb _ 𝕄) (vPts (F := F) c s hh f) := by unfold vPts; infer_instance
instance kTok_storable (D : Data F) (c : Dev nD) (s hh) : BI.Storable (upEmb : UEmb _ 𝕄) (kTok (F := F) D c s hh) := by unfold kTok; infer_instance
instance vTok_storable (D : Data F) (c : Dev nD) (s hh) : BI.Storable (upEmb : UEmb _ 𝕄) (vTok (F := F) D c s hh) := by unfold vTok; infer_instance

/-! ## The schedule -/

/-- The hop that round `r` of a slot's send and receive cells is about, and the round hop `q` is. -/
def hq (s : Fin 2) (r : ℕ) : ℕ := 2 * r + (if s = 1 then 1 else 2)
def rd (q : ℕ) : ℕ := (q - 1) / 2

theorem hq_sl {q : ℕ} (h : 1 ≤ q) : hq (sl q) (rd q) = q := by
  unfold hq rd sl
  rcases Nat.mod_two_eq_zero_or_one q with h2 | h2
  · rw [if_neg (fun he => by have := congrArg Fin.val he; simp [h2] at this)]; omega
  · rw [if_pos (Fin.ext (by simpa using h2))]; omega

def dut : Kd → ℕ → Finset (Fin 8)
  | none, r => if r = 0 then {0, 1} else ∅
  | some (.snd d s h), r => if hq s r ≤ last d then {0} else ∅
  | some (.rcv d s h), r => if hq s r ≤ last d then {0} else ∅
  | some (.kc s), r => if r < 4 then Finset.univ else ∅
  | some (.vc s), r => if r < 4 then Finset.univ else ∅
  | some (.fr d p h), r => if r = 0 ∧ p.val + 1 < last d then {0} else ∅

def amt : Kd → ℕ
  | none => 1
  | some (.snd d s h) => NW
  | some (.rcv d s h) => NW
  | some (.kc s) => NK
  | some (.vc s) => NK
  | some (.fr d p h) => 1

variable (D : Data F)

def pay (c : Dev nD) : Kd → ℕ → Fin 8 → sProp 𝕄
  | none, r, x => if x = 0 then iprop(cAny (dn 0 c) 0 1 0 ∗ cAny (dn 0 c) 0 1 1) else iprop(cAny (dn 1 c) 1 1 0 ∗ cAny (dn 1 c) 1 1 1)
  | some (.snd d s h), r, x => cPts c d (sl (hq s r - 1)) h fullShare.left (D.W (src d (hq s r - 1) c))
  | some (.rcv d s h), r, x => cPts c d s h fullShare (D.W (src d (hq s r) c))
  | some (.kc s), r, x => iprop(kPts c s x (KC D c (grp c (2 * r + s.val))) ∗ kTok D c s x)
  | some (.vc s), r, x => iprop(vPts c s x (VC D c (grp c (2 * r + s.val))) ∗ vTok D c s x)
  | some (.fr d p h), r, x => iprop(cAny (dn d c) d (sl p.val) h ∗ reached ER (cell (dn d c) (some (.rcv d (sl p.val) h))) (rd (p.val + 2)))

instance pay_storable (c : Dev nD) (k r x) : BI.Storable (upEmb : UEmb _ 𝕄) (pay D c k r x) := by
  unfold pay
  split
  · split <;> infer_instance
  all_goals infer_instance

def Rd : Rounds.Schedule (GSem nD τ sig) (Fin 8) 𝕄 where
  duties g r := if g.1.2 = .tc then (match kdOf g.2 with | some k => dut k r | none => ∅) else ∅
  unitless _ := False
  amount g _ _ := match kdOf g.2 with | some k => amt k | none => 1
  payload g r d := match kdOf g.2 with | some k => pay D g.1.1 k r d | none => iprop(emp)
  amount_pos g _ _ _ := by
    split
    · rename_i k _
      rcases k with _ | (_ | _ | _ | _ | _) <;> first | exact Nat.one_pos | exact NW_pos | exact NK_pos
    · exact Nat.one_pos

instance Rd_storable (g : GSem nD τ sig) (r : ℕ) (d : Fin 8) : BI.Storable (upEmb : UEmb _ 𝕄) ((Rd D).payload g r d) := by
  show BI.Storable upEmb (match kdOf g.2 with | some k => pay D g.1.1 k r d | none => iprop(emp))
  split <;> infer_instance

section Facts
variable (c : Dev nD)

theorem duties_cell (k : Kd) (r : ℕ) : (Rd D).duties (cell c k) r = dut k r := by
  dsimp only [Rd]; rw [if_pos rfl, kdOf_csem]
theorem amount_cell (k : Kd) (r : ℕ) (d : Fin 8) : (Rd D).amount (cell c k) r d = amt k := by
  dsimp only [Rd]; rw [kdOf_csem]
theorem payload_cell (k : Kd) (r : ℕ) (d : Fin 8) : (Rd D).payload (cell c k) r d = pay D c k r d := by
  dsimp only [Rd]; rw [kdOf_csem]
theorem expect_cell (k : Kd) (r : ℕ) : (Rd D).expect (cell c k) r = (dut k r).card * amt k := by
  unfold Schedule.expect Schedule.amountOf
  rw [duties_cell, Finset.sum_congr rfl fun d _ => amount_cell D c k r d, Finset.sum_const, smul_eq_mul]

theorem dut_snd {d : Fin 2} {q : ℕ} (h : Fin 2) (h1 : 1 ≤ q) (h2 : q ≤ last d) : dut (some (.snd d (sl q) h)) (rd q) = {0} := by
  show (if hq (sl q) (rd q) ≤ last d then ({0} : Finset (Fin 8)) else ∅) = _; rw [hq_sl h1]; exact if_pos h2
theorem dut_rcv {d : Fin 2} {q : ℕ} (h : Fin 2) (h1 : 1 ≤ q) (h2 : q ≤ last d) : dut (some (.rcv d (sl q) h)) (rd q) = {0} := by
  show (if hq (sl q) (rd q) ≤ last d then ({0} : Finset (Fin 8)) else ∅) = _; rw [hq_sl h1]; exact if_pos h2
theorem last_le (d : Fin 2) : last d ≤ 4 := by revert d; decide
theorem fi_val {q : ℕ} (h1 : 1 ≤ q) (h2 : q ≤ 3) : (fi q).val = q - 1 := by unfold fi; simp only; omega
theorem dut_fr {d : Fin 2} {q : ℕ} (h : Fin 2) (h1 : 1 ≤ q) (h2 : q < last d) : dut (some (.fr d (fi q) h)) 0 = {0} := by
  have := last_le d
  show (if 0 = 0 ∧ (fi q).val + 1 < last d then ({0} : Finset (Fin 8)) else ∅) = _; rw [fi_val h1 (by omega)]; exact if_pos ⟨rfl, by omega⟩
theorem dut_kc (s : Fin 2) {r : ℕ} (h : r < 4) : dut (some (.kc s)) r = Finset.univ := if_pos h
theorem dut_vc (s : Fin 2) {r : ℕ} (h : r < 4) : dut (some (.vc s)) r = Finset.univ := if_pos h

/-- The last round of a cell has passed. -/
theorem dut_later (k : Kd) : ∀ r, 4 ≤ r → dut k r = ∅ := by
  intro r hr
  rcases k with _ | (⟨d, s, h⟩ | ⟨d, s, h⟩ | s | s | ⟨d, p, h⟩)
  · exact if_neg (by omega)
  · have := last_le d; exact if_neg (by unfold hq; omega)
  · have := last_le d; exact if_neg (by unfold hq; omega)
  · exact if_neg (by omega)
  · exact if_neg (by omega)
  · exact if_neg (by omega)

theorem sl_pred {q : ℕ} (h1 : 1 ≤ q) : sl (q - 1) = sl (q + 1) := Fin.ext (by simp only [sl]; omega)
theorem sl_add_two (q : ℕ) : sl (q + 2) = sl q := Fin.ext (by simp only [sl]; omega)

theorem pay_snd {d : Fin 2} {q : ℕ} (h : Fin 2) (x : Fin 8) (h1 : 1 ≤ q) :
    pay D c (some (.snd d (sl q) h)) (rd q) x = cPts c d (sl (q - 1)) h fullShare.left (D.W (src d (q - 1) c)) := by
  show cPts c d (sl (hq (sl q) (rd q) - 1)) h fullShare.left (D.W (src d (hq (sl q) (rd q) - 1) c)) = _
  rw [hq_sl h1]
theorem pay_rcv {d : Fin 2} {q : ℕ} (h : Fin 2) (x : Fin 8) (h1 : 1 ≤ q) :
    pay D c (some (.rcv d (sl q) h)) (rd q) x = cPts c d (sl q) h fullShare (D.W (src d q c)) := by
  show cPts c d (sl q) h fullShare (D.W (src d (hq (sl q) (rd q)) c)) = _
  rw [hq_sl h1]
theorem pay_fr {d : Fin 2} {q : ℕ} (h : Fin 2) (r : ℕ) (x : Fin 8) (h1 : 1 ≤ q) (h2 : q ≤ 3) :
    pay D c (some (.fr d (fi q) h)) r x = iprop(cAny (dn d c) d (sl (q + 1)) h
      ∗ reached ER (cell (dn d c) (some (.rcv d (sl (q + 1)) h))) (rd (q + 1))) := by
  show iprop(cAny (dn d c) d (sl (fi q).val) h ∗ reached ER (cell (dn d c) (some (.rcv d (sl (fi q).val) h))) (rd ((fi q).val + 2))) = _
  rw [fi_val h1 h2, sl_pred h1, show q - 1 + 2 = q + 1 by omega]

end Facts

/-! ## The levels -/

/-- The cells of a TensorCore are owed at the indices `0 … 7`. -/
def L (g : GSem nD τ sig) : Finset ℕ := if g.1.2 = .tc then Finset.range 8 else ∅
theorem L_of_ne (g : GSem nD τ sig) (h : g.1.2 ≠ .tc) : L g = ∅ := if_neg h
theorem L_tc (c : Dev nD) (sm : SemLoc sig) : L ((c : Thread nD τ), sm) = Finset.range 8 := if_pos rfl

def lvk : Kd → ℕ → ℕ
  | none, _ => 1
  | some (.rcv d s h), q => 4 * stepT d q + 2 * h.val + 2
  | some (.fr d p h), q => 4 * stepT d q + 2 * h.val + 3
  | some (.snd _ _ _), _ => 0
  | some (.kc _), _ => 0
  | some (.vc _), _ => 0
def lv (g : GSem nD τ sig) (q : ℕ) : ℕ := match kdOf g.2 with | some k => lvk k q | none => 0
theorem lv_cell (c : Dev nD) (k : Kd) (q : ℕ) : lv (cell c k) q = lvk k q := by dsimp only [lv]; rw [kdOf_csem]

/-! ## What a device owes -/

/-- What device `c` owes for the chain of way `d` and half `h` whose next position is `p`: the receive credits of the
    hops it has still to start, and the free signals it has still to give. -/
def oc (c : Dev nD) (d h : Fin 2) (p : ℕ) : CellTallies nD τ sig ℕ :=
  (∑ q ∈ Finset.Ico (p + 1) (last d + 1), tallyAt (cell (dn d c) (some (.rcv d (sl q) h))) q NW)
    + ∑ q ∈ Finset.Ico (max p 1) (last d), tallyAt (cell (up d c) (some (.fr d (fi q) h))) q 1

/-- All a device owes, the chains' next positions being `f`. -/
def OT (c : Dev nD) (f : Fin 2 → Fin 2 → ℕ) : CellTallies nD τ sig ℕ := ∑ x : Fin 2 × Fin 2, oc c x.1 x.2 (f x.1 x.2)

theorem sum_apply2 {ι : Type} (S : Finset ι) (f : ι → CellTallies nD τ sig ℕ) (g : GSem nD τ sig) (u : ℕ) :
    (∑ i ∈ S, f i) g u = ∑ i ∈ S, f i g u := by
  rw [Finset.sum_apply, Finsupp.finset_sum_apply]

theorem oc_pos {c : Dev nD} {d h : Fin 2} {p : ℕ} {g : GSem nD τ sig} {u : ℕ} (hp : 0 < oc c d h p g u) :
    (g = cell (dn d c) (some (.rcv d (sl u) h)) ∧ p + 1 ≤ u ∧ u ≤ last d)
      ∨ (g = cell (up d c) (some (.fr d (fi u) h)) ∧ max p 1 ≤ u ∧ u < last d) := by
  unfold oc at hp
  rw [Pi.add_apply, Finsupp.add_apply, sum_apply2, sum_apply2] at hp
  rcases Nat.add_pos_iff_pos_or_pos.mp hp with h1 | h1
  · obtain ⟨q, hq, hne⟩ := Finset.exists_ne_zero_of_sum_ne_zero h1.ne'
    rw [tallyAt_apply] at hne
    have := Finset.mem_Ico.mp hq
    by_cases hh : g = cell (dn d c) (some (.rcv d (sl q) h)) ∧ u = q
    · obtain ⟨rfl, rfl⟩ := hh; exact .inl ⟨rfl, by omega, by omega⟩
    · rw [if_neg hh] at hne; exact absurd rfl hne
  · obtain ⟨q, hq, hne⟩ := Finset.exists_ne_zero_of_sum_ne_zero h1.ne'
    rw [tallyAt_apply] at hne
    have := Finset.mem_Ico.mp hq
    by_cases hh : g = cell (up d c) (some (.fr d (fi q) h)) ∧ u = q
    · obtain ⟨rfl, rfl⟩ := hh; exact .inr ⟨rfl, by omega, by omega⟩
    · rw [if_neg hh] at hne; exact absurd rfl hne

/-- Every cell owed at a positive amount is indexed below 8 and lies above level `b`. -/
def Above (O : CellTallies nD τ sig ℕ) (b : ℕ) : Prop := ∀ g u, 0 < O g u → u ∈ L g ∧ b < lv g u

theorem above_zero (b : ℕ) : Above 0 b := fun g u h => absurd h (Nat.lt_irrefl 0)
theorem Above.add {O O' : CellTallies nD τ sig ℕ} {b : ℕ} (h : Above O b) (h' : Above O' b) : Above (O + O') b := fun g u hp => by
  rw [Pi.add_apply, Finsupp.add_apply] at hp
  rcases Nat.add_pos_iff_pos_or_pos.mp hp with h1 | h1
  · exact h g u h1
  · exact h' g u h1
theorem Above.sum {ι : Type} (S : Finset ι) (f : ι → CellTallies nD τ sig ℕ) {b : ℕ} (h : ∀ i ∈ S, Above (f i) b) : Above (∑ i ∈ S, f i) b := fun g u hp => by
  rw [sum_apply2] at hp
  obtain ⟨q, hq, hne⟩ := Finset.exists_ne_zero_of_sum_ne_zero hp.ne'
  exact h q hq g u (Nat.pos_of_ne_zero hne)

theorem above_tally {c : Dev nD} {k : Kd} {q n b : ℕ} (hq : q < 8) (h : b < lvk k q) : Above (tallyAt (cell c k) q n) b := fun g u hp => by
  rw [tallyAt_apply] at hp
  by_cases hh : g = cell c k ∧ u = q
  · obtain ⟨rfl, rfl⟩ := hh; exact ⟨by rw [L_tc]; exact Finset.mem_range.mpr hq, by rw [lv_cell]; exact h⟩
  · rw [if_neg hh] at hp; exact absurd hp (Nat.lt_irrefl 0)

theorem above_oc {c : Dev nD} {d h : Fin 2} {p b : ℕ}
    (h1 : b < 4 * stepT d (p + 1) + 2 * h.val + 2) (h2 : b < 4 * stepT d (max p 1) + 2 * h.val + 3) : Above (oc c d h p) b := fun g u hp => by
  have hl := last_le d
  have hmono : ∀ a a', a ≤ a' → stepT d a ≤ stepT d a' := fun a a' h => by unfold stepT; split <;> omega
  rcases oc_pos hp with ⟨rfl, h3, h4⟩ | ⟨rfl, h3, h4⟩
  · refine ⟨by rw [L_tc]; exact Finset.mem_range.mpr (by omega), ?_⟩
    rw [lv_cell]; show b < 4 * stepT d u + 2 * h.val + 2
    have := hmono _ _ h3; omega
  · refine ⟨by rw [L_tc]; exact Finset.mem_range.mpr (by omega), ?_⟩
    rw [lv_cell]; show b < 4 * stepT d u + 2 * h.val + 3
    have := hmono _ _ h3; omega

theorem mayWait_cell (c : Dev nD) (k : Kd) (q : ℕ) (hq : q < 8) (O : CellTallies nD τ sig ℕ) (hO : Above O (lvk k q)) :
    (levAts L lv : sProp 𝕄) ⊢ MayWait (c : Thread nD τ) (csem k) q O :=
  MayOwe.of_cut (L := L) (lev := lv) (lvk k q) (fun p hp => by rw [Finset.mem_singleton.mp hp]; dsimp only; rw [L_tc]; exact Finset.mem_range.mpr hq)
    (fun g u hg => (hO g u hg).1)
    (fun p hp => by rw [Finset.mem_singleton.mp hp]; exact (lv_cell c k q).le)
    (fun g u hg => (hO g u hg).2)

end Cert.KernelIdealRun

end
-- ==== Proof.KernelIdealRun.Chain.lean ====
/-
One chain — a way and a half — of the travelling buffer: its state between two of its positions, and the operations
that handle a position: the two waits, the free handshake, the next hop.
-/
module

public import proofs.«01_k».proof.Proof.KernelIdealRun.Sched

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

abbrev 𝒱₀ : Variants := Variants.none

variable (D : Data F) (K : Dev nD × Kd → ℕ)

/-! ## The cells' invariants and first rounds, of every device -/

def invs : sProp 𝕄 := bigSep Finset.univ fun ck : Dev nD × Kd => cellInv ER (Rd D) (K ck) (kcell ck)
def rch0 : sProp 𝕄 := bigSep Finset.univ fun ck : Dev nD × Kd => reached ER (kcell ck) 0
instance invs_persistent : BI.Persistent (invs (F := F) D K) := by unfold invs; infer_instance
instance rch0_persistent : BI.Persistent (rch0 (F := F)) := by unfold rch0; infer_instance

theorem inv_cell (c : Dev nD) (k : Kd) : invs (F := F) D K ⊢ cellInv ER (Rd D) (K (c, k)) (cell c k) := by
  unfold invs; rw [bigSep_erase (Finset.mem_univ (c, k))]; exact sep_elim_left
theorem rch_cell (c : Dev nD) (k : Kd) : rch0 (F := F) ⊢ reached ER (cell c k) 0 := by
  unfold rch0; rw [bigSep_erase (Finset.mem_univ (c, k))]; exact sep_elim_left

/-! ## The state -/

/-- What handling position `q` and starting hop `q + 1` takes. -/
def Fwd (c : Dev nD) (d h : Fin 2) (q : ℕ) : sProp 𝕄 :=
  iprop(atPos ER (cell c (some (.fr d (fi q) h))) 0 ∅ 0 ∗ cred (tallyAt (cell c (some (.fr d (fi q) h))) q 1)
    ∗ dutyTok ER (cell (up d c) (some (.fr d (fi q) h))) 0 0
    ∗ dutyTok ER (cell c (some (.snd d (sl (q + 1)) h))) (rd (q + 1)) 0
    ∗ dutyTok ER (cell (dn d c) (some (.rcv d (sl (q + 1)) h))) (rd (q + 1)) 0)
def Rcr (c : Dev nD) (d h : Fin 2) (q : ℕ) : sProp 𝕄 := cred (tallyAt (cell c (some (.rcv d (sl q) h))) q NW)
def Don (c : Dev nD) (d h : Fin 2) (q : ℕ) : sProp 𝕄 := atPos ER (cell c (some (.fr d (fi q) h))) 1 ∅ 0

/-- The send and receive cells of the slots of positions `a` and `b`. -/
def Pos (c : Dev nD) (d h : Fin 2) (a b : ℕ) : sProp 𝕄 :=
  iprop(atPos ER (cell c (some (.snd d (sl a) h))) (rd a) ∅ 0 ∗ atPos ER (cell c (some (.snd d (sl b) h))) (rd b) ∅ 0
    ∗ atPos ER (cell c (some (.rcv d (sl a) h))) (rd a) ∅ 0 ∗ atPos ER (cell c (some (.rcv d (sl b) h))) (rd b) ∅ 0)

/-- The credits, forwards and finished free cells of a chain whose position `p` is next to be received, `f` next to be forwarded. -/
def Tail (c : Dev nD) (d h : Fin 2) (p f : ℕ) : sProp 𝕄 :=
  iprop(bigSep (Finset.Ico p (last d + 1)) (Rcr (F := F) c d h) ∗ bigSep (Finset.Ico f (last d)) (Fwd (F := F) c d h)
    ∗ bigSep (Finset.Ico 1 (min f (last d))) (Don (F := F) c d h))

/-- Before the hop of position `1` has been started: -/
def Cs0 (c : Dev nD) (d h : Fin 2) : sProp 𝕄 :=
  iprop(Pos c d h 1 2 ∗ Tail c d h 1 1 ∗ cPts c d (sl 0) h fullShare (D.W c) ∗ cAny (dn d c) d (sl 1) h
    ∗ dutyTok ER (cell c (some (.snd d (sl 1) h))) (rd 1) 0 ∗ dutyTok ER (cell (dn d c) (some (.rcv d (sl 1) h))) (rd 1) 0)

/-- before position `p` is handled, its hop in flight (or, past the last, no hop): the slot of position `p - 1` is held at
    half a share, the other half lent to the hop; -/
def Cs (c : Dev nD) (d h : Fin 2) (p : ℕ) : sProp 𝕄 :=
  iprop(Pos c d h p (p + 1) ∗ Tail c d h p p
    ∗ reached ER (cell c (some (.snd d (sl (p + 1)) h))) (rd (p + 1)) ∗ reached ER (cell c (some (.rcv d (sl (p + 1)) h))) (rd (p + 1))
    ∗ cPts c d (sl (p - 1)) h fullShare.right (D.W (src d (p - 1) c))
    ∗ (if p ≤ last d then cred (tallyAt (cell c (some (.snd d (sl p) h))) p NW)
        else iprop(cPts c d (sl (p - 1)) h fullShare.left (D.W (src d (p - 1) c)) ∗ cAny c d (sl p) h)))

/-- when both waits of position `p` have been made. -/
def Ms (c : Dev nD) (d h : Fin 2) (p : ℕ) : sProp 𝕄 :=
  iprop(Pos c d h (p + 1) (p + 2) ∗ Tail c d h (p + 1) p
    ∗ reached ER (cell c (some (.snd d (sl (p + 1)) h))) (rd (p + 1))
    ∗ reached ER (cell c (some (.snd d (sl (p + 2)) h))) (rd (p + 2)) ∗ reached ER (cell c (some (.rcv d (sl (p + 2)) h))) (rd (p + 2))
    ∗ reached ER (cell c (some (.rcv d (sl (p + 1)) h))) (rd (p + 1))
    ∗ cPts c d (sl (p - 1)) h fullShare (D.W (src d (p - 1) c))
    ∗ cPts c d (sl p) h fullShare (D.W (src d p c)))

theorem cPts_halve (c : Dev nD) (d s h : Fin 2) (f : cc0_scratch0.ty.Contents (Elt F)) :
    cPts c d s h fullShare f ⊣⊢ iprop(cPts c d s h fullShare.left f ∗ cPts c d s h fullShare.right f) := by
  unfold cPts; exact pointsTo_share (PosShare.mem_left_op_right _)

/-- A separating conjunction over an interval, its first member apart. -/
theorem ico_head {a b : ℕ} (h : a < b) (Φ : ℕ → sProp 𝕄) : bigSep (Finset.Ico a b) Φ = iprop(Φ a ∗ bigSep (Finset.Ico (a + 1) b) Φ) := by
  rw [← Finset.insert_Ico_add_one_left_eq_Ico h, bigSep_insert (by simp)]; rfl
theorem sum_ico_head {M : Type} [AddCommMonoid M] {a b : ℕ} (h : a < b) (f : ℕ → M) : ∑ q ∈ Finset.Ico a b, f q = f a + ∑ q ∈ Finset.Ico (a + 1) b, f q := by
  rw [← Finset.insert_Ico_add_one_left_eq_Ico h, Finset.sum_insert (by simp)]
theorem three_le_last (d : Fin 2) : 3 ≤ last d := by revert d; decide
/-- Its last member apart. -/
theorem ico_last {a b : ℕ} (h : a ≤ b) (Φ : ℕ → sProp 𝕄) : bigSep (Finset.Ico a (b + 1)) Φ = iprop(Φ b ∗ bigSep (Finset.Ico a b) Φ) := by
  rw [← Finset.insert_Ico_right_eq_Ico_add_one h, bigSep_insert (by simp)]; rfl

theorem rest_snd (c : Dev nD) {d : Fin 2} {q : ℕ} (h : Fin 2) (h1 : 1 ≤ q) (h2 : q ≤ last d) :
    bigSep ((Rd D).duties (cell c (some (.snd d (sl q) h))) (rd q) \ ∅) (fun u => (Rd D).payload (cell c (some (.snd d (sl q) h))) (rd q) u)
      = cPts c d (sl (q - 1)) h fullShare.left (D.W (src d (q - 1) c)) := by
  rw [Finset.sdiff_empty, duties_cell D c (some (.snd d (sl q) h)), dut_snd h h1 h2, bigSep_singleton,
    payload_cell D c (some (.snd d (sl q) h)), pay_snd D c h 0 h1]
theorem rest_rcv (c : Dev nD) {d : Fin 2} {q : ℕ} (h : Fin 2) (h1 : 1 ≤ q) (h2 : q ≤ last d) :
    bigSep ((Rd D).duties (cell c (some (.rcv d (sl q) h))) (rd q) \ ∅) (fun u => (Rd D).payload (cell c (some (.rcv d (sl q) h))) (rd q) u)
      = cPts c d (sl q) h fullShare (D.W (src d q c)) := by
  rw [Finset.sdiff_empty, duties_cell D c (some (.rcv d (sl q) h)), dut_rcv h h1 h2, bigSep_singleton,
    payload_cell D c (some (.rcv d (sl q) h)), pay_rcv D c h 0 h1]
theorem rest_fr (c : Dev nD) {d : Fin 2} {q : ℕ} (h : Fin 2) (h1 : 1 ≤ q) (h2 : q < last d) :
    bigSep ((Rd D).duties (cell c (some (.fr d (fi q) h))) 0 \ ∅) (fun u => (Rd D).payload (cell c (some (.fr d (fi q) h))) 0 u)
      = iprop(cAny (dn d c) d (sl (q + 1)) h ∗ reached ER (cell (dn d c) (some (.rcv d (sl (q + 1)) h))) (rd (q + 1))) := by
  have := last_le d
  rw [Finset.sdiff_empty, duties_cell D c (some (.fr d (fi q) h)), dut_fr h h1 h2, bigSep_singleton,
    payload_cell D c (some (.fr d (fi q) h)), pay_fr D c h 0 0 h1 (by omega)]

theorem rd_add_two {p : ℕ} (h : 1 ≤ p) : rd (p + 2) = rd p + 1 := by unfold rd; omega

section Ops
variable {α : Type} {Q : α → sProp (MT nD τ sig ℕ (Elt F) ℕ UU ℕ)}

/-- The wait for the hop `p`'s departure. -/
theorem wp_wait_snd (c : Dev nD) (d h : Fin 2) (p : ℕ) (h1 : 1 ≤ p) (h2 : p ≤ last d)
    {src' dst' : Memref sig .tc .vmem S2x512x1024 .bf16} {sm : DmaSem sig} (hsm : sm = sndS d (sl p) h)
    (hdst : dst'.view.dmaCredit = NW) {w1 : src'.view.WordExact} {w2 : dst'.view.WordExact}
    {k : PUnit → Prog (TpuEff nD τ sig (Elt F) Λ₀ .tc) α} (O : CellTallies nD τ sig ℕ) (hO : Above O 0) (Wt : Waits sig ℕ) :
    iprop(invs (F := F) D K ∗ levAts L lv ∗ cred (tallyAt (cell c (some (.snd d (sl p) h))) p NW) ∗ owes (c : Thread nD τ) O Wt
        ∗ atPos ER (cell c (some (.snd d (sl p) h))) (rd p) ∅ 0)
      ⊢ iprop(((∃ Wt', owes (c : Thread nD τ) O Wt') ∗ atPos ER (cell c (some (.snd d (sl (p + 2)) h))) (rd (p + 2)) ∅ 0
              ∗ reached ER (cell c (some (.snd d (sl (p + 2)) h))) (rd (p + 2))
              ∗ cPts c d (sl (p - 1)) h fullShare.left (D.W (src d (p - 1) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src' dst' w1 w2) k) Q) := by
  subst hsm
  have h4 := last_le d
  rw [sl_add_two, rd_add_two h1]
  iintro ⟨#HI, #HL, Hc, Ho, Hat⟩ Hk
  ihave #Hi := (inv_cell D K c (some (.snd d (sl p) h))) $$ HI
  iapply (Rounds.wp_wait_rest_token 𝒱₀ ER (Rd D) (c : Thread nD τ) none (κ := K (c, some (.snd d (sl p) h)))
      (wpE_waitDma2_eq 𝒱₀ (c : Thread nD τ) none Set.univ) (Set.mem_univ _) p (O := O) (W := Wt) (R := rd p) (m := 0) (T := ∅)
      (by rw [hdst, expect_cell D c (some (.snd d (sl p) h)), dut_snd h h1 h2]; simp [amt])) $$ [Hc Ho Hat]
  · isplitr; · iexact Hi
    isplitl [Hc]; · rw [hdst]; iexact Hc
    isplitl [Ho]; · iexact Ho
    isplitr; · iapply (mayWait_cell c (some (.snd d (sl p) h)) p (by omega) O hO); iexact HL
    iexact Hat
  iintro ⟨Ho, Hat, #Hr, Hp⟩
  ihave Hp := (Entails.of_eq (rest_snd D c h h1 h2)) $$ Hp
  iapply Hk
  isplitl [Ho]; · iexists _; iexact Ho
  isplitl [Hat]; · iexact Hat
  isplitr; · iexact Hr
  iexact Hp

/-- The wait for the hop `p`'s arrival. -/
theorem wp_wait_rcv (c : Dev nD) (d h : Fin 2) (p : ℕ) (h1 : 1 ≤ p) (h2 : p ≤ last d)
    {src' dst' : Memref sig .tc .vmem S2x512x1024 .bf16} {sm : DmaSem sig} (hsm : sm = rcvS d (sl p) h)
    (hdst : dst'.view.dmaCredit = NW) {w1 : src'.view.WordExact} {w2 : dst'.view.WordExact}
    {k : PUnit → Prog (TpuEff nD τ sig (Elt F) Λ₀ .tc) α} (O : CellTallies nD τ sig ℕ) (hO : Above O (4 * stepT d p + 2 * h.val + 2)) (Wt : Waits sig ℕ) :
    iprop(invs (F := F) D K ∗ levAts L lv ∗ Rcr c d h p ∗ owes (c : Thread nD τ) O Wt
        ∗ atPos ER (cell c (some (.rcv d (sl p) h))) (rd p) ∅ 0)
      ⊢ iprop(((∃ Wt', owes (c : Thread nD τ) O Wt') ∗ atPos ER (cell c (some (.rcv d (sl (p + 2)) h))) (rd (p + 2)) ∅ 0
              ∗ reached ER (cell c (some (.rcv d (sl (p + 2)) h))) (rd (p + 2))
              ∗ cPts c d (sl p) h fullShare (D.W (src d p c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src' dst' w1 w2) k) Q) := by
  subst hsm
  have h4 := last_le d
  unfold Rcr
  rw [sl_add_two, rd_add_two h1]
  iintro ⟨#HI, #HL, Hc, Ho, Hat⟩ Hk
  ihave #Hi := (inv_cell D K c (some (.rcv d (sl p) h))) $$ HI
  iapply (Rounds.wp_wait_rest_token 𝒱₀ ER (Rd D) (c : Thread nD τ) none (κ := K (c, some (.rcv d (sl p) h)))
      (wpE_waitDma2_eq 𝒱₀ (c : Thread nD τ) none Set.univ) (Set.mem_univ _) p (O := O) (W := Wt) (R := rd p) (m := 0) (T := ∅)
      (by rw [hdst, expect_cell D c (some (.rcv d (sl p) h)), dut_rcv h h1 h2]; simp [amt])) $$ [Hc Ho Hat]
  · isplitr; · iexact Hi
    isplitl [Hc]; · rw [hdst]; iexact Hc
    isplitl [Ho]; · iexact Ho
    isplitr; · iapply (mayWait_cell c (some (.rcv d (sl p) h)) p (by omega) O hO); iexact HL
    iexact Hat
  iintro ⟨Ho, Hat, #Hr, Hp⟩
  ihave Hp := (Entails.of_eq (rest_rcv D c h h1 h2)) $$ Hp
  iapply Hk
  isplitl [Ho]; · iexists _; iexact Ho
  isplitl [Hat]; · iexact Hat
  isplitr; · iexact Hr
  iexact Hp

/-- Both waits of position `p`. -/
theorem wp_waits (c : Dev nD) (d h : Fin 2) (p : ℕ) (h1 : 1 ≤ p) (h2 : p ≤ last d)
    {s1 t1 s2 t2 : Memref sig .tc .vmem S2x512x1024 .bf16} {sm1 sm2 : DmaSem sig} (hsm1 : sm1 = sndS d (sl p) h) (hsm2 : sm2 = rcvS d (sl p) h)
    (ht1 : t1.view.dmaCredit = NW) (ht2 : t2.view.dmaCredit = NW)
    {w1 : s1.view.WordExact} {w2 : t1.view.WordExact} {w3 : s2.view.WordExact} {w4 : t2.view.WordExact}
    {k : PUnit → Prog (TpuEff nD τ sig (Elt F) Λ₀ .tc) α} (R : CellTallies nD τ sig ℕ)
    (hR : Above R (4 * stepT d p + 2 * h.val + 2)) :
    iprop(invs (F := F) D K ∗ levAts L lv ∗ Cs D c d h p ∗ (∃ Wt, owes (c : Thread nD τ) (R + oc c d h p) Wt))
      ⊢ iprop(((∃ Wt', owes (c : Thread nD τ) (R + oc c d h p) Wt') ∗ Ms D c d h p
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm1 s1 t1 w1 w2) fun _ => .op (.waitDma2 sm2 s2 t2 w3 w4) k) Q) := by
  have hA : Above (R + oc c d h p) (4 * stepT d p + 2 * h.val + 2) := by
    refine hR.add (above_oc ?_ ?_)
    · unfold stepT; split <;> omega
    · rw [max_eq_left h1]; omega
  have hA0 : Above (R + oc c d h p) 0 := fun g u hg => ⟨(hA g u hg).1, Nat.lt_of_le_of_lt (Nat.zero_le _) (hA g u hg).2⟩
  unfold Cs Pos Tail
  rw [if_pos h2, ico_head (a := p) (b := last d + 1) (by omega)]
  iintro ⟨#HI, #HL, ⟨⟨Hs1, Hs2, Hv1, Hv2⟩, ⟨⟨Hr0, Hr⟩, Hf, Hd⟩, #Hrs, #Hrv, Hc, Hcr⟩, ⟨%Wt, Ho⟩⟩ Hk
  iapply (wp_wait_snd D K c d h p h1 h2 hsm1 ht1 (R + oc c d h p) hA0 Wt) $$ [Hcr Ho Hs1]
  · isplitr; · iexact HI
    isplitr; · iexact HL
    isplitl [Hcr]; · iexact Hcr
    isplitl [Ho]; · iexact Ho
    iexact Hs1
  iintro ⟨⟨%Wt1, Ho⟩, Hs1, #Hrs1, Hl⟩
  iapply (wp_wait_rcv D K c d h p h1 h2 hsm2 ht2 (R + oc c d h p) hA Wt1) $$ [Hr0 Ho Hv1]
  · isplitr; · iexact HI
    isplitr; · iexact HL
    isplitl [Hr0]; · iexact Hr0
    isplitl [Ho]; · iexact Ho
    iexact Hv1
  iintro ⟨Ho, Hv1, #Hrv1, Hcv⟩
  iapply Hk
  isplitl [Ho]; · iexact Ho
  unfold Ms Pos Tail
  isplitl [Hs1 Hs2 Hv1 Hv2]
  · isplitl [Hs2]; · iexact Hs2
    isplitl [Hs1]; · iexact Hs1
    isplitl [Hv2]; · iexact Hv2
    iexact Hv1
  isplitl [Hr Hf Hd]
  · isplitl [Hr]; · iexact Hr
    isplitl [Hf]; · iexact Hf
    iexact Hd
  isplitr; · iexact Hrs
  isplitr; · iexact Hrs1
  isplitr; · iexact Hrv1
  isplitr; · iexact Hrv
  isplitl [Hl Hc]
  · iapply (cPts_halve c d (sl (p - 1)) h _).2
    isplitl [Hl]; · iexact Hl
    iexact Hc
  iexact Hcv

/-- A half written from the half of the other slot holds the same weights. -/
theorem landed (c : Dev nD) (g : Dev nD) (d s s' h : Fin 2) (fd : cc0_scratch0.ty.Contents (Elt F)) :
    (((commV d s' h).view.loc (c : Thread nD τ) ↦[(commV d s' h).view.set]{fullShare}
        ((commV d s' h).view.write (Elt F) fd ((commV d s h).view.read (Elt F) (D.W g)) Finset.univ)) : sProp 𝕄)
      = cPts c d s' h fullShare (D.W g) := by
  unfold cPts
  refine pointsTo_congr fun i hi => ?_
  obtain ⟨x, -, rfl⟩ := Finset.mem_map.mp hi
  rw [D.uni g d s s' h]
  exact ((commV d s' h).view.write_emb_of_mem (Val := Elt F) fd ((commV d s' h).view.read (Elt F) (D.W g)) (Finset.mem_univ x)).trans
    (by rw [View.read_apply]; simp)

/-- Starting hop `q`: the half of slot `q - 1` is sent to slot `q` of the next device of the way. -/
theorem wp_hop (c : Dev nD) (d h : Fin 2) (q : ℕ) (h1 : 1 ≤ q) (h2 : q ≤ last d)
    {src' dst' : Memref sig .tc .vmem S2x512x1024 .bf16} (hs : src' = commV d (sl (q - 1)) h) (hd : dst' = commV d (sl q) h)
    {dv : Dev nD} (hdv : dv = dn d c)
    {sS sR : DmaSem sig} (hsS : sS = sndS d (sl q) h) (hsR : sR = rcvS d (sl q) h)
    {hsc : dst'.view.ref.isScScratch = false} {w1 : src'.view.WordExact} {w2 : dst'.view.WordExact}
    {w3 : DmaTarget.Typed .vmem (.dma sR) (.remote (Dev.tc dv) dst' (.dma sS) hsc)}
    {k : PUnit → Prog (TpuEff nD τ sig (Elt F) Λ₀ .tc) α} (O : CellTallies nD τ sig ℕ) {O₀ : CellTallies nD τ sig ℕ}
    (hO : O₀ = O + tallyAt (cell (dn d c) (some (.rcv d (sl q) h))) q NW) (Wt : Waits sig ℕ) :
    iprop(invs (F := F) D K ∗ cPts c d (sl (q - 1)) h fullShare.left (D.W (src d (q - 1) c)) ∗ cAny (dn d c) d (sl q) h
        ∗ owes (c : Thread nD τ) O₀ Wt
        ∗ dutyTok ER (cell c (some (.snd d (sl q) h))) (rd q) 0 ∗ reached ER (cell c (some (.snd d (sl q) h))) (rd q)
        ∗ dutyTok ER (cell (dn d c) (some (.rcv d (sl q) h))) (rd q) 0 ∗ reached ER (cell (dn d c) (some (.rcv d (sl q) h))) (rd q))
      ⊢ iprop((cred (tallyAt (cell c (some (.snd d (sl q) h))) q NW) ∗ owes (c : Thread nD τ) O Wt
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.remote (Dev.tc dv) dst' (.dma sS) hsc) (.dma sR) w1 w2 w3) k) Q) := by
  subst hs hd hdv hsS hsR
  unfold cAny
  iintro ⟨#HI, Hsrc, ⟨%fd, Hdst⟩, Ho, Ht1, #Hr1, Ht2, #Hr2⟩ Hk
  ihave #Hi1 := (inv_cell D K c (some (.snd d (sl q) h))) $$ HI
  ihave #Hi2 := (inv_cell D K (dn d c) (some (.rcv d (sl q) h))) $$ HI
  iapply (Rounds.wp_send_pointsTo 𝒱₀ ER (Rd D) (c : Thread nD τ) none (c' := Dev.tc (dn d c)) (src := commV d (sl (q - 1)) h) (dst := commV d (sl q) h)
      (q := fullShare.left) (fs := D.W (src d (q - 1) c)) (fd := fd) (r₁ := rd q) (r₂ := rd q) (d₁ := 0) (d₂ := 0)
      (κ₁ := K (c, some (.snd d (sl q) h))) (κ₂ := K (dn d c, some (.rcv d (sl q) h)))
      (by rw [duties_cell D c (some (.snd d (sl q) h)), dut_snd h h1 h2]; simp)
      (by show (0 : Fin 8) ∈ (Rd D).duties (cell (dn d c) (some (.rcv d (sl q) h))) (rd q); rw [duties_cell D (dn d c) (some (.rcv d (sl q) h)), dut_rcv h h1 h2]; simp)
      q q NW rfl (amount_cell D c (some (.snd d (sl q) h)) _ _) (amount_cell D (dn d c) (some (.rcv d (sl q) h)) _ _) O hO
      (Entails.of_eq (by rw [payload_cell D c (some (.snd d (sl q) h)), pay_snd D c h 0 h1]; rfl))
      (Entails.of_eq (by
        refine Eq.trans (landed D (dn d c) (src d (q - 1) c) d (sl (q - 1)) (sl q) h fd) (Eq.symm ?_)
        refine (payload_cell D (dn d c) (some (.rcv d (sl q) h)) (rd q) 0).trans ?_
        rw [pay_rcv D (dn d c) h 0 h1]
        have := src_succ_dn d (q - 1) c
        rw [show q - 1 + 1 = q by omega] at this
        rw [this]))) $$ [Hsrc Hdst Ho Ht1 Ht2] [Hk]
  · isplitr; · iexact Hi1
    isplitr; · iexact Hi2
    isplitl [Hsrc]; · unfold cPts; iexact Hsrc
    isplitl [Hdst]; · unfold cPts; iexact Hdst
    isplitl [Ho]; · iexact Ho
    isplitl [Ht1]; · iexact Ht1
    isplitr; · iexact Hr1
    isplitl [Ht2]; · iexact Ht2
    iexact Hr2
  iexact Hk

/-- The first hop of a chain. -/
theorem wp_first (c : Dev nD) (d h : Fin 2)
    {src' dst' : Memref sig .tc .vmem S2x512x1024 .bf16} (hs : src' = commV d 0 h) (hd : dst' = commV d 1 h)
    {dv : Dev nD} (hdv : dv = dn d c)
    {sS sR : DmaSem sig} (hsS : sS = sndS d 1 h) (hsR : sR = rcvS d 1 h)
    {hsc : dst'.view.ref.isScScratch = false} {w1 : src'.view.WordExact} {w2 : dst'.view.WordExact}
    {w3 : DmaTarget.Typed .vmem (.dma sR) (.remote (Dev.tc dv) dst' (.dma sS) hsc)}
    {k : PUnit → Prog (TpuEff nD τ sig (Elt F) Λ₀ .tc) α} (R : CellTallies nD τ sig ℕ) :
    iprop(invs (F := F) D K ∗ rch0 (F := F) ∗ Cs0 D c d h ∗ (∃ Wt, owes (c : Thread nD τ) (R + oc c d h 0) Wt))
      ⊢ iprop(((∃ Wt, owes (c : Thread nD τ) (R + oc c d h 1) Wt) ∗ Cs D c d h 1
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.remote (Dev.tc dv) dst' (.dma sS) hsc) (.dma sR) w1 w2 w3) k) Q) := by
  have hl := three_le_last d
  have ho : R + oc c d h 0 = (R + oc c d h 1) + tallyAt (cell (dn d c) (some (.rcv d (sl 1) h))) 1 NW := by
    unfold oc
    rw [sum_ico_head (by omega : 0 + 1 < last d + 1)]
    simp only [zero_add, max_eq_right (Nat.zero_le 1), max_self]
    abel
  unfold Cs0 Cs
  rw [if_pos (by omega)]
  iintro ⟨#HI, #Hr0, ⟨Hp, Ht, Hsrc, Hdst, Ht1, Ht2⟩, ⟨%Wt, Ho⟩⟩ Hk
  ihave #Hr1 := (rch_cell c (some (.snd d (sl 1) h))) $$ Hr0
  ihave #Hr2 := (rch_cell (dn d c) (some (.rcv d (sl 1) h))) $$ Hr0
  ihave #Hr3 := (rch_cell c (some (.snd d (sl 2) h))) $$ Hr0
  ihave #Hr4 := (rch_cell c (some (.rcv d (sl 2) h))) $$ Hr0
  ihave Hsrc := (cPts_halve c d (sl 0) h _).1 $$ Hsrc
  icases Hsrc with ⟨Hl, Hr⟩
  ihave Hl := (Entails.of_eq (show cPts c d (sl 0) h fullShare.left (D.W c) = cPts c d (sl (1 - 1)) h fullShare.left (D.W (src d (1 - 1) c)) by
    rw [Nat.sub_self, src_zero])) $$ Hl
  iapply (wp_hop D K c d h 1 (by omega) (by omega) hs hd hdv hsS hsR (R + oc c d h 1) ho Wt) $$ [Hl Hdst Ho Ht1 Ht2]
  · isplitr; · iexact HI
    isplitl [Hl]; · iexact Hl
    isplitl [Hdst]; · iexact Hdst
    isplitl [Ho]; · iexact Ho
    isplitl [Ht1]; · iexact Ht1
    isplitr; · iexact Hr1
    isplitl [Ht2]; · iexact Ht2
    iexact Hr2
  iintro ⟨Hc, Ho⟩
  iapply Hk
  isplitl [Ho]; · iexists _; iexact Ho
  isplitl [Hp]; · iexact Hp
  isplitl [Ht]; · iexact Ht
  isplitr; · iexact Hr3
  isplitr; · iexact Hr4
  isplitl [Hr]; · rw [Nat.sub_self, src_zero]; iexact Hr
  iexact Hc

/-- The forward of position `p`: free the slot it came in behind, wait for the next device's slot, start hop `p + 1`. -/
theorem wp_forward (c : Dev nD) (d h : Fin 2) (p : ℕ) (h1 : 1 ≤ p) (h2 : p < last d)
    {du : Dev nD} (hdu : du = up d c) {sF sF' : Sem sig} (hsF : sF = frS d (fi p) h) (hsF' : sF' = frS d (fi p) h)
    {src' dst' : Memref sig .tc .vmem S2x512x1024 .bf16} (hs : src' = commV d (sl p) h) (hd : dst' = commV d (sl (p + 1)) h)
    {dv : Dev nD} (hdv : dv = dn d c)
    {sS sR : DmaSem sig} (hsS : sS = sndS d (sl (p + 1)) h) (hsR : sR = rcvS d (sl (p + 1)) h)
    {hsc : dst'.view.ref.isScScratch = false} {w1 : src'.view.WordExact} {w2 : dst'.view.WordExact}
    {w3 : DmaTarget.Typed .vmem (.dma sR) (.remote (Dev.tc dv) dst' (.dma sS) hsc)}
    {k : PUnit → Prog (TpuEff nD τ sig (Elt F) Λ₀ .tc) α} (R : CellTallies nD τ sig ℕ)
    (hR : Above R (4 * stepT d p + 2 * h.val + 3)) :
    iprop(invs (F := F) D K ∗ rch0 (F := F) ∗ levAts L lv ∗ Ms D c d h p ∗ (∃ Wt, owes (c : Thread nD τ) (R + oc c d h p) Wt))
      ⊢ iprop(((∃ Wt, owes (c : Thread nD τ) (R + oc c d h (p + 1)) Wt) ∗ Cs D c d h (p + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc du) sF 1) fun _ => .op (.semWait sF' 1) fun _ =>
                .op (.enqueueDma src' (.remote (Dev.tc dv) dst' (.dma sS) hsc) (.dma sR) w1 w2 w3) k) Q) := by
  have hl := last_le d
  subst hdu hsF hsF'
  have hA : Above (R + ((∑ q ∈ Finset.Ico (p + 1) (last d + 1), tallyAt (cell (dn d c) (some (.rcv d (sl q) h))) q NW)
      + ∑ q ∈ Finset.Ico (p + 1) (last d), tallyAt (cell (up d c) (some (.fr d (fi q) h))) q 1)) (4 * stepT d p + 2 * h.val + 3) := by
    have hm : ∀ q, p + 1 ≤ q → stepT d p + 1 ≤ stepT d q := fun q hq => by unfold stepT; split <;> omega
    refine hR.add ((Above.sum _ _ fun q hq => above_tally (by have := Finset.mem_Ico.mp hq; omega) ?_).add
      (Above.sum _ _ fun q hq => above_tally (by have := Finset.mem_Ico.mp hq; omega) ?_))
    · have := hm q (Finset.mem_Ico.mp hq).1
      show 4 * stepT d p + 2 * h.val + 3 < 4 * stepT d q + 2 * h.val + 2; omega
    · have := hm q (Finset.mem_Ico.mp hq).1
      show 4 * stepT d p + 2 * h.val + 3 < 4 * stepT d q + 2 * h.val + 3; omega
  have ho1 : R + oc c d h p = (R + ((∑ q ∈ Finset.Ico (p + 1) (last d + 1), tallyAt (cell (dn d c) (some (.rcv d (sl q) h))) q NW)
      + ∑ q ∈ Finset.Ico (p + 1) (last d), tallyAt (cell (up d c) (some (.fr d (fi q) h))) q 1)) + tallyAt (cell (up d c) (some (.fr d (fi p) h))) p 1 := by
    unfold oc
    rw [max_eq_left h1, sum_ico_head h2]
    abel
  have ho2 : (R + ((∑ q ∈ Finset.Ico (p + 1) (last d + 1), tallyAt (cell (dn d c) (some (.rcv d (sl q) h))) q NW)
      + ∑ q ∈ Finset.Ico (p + 1) (last d), tallyAt (cell (up d c) (some (.fr d (fi q) h))) q 1))
      = (R + oc c d h (p + 1)) + tallyAt (cell (dn d c) (some (.rcv d (sl (p + 1)) h))) (p + 1) NW := by
    unfold oc
    rw [max_eq_left (by omega : 1 ≤ p + 1), sum_ico_head (by omega : p + 1 < last d + 1)]
    abel
  unfold Ms Cs Tail
  rw [if_pos (by omega), ico_head h2, min_eq_left h2.le, min_eq_left (by omega), ico_last h1, Nat.add_sub_cancel]
  unfold Fwd Don
  iintro ⟨#HI, #Hr0, #HL, ⟨Hp, ⟨Hr, ⟨⟨Hat, Hcf, Htf, Hts, Htr⟩, Hf⟩, Hd⟩, #H1, #H2, #H3, #H4, Ha, Hb⟩, ⟨%Wt, Ho⟩⟩ Hk
  ihave #Hi1 := (inv_cell D K (up d c) (some (.fr d (fi p) h))) $$ HI
  ihave #Hi2 := (inv_cell D K c (some (.fr d (fi p) h))) $$ HI
  ihave #Hru := (rch_cell (up d c) (some (.fr d (fi p) h))) $$ Hr0
  iapply (Rounds.wp_signal 𝒱₀ ER (Rd D) (c : Thread nD τ) none (dst := Dev.tc (up d c)) (sem := frS d (fi p) h) (r := 0) (κ := K (up d c, some (.fr d (fi p) h)))
      (d := 0) (by show (0 : Fin 8) ∈ (Rd D).duties (cell (up d c) (some (.fr d (fi p) h))) 0; rw [duties_cell D (up d c) (some (.fr d (fi p) h)), dut_fr h h1 h2]; simp)
      (amount_cell D (up d c) (some (.fr d (fi p) h)) 0 0) p _ ho1) $$ [Ho Htf Ha]
  · isplitr; · iexact Hi1
    isplitl [Ho]; · iexact Ho
    isplitl [Htf]; · iexact Htf
    isplitl [Ha]
    · iapply (Entails.of_eq ((payload_cell D (up d c) (some (.fr d (fi p) h)) 0 0).trans ((pay_fr D (up d c) h 0 0 h1 (by omega)).trans
          (by rw [dn_up]))).symm)
      isplitl [Ha]
      · unfold cAny; rw [← sl_pred h1]; iexists _; iexact Ha
      iexact H4
    iexact Hru
  iintro Ho
  iapply (Rounds.wp_wait_rest_token 𝒱₀ ER (Rd D) (c : Thread nD τ) none (κ := K (c, some (.fr d (fi p) h)))
      (wpE_semWait_eq 𝒱₀ (c : Thread nD τ) none Set.univ) (Set.mem_univ _) p (W := Wt) (R := 0) (m := 0) (T := ∅)
      (by rw [expect_cell D c (some (.fr d (fi p) h)), dut_fr h h1 h2]; simp [amt])) $$ [Hcf Ho Hat]
  · isplitr; · iexact Hi2
    isplitl [Hcf]; · iexact Hcf
    isplitl [Ho]; · iexact Ho
    isplitr; · iapply (mayWait_cell c (some (.fr d (fi p) h)) p (by omega) _ hA); iexact HL
    iexact Hat
  iintro ⟨Ho, Hat, -, Hp'⟩
  ihave Hp' := (Entails.of_eq (rest_fr D c h h1 h2)) $$ Hp'
  icases Hp' with ⟨Hdst, #Hrr⟩
  ihave Hb := (cPts_halve c d (sl p) h _).1 $$ Hb
  icases Hb with ⟨Hbl, Hbr⟩
  iapply (wp_hop D K c d h (p + 1) (by omega) (by omega) (by rw [hs, Nat.add_sub_cancel]) hd hdv hsS hsR (R + oc c d h (p + 1)) ho2 _) $$ [Hbl Hdst Ho Hts Htr]
  · isplitr; · iexact HI
    isplitl [Hbl]; · rw [Nat.add_sub_cancel]; iexact Hbl
    isplitl [Hdst]; · iexact Hdst
    isplitl [Ho]; · iexact Ho
    isplitl [Hts]; · iexact Hts
    isplitr; · iexact H1
    isplitl [Htr]; · iexact Htr
    iexact Hrr
  iintro ⟨Hc, Ho⟩
  iapply Hk
  isplitl [Ho]; · iexists _; iexact Ho
  isplitl [Hp]; · iexact Hp
  isplitl [Hr Hf Hd Hat]
  · isplitl [Hr]; · iexact Hr
    isplitl [Hf]; · iexact Hf
    isplitl [Hat]; · iexact Hat
    iexact Hd
  isplitr; · iexact H2
  isplitr; · iexact H3
  isplitl [Hbr]; · iexact Hbr
  iexact Hc

/-- Past its last position a chain stands as it is. -/
theorem Ms_last (c : Dev nD) (d h : Fin 2) : Ms D c d h (last d) ⊢ Cs D c d h (last d + 1) := by
  have hl := three_le_last d
  unfold Ms Cs Pos Tail
  rw [if_neg (by omega), Nat.add_sub_cancel, show last d + 1 + 1 = last d + 2 by omega]
  iintro ⟨Hp, ⟨Hr, Hf, Hd⟩, #H1, #H2, #H3, #H4, Ha, Hb⟩
  ihave Hb := (cPts_halve c d (sl (last d)) h _).1 $$ Hb
  icases Hb with ⟨Hbl, Hbr⟩
  isplitl [Hp]; · iexact Hp
  isplitl [Hr Hf Hd]
  · isplitl [Hr]; · iexact Hr
    isplitl [Hf]; · rw [Finset.Ico_eq_empty (by omega), Finset.Ico_eq_empty (by omega)]; iexact Hf
    rw [min_self, min_eq_right (by omega)]; iexact Hd
  isplitr; · iexact H2
  isplitr; · iexact H3
  isplitl [Hbr]; · iexact Hbr
  isplitl [Hbl]; · iexact Hbl
  unfold cAny
  rw [sl_pred (by omega)]
  iexists _; iexact Ha

end Ops

end Cert.KernelIdealRun

end
-- ==== Proof.KernelIdealRun.KV.lean ====
/-
The key and value copies: starting a head's copy into an idle slot, and draining a slot's eight copies.
-/
module

public import proofs.«01_k».proof.Proof.KernelIdealRun.Chain
public import Idealize.ShloMosaic.Lib.ValueLayout

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-- A buffer where a set of its elements is not. -/
def restOf (ℓ : Loc nD τ sig) (I : Finset (Idx ℓ)) (q : PosShare TreeShare) (f : Buf (Elt F) ℓ) : sProp 𝕄 := ℓ ↦[Finset.univ \ I]{q} f
theorem whole_split (ℓ : Loc nD τ sig) (I : Finset (Idx ℓ)) (q : PosShare TreeShare) (f : Buf (Elt F) ℓ) :
    (ℓ ↦{q} f : sProp 𝕄) ⊣⊢ iprop((ℓ ↦[I]{q} f) ∗ restOf ℓ I q f) := pointsTo_split_subset (Finset.subset_univ _)
/-- A local copy that pays a duty, a frame carried along into the payload. -/
theorem wp_copy_frame {sp sp' : Space} {S : Shape} {e : EltTy} {α : Type} {Q : α → sProp (MT nD τ sig ℕ (Elt F) ℕ UU ℕ)} (c : Dev nD)
    {src : Memref sig .tc sp S e} {dst : Memref sig .tc sp' S e} {sem : SemLoc sig}
    {w1 : src.view.WordExact} {w2 : dst.view.WordExact} {w3 : DmaTarget.Typed (nD := nD) (τ := τ) (p := .tc) sp sem (.here dst)}
    {k : PUnit → Prog (TpuEff nD τ sig (Elt F) Λ₀ .tc) α} {q : PosShare TreeShare} (fs : Buf (Elt F) (src.view.loc (c : Thread nD τ)))
    (fd : Buf (Elt F) (dst.view.loc (c : Thread nD τ))) (R : sProp (MT nD τ sig ℕ (Elt F) ℕ UU ℕ)) {r : ℕ} {d : Fin 8} {κ : ℕ}
    (hd : d ∈ (Rd D).duties ((c : Thread nD τ), sem) r) (N : ℕ) (hN : dst.view.amount sem = N) (hk : (Rd D).amount ((c : Thread nD τ), sem) r d = N)
    (hpay : iprop(((dst.view.loc (c : Thread nD τ) ↦[dst.view.set]{fullShare} (dst.view.write (Elt F) fd (src.view.read (Elt F) fs) Finset.univ)) ∗ R)
              ∗ (src.view.loc (c : Thread nD τ) ↦[src.view.set]{q} fs)) ⊢ (Rd D).payload ((c : Thread nD τ), sem) r d) :
    iprop(cellInv ER (Rd D) κ ((c : Thread nD τ), sem) ∗ (src.view.loc (c : Thread nD τ) ↦[src.view.set]{q} fs)
        ∗ ((dst.view.loc (c : Thread nD τ) ↦[dst.view.set]{fullShare} fd) ∗ R)
        ∗ dutyTok ER ((c : Thread nD τ), sem) r d ∗ reached ER ((c : Thread nD τ), sem) r)
      ⊢ iprop((cred (tallyAt ((c : Thread nD τ), sem) 0 N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sem w1 w2 w3) k) Q) :=
  (sep_mono_right (sep_mono_right (sep_mono_left ((sep_mono_left (pointsTo_writeUpdate (c : Thread nD τ) (v := dst.view) Finset.Subset.rfl)).trans
    (writeUpdate_frame (c : Thread nD τ)))))).trans
    (Rounds.wp_copy 𝒱₀ ER (Rd D) (c : Thread nD τ) none hd 0 N hN hk hpay)

/-! ## Where the views point -/

theorem ix2_eta {a b : ℕ} (x : (⟨2, ![a, b]⟩ : Shape).Idx) : x = ix2 (x 0) (x 1) := by
  funext i; fin_cases i <;> rfl

theorem kb_emb (s : Fin 2) (hh : Fin 8) (x : Fin 1024) (y : Fin 128) :
    (kbV s hh).view.emb (ix2 x y) = (ix4 s hh x y : S2x8x1024x128.Idx) := by
  have h : (kbV s hh).view.emb (ix2 x y) = (kbR s hh).emb (Shape.reshapeEquiv squeezes_S1x1x1024x128_S1024x128.numel_eq (ix2 x y)) := rfl
  rw [h, reshapeEquiv_ix2_11ab]
  funext i; apply Fin.ext
  fin_cases i <;> simp [kbR, ix4, Rect.emb_apply]

theorem kh_emb (b g hh : Fin 8) (x : Fin 1024) (y : Fin 128) (i : S2x8x1024x128.Idx) (h1 : i 1 = hh) (h2 : i 2 = x) (h3 : i 3 = y) :
    (khV b g hh).view.emb (ix2 x y) = hdIdx b g i := by
  have h : (khV b g hh).view.emb (ix2 x y) = (hdR b g hh).emb (Shape.reshapeEquiv squeezes_S1x1024x1x128_S1024x128.numel_eq (ix2 x y)) := rfl
  have hr : Shape.reshapeEquiv squeezes_S1x1024x1x128_S1024x128.numel_eq (ix2 x y)
      = (ix4 (⟨0, Nat.one_pos⟩ : Fin 1) x (⟨0, Nat.one_pos⟩ : Fin 1) y : S1x1024x1x128.Idx) :=
    Shape.reshapeEquiv_eq_of_rowMajor _ (by
      rw [Shape.rowMajor_val_four, Shape.rowMajor_val_two]
      show (((0 * 1024 + x.val) * 1 + 0) * 128 + y.val) = x.val * 128 + y.val
      simp only [Nat.zero_mul, Nat.zero_add, Nat.mul_one, Nat.add_zero])
  rw [h, hr]
  subst h1 h2 h3
  funext j; apply Fin.ext
  fin_cases j <;> simp [hdR, ix4, hdIdx, Rect.emb_apply]

/-- A head landed in its place of the buffer. -/
theorem k_landed (c : Dev nD) (g : Dev nD) (s : Fin 2) (hh : Fin 8) (fd : cc0_scratch1.ty.Contents (Elt F)) :
    (((kbV s hh).view.loc (c : Thread nD τ) ↦[(kbV s hh).view.set]{fullShare}
        ((kbV s hh).view.write (Elt F) fd ((khV c g hh).view.read (Elt F) (D.Ka c)) Finset.univ)) : sProp 𝕄)
      = kPts c s hh (KC D c g) := by
  unfold kPts
  refine pointsTo_congr fun i hi => ?_
  obtain ⟨x, -, rfl⟩ := Finset.mem_map.mp hi
  refine ((kbV s hh).view.write_emb_of_mem (Val := Elt F) fd _ (Finset.mem_univ x)).trans ?_
  have h1 : (kbV s hh).view.emb x = (ix4 s hh (x 0) (x 1) : S2x8x1024x128.Idx) := by
    rw [ix2_eta x]; exact kb_emb s hh (x 0) (x 1)
  have h2 : (khV c g hh).view.emb x = hdIdx c g (ix4 s hh (x 0) (x 1)) := by
    rw [ix2_eta x]; exact kh_emb c g hh _ _ (ix4 s hh (x 0) (x 1)) rfl rfl rfl
  rw [View.read_apply, h1, h2]
  rfl
theorem v_landed (c : Dev nD) (g : Dev nD) (s : Fin 2) (hh : Fin 8) (fd : cc0_scratch2.ty.Contents (Elt F)) :
    (((vbV s hh).view.loc (c : Thread nD τ) ↦[(vbV s hh).view.set]{fullShare}
        ((vbV s hh).view.write (Elt F) fd ((vhV c g hh).view.read (Elt F) (D.Va c)) Finset.univ)) : sProp 𝕄)
      = vPts c s hh (VC D c g) := by
  unfold vPts
  refine pointsTo_congr fun i hi => ?_
  obtain ⟨x, -, rfl⟩ := Finset.mem_map.mp hi
  refine ((vbV s hh).view.write_emb_of_mem (Val := Elt F) fd _ (Finset.mem_univ x)).trans ?_
  have h1 : (vbV s hh).view.emb x = (ix4 s hh (x 0) (x 1) : S2x8x1024x128.Idx) := by
    rw [ix2_eta x]; exact kb_emb s hh (x 0) (x 1)
  have h2 : (vhV c g hh).view.emb x = hdIdx c g (ix4 s hh (x 0) (x 1)) := by
    rw [ix2_eta x]; exact kh_emb c g hh _ _ (ix4 s hh (x 0) (x 1)) rfl rfl rfl
  rw [View.read_apply, h1, h2]
  rfl

/-! ## The key copies -/

/-- The duty tokens of a head from round `r` on. -/
def kToks (c : Dev nD) (s : Fin 2) (hh : Fin 8) (r : ℕ) : sProp 𝕄 :=
  bigSep (Finset.Ico r 4) fun r => dutyTok ER (cell c (some (.kc s))) r hh
/-- A head idle before round `r`, its place at anything; in flight in round `r`. -/
def kIdle (c : Dev nD) (s : Fin 2) (r : ℕ) (hh : Fin 8) : sProp 𝕄 :=
  iprop((∃ f, kPts (F := F) c s hh f) ∗ kTok D c s hh ∗ kToks (F := F) c s hh r)
def kFly (c : Dev nD) (s : Fin 2) (r : ℕ) (hh : Fin 8) : sProp 𝕄 :=
  iprop(cred (tallyAt (cell c (some (.kc s))) 0 NK) ∗ kToks (F := F) c s hh (r + 1))

section Ops
variable {α : Type} {Q : α → sProp (MT nD τ sig ℕ (Elt F) ℕ UU ℕ)}

/-- The head's place once its copy has landed; its keys where the copy reads them, and elsewhere. -/
def kDst (c : Dev nD) (s : Fin 2) (hh : Fin 8) (g : Dev nD) (fd : cc0_scratch1.ty.Contents (Elt F)) : sProp (MT nD τ sig ℕ (Elt F) ℕ UU ℕ) :=
  ((kbV s hh).view.loc (c : Thread nD τ)) ↦[(kbV s hh).view.set]{fullShare}
        ((kbV s hh).view.write (Elt F) fd ((khV c g hh).view.read (Elt F) (D.Ka c)) Finset.univ)
def kSrc (c : Dev nD) (s : Fin 2) (hh : Fin 8) (g : Dev nD) : sProp (MT nD τ sig ℕ (Elt F) ℕ UU ℕ) :=
  ((khV c g hh).view.loc (c : Thread nD τ)) ↦[(khV c g hh).view.set]{ktok s hh} D.Ka c
def kRest (c : Dev nD) (s : Fin 2) (hh : Fin 8) (g : Dev nD) : sProp (MT nD τ sig ℕ (Elt F) ℕ UU ℕ) :=
  restOf ((khV c g hh).view.loc (c : Thread nD τ)) (khV c g hh).view.set (ktok s hh) (D.Ka c)
theorem kTok_split (c : Dev nD) (s : Fin 2) (hh : Fin 8) (g : Dev nD) : kTok D c s hh ⊣⊢ iprop(kSrc D c s hh g ∗ kRest D c s hh g) := by
  unfold kTok kSrc kRest
  exact whole_split ((khV c g hh).view.loc (c : Thread nD τ)) (khV c g hh).view.set (ktok s hh) (D.Ka c)
/-- A landed copy pays its duty. -/
theorem k_paid (c : Dev nD) (s : Fin 2) (hh : Fin 8) (r : ℕ) (g : Dev nD) (hg : g = grp c (2 * r + s.val)) (fd : cc0_scratch1.ty.Contents (Elt F)) :
    iprop((kDst D c s hh g fd ∗ kRest D c s hh g) ∗ kSrc D c s hh g)
      ⊢ (Rd D).payload (cell c (some (.kc s))) r hh := by
  rw [payload_cell D c (some (.kc s)) r hh]
  unfold kDst
  rw [k_landed]
  show _ ⊢ iprop(kPts c s hh (KC D c (grp c (2 * r + s.val))) ∗ kTok D c s hh)
  rw [← hg]
  iintro ⟨⟨Hd, Hrest⟩, Hsrc⟩
  isplitl [Hd]; · iexact Hd
  iapply (kTok_split D c s hh g).2
  isplitl [Hsrc]; · iexact Hsrc
  iexact Hrest
theorem k_credit (s : Fin 2) (hh : Fin 8) : (kbV s hh).view.amount (.dma (kcS s)) = NK := rfl

/-- Starting a head's key copy. -/
theorem wp_kstart (c g : Dev nD) (s : Fin 2) (hh : Fin 8) (r : ℕ) (hr : r < 4) (hg : g = grp c (2 * r + s.val))
    {src' : Memref sig .tc .hbm S1024x128 .f32} {dst' : Memref sig .tc .vmem S1024x128 .f32}
    (hs : src' = khV c g hh) (hd : dst' = kbV s hh) {sm : DmaSem sig} (hsm : sm = kcS s)
    {w1 : src'.view.WordExact} {w2 : dst'.view.WordExact} {w3 : DmaTarget.Typed (nD := nD) (τ := τ) (p := .tc) .hbm (.dma sm) (.here dst')}
    {k : PUnit → Prog (TpuEff nD τ sig (Elt F) Λ₀ .tc) α} :
    iprop(invs (F := F) D K ∗ reached ER (cell c (some (.kc s))) r ∗ kIdle D c s r hh)
      ⊢ iprop((kFly (F := F) c s r hh -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.here dst') (.dma sm) w1 w2 w3) k) Q) := by
  subst hs hd hsm
  unfold kIdle kFly kToks
  rw [ico_head hr]
  iintro ⟨#HI, #Hr, ⟨%fd, Hd⟩, Ht, Hdt, Hts⟩ Hk
  ihave #Hi := (inv_cell D K c (some (.kc s))) $$ HI
  ihave Ht := (kTok_split D c s hh g).1 $$ Ht
  icases Ht with ⟨Hsrc, Hrest⟩
  iapply (wp_copy_frame D c (src := khV c g hh) (dst := kbV s hh)
      (sem := .dma (kcS s)) (R := kRest D c s hh g)
      (q := ktok s hh) (fs := D.Ka c) (fd := fd) (r := r) (d := hh) (κ := K (c, some (.kc s)))
      (by rw [duties_cell D c (some (.kc s)), dut_kc s hr]; simp) NK (k_credit s hh) (amount_cell D c (some (.kc s)) _ _)
      (k_paid D c s hh r g hg fd)) $$ [Hsrc Hd Hrest Hdt] [Hk Hts]
  · isplitr; · iexact Hi
    isplitl [Hsrc]; · unfold kSrc; iexact Hsrc
    isplitl [Hd Hrest]
    · isplitl [Hd]; · unfold kPts; iexact Hd
      iexact Hrest
    isplitl [Hdt]; · iexact Hdt
    iexact Hr
  iintro Hc
  iapply Hk
  isplitl [Hc]; · iexact Hc
  iexact Hts

end Ops

/-! ## The value copies -/

/-- The duty tokens of a head from round `r` on. -/
def vToks (c : Dev nD) (s : Fin 2) (hh : Fin 8) (r : ℕ) : sProp 𝕄 :=
  bigSep (Finset.Ico r 4) fun r => dutyTok ER (cell c (some (.vc s))) r hh
/-- A head idle before round `r`, its place at anything; in flight in round `r`. -/
def vIdle (c : Dev nD) (s : Fin 2) (r : ℕ) (hh : Fin 8) : sProp 𝕄 :=
  iprop((∃ f, vPts (F := F) c s hh f) ∗ vTok D c s hh ∗ vToks (F := F) c s hh r)
def vFly (c : Dev nD) (s : Fin 2) (r : ℕ) (hh : Fin 8) : sProp 𝕄 :=
  iprop(cred (tallyAt (cell c (some (.vc s))) 0 NK) ∗ vToks (F := F) c s hh (r + 1))

section Ops
variable {α : Type} {Q : α → sProp (MT nD τ sig ℕ (Elt F) ℕ UU ℕ)}

/-- The head's place once its copy has landed; its keys where the copy reads them, and elsewhere. -/
def vDst (c : Dev nD) (s : Fin 2) (hh : Fin 8) (g : Dev nD) (fd : cc0_scratch2.ty.Contents (Elt F)) : sProp (MT nD τ sig ℕ (Elt F) ℕ UU ℕ) :=
  ((vbV s hh).view.loc (c : Thread nD τ)) ↦[(vbV s hh).view.set]{fullShare}
        ((vbV s hh).view.write (Elt F) fd ((vhV c g hh).view.read (Elt F) (D.Va c)) Finset.univ)
def vSrc (c : Dev nD) (s : Fin 2) (hh : Fin 8) (g : Dev nD) : sProp (MT nD τ sig ℕ (Elt F) ℕ UU ℕ) :=
  ((vhV c g hh).view.loc (c : Thread nD τ)) ↦[(vhV c g hh).view.set]{ktok s hh} D.Va c
def vRest (c : Dev nD) (s : Fin 2) (hh : Fin 8) (g : Dev nD) : sProp (MT nD τ sig ℕ (Elt F) ℕ UU ℕ) :=
  restOf ((vhV c g hh).view.loc (c : Thread nD τ)) (vhV c g hh).view.set (ktok s hh) (D.Va c)
theorem vTok_split (c : Dev nD) (s : Fin 2) (hh : Fin 8) (g : Dev nD) : vTok D c s hh ⊣⊢ iprop(vSrc D c s hh g ∗ vRest D c s hh g) := by
  unfold vTok vSrc vRest
  exact whole_split ((vhV c g hh).view.loc (c : Thread nD τ)) (vhV c g hh).view.set (ktok s hh) (D.Va c)
/-- A landed copy pays its duty. -/
theorem v_paid (c : Dev nD) (s : Fin 2) (hh : Fin 8) (r : ℕ) (g : Dev nD) (hg : g = grp c (2 * r + s.val)) (fd : cc0_scratch2.ty.Contents (Elt F)) :
    iprop((vDst D c s hh g fd ∗ vRest D c s hh g) ∗ vSrc D c s hh g)
      ⊢ (Rd D).payload (cell c (some (.vc s))) r hh := by
  rw [payload_cell D c (some (.vc s)) r hh]
  unfold vDst
  rw [v_landed]
  show _ ⊢ iprop(vPts c s hh (VC D c (grp c (2 * r + s.val))) ∗ vTok D c s hh)
  rw [← hg]
  iintro ⟨⟨Hd, Hrest⟩, Hsrc⟩
  isplitl [Hd]; · iexact Hd
  iapply (vTok_split D c s hh g).2
  isplitl [Hsrc]; · iexact Hsrc
  iexact Hrest
theorem v_credit (s : Fin 2) (hh : Fin 8) : (vbV s hh).view.amount (.dma (vcS s)) = NK := rfl

/-- Starting a head's value copy. -/
theorem wp_vstart (c g : Dev nD) (s : Fin 2) (hh : Fin 8) (r : ℕ) (hr : r < 4) (hg : g = grp c (2 * r + s.val))
    {src' : Memref sig .tc .hbm S1024x128 .f32} {dst' : Memref sig .tc .vmem S1024x128 .f32}
    (hs : src' = vhV c g hh) (hd : dst' = vbV s hh) {sm : DmaSem sig} (hsm : sm = vcS s)
    {w1 : src'.view.WordExact} {w2 : dst'.view.WordExact} {w3 : DmaTarget.Typed (nD := nD) (τ := τ) (p := .tc) .hbm (.dma sm) (.here dst')}
    {k : PUnit → Prog (TpuEff nD τ sig (Elt F) Λ₀ .tc) α} :
    iprop(invs (F := F) D K ∗ reached ER (cell c (some (.vc s))) r ∗ vIdle D c s r hh)
      ⊢ iprop((vFly (F := F) c s r hh -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.here dst') (.dma sm) w1 w2 w3) k) Q) := by
  subst hs hd hsm
  unfold vIdle vFly vToks
  rw [ico_head hr]
  iintro ⟨#HI, #Hr, ⟨%fd, Hd⟩, Ht, Hdt, Hts⟩ Hk
  ihave #Hi := (inv_cell D K c (some (.vc s))) $$ HI
  ihave Ht := (vTok_split D c s hh g).1 $$ Ht
  icases Ht with ⟨Hsrc, Hrest⟩
  iapply (wp_copy_frame D c (src := vhV c g hh) (dst := vbV s hh)
      (sem := .dma (vcS s)) (R := vRest D c s hh g)
      (q := ktok s hh) (fs := D.Va c) (fd := fd) (r := r) (d := hh) (κ := K (c, some (.vc s)))
      (by rw [duties_cell D c (some (.vc s)), dut_vc s hr]; simp) NK (v_credit s hh) (amount_cell D c (some (.vc s)) _ _)
      (v_paid D c s hh r g hg fd)) $$ [Hsrc Hd Hrest Hdt] [Hk Hts]
  · isplitr; · iexact Hi
    isplitl [Hsrc]; · unfold vSrc; iexact Hsrc
    isplitl [Hd Hrest]
    · isplitl [Hd]; · unfold vPts; iexact Hd
      iexact Hrest
    isplitl [Hdt]; · iexact Hdt
    iexact Hr
  iintro Hc
  iapply Hk
  isplitl [Hc]; · iexact Hc
  iexact Hts

end Ops

/-! ## Draining a slot -/

/-- `i` of a round's eight copies have been waited for; their payloads are held. -/
def Drn (c : Dev nD) (k : Kd) (r i : ℕ) : sProp 𝕄 :=
  iprop(∃ S : Finset (Fin 8), atPos ER (cell c k) r S (i * NK) ∗ bigSep S (pay D c k r))

theorem drn_zero (c : Dev nD) (k : Kd) (r : ℕ) : atPos ER (cell c k) r ∅ 0 ⊢ Drn D c k r 0 := by
  unfold Drn
  iintro H
  iexists ∅
  rw [Nat.zero_mul, bigSep_empty]
  isplitl [H]; · iexact H
  iempintro

/-- A cell of eight duties each round. -/
structure Eight (k : Kd) (r : ℕ) : Prop where
  dut : dut k r = Finset.univ
  amt : amt k = NK
  lvk : lvk k 0 = 0
theorem eight_kc (s : Fin 2) {r : ℕ} (h : r < 4) : Eight (some (.kc s)) r := ⟨dut_kc s h, rfl, rfl⟩
theorem eight_vc (s : Fin 2) {r : ℕ} (h : r < 4) : Eight (some (.vc s)) r := ⟨dut_vc s h, rfl, rfl⟩

section Drain
variable {α : Type} {Q : α → sProp (MT nD τ sig ℕ (Elt F) ℕ UU ℕ)}

/-- One wait, not the last. -/
theorem wp_drain (c : Dev nD) (kd : Kd) (r i : ℕ) (h8 : Eight kd r)
    {src' : Memref sig .tc .hbm S1024x128 .f32} {dst' : Memref sig .tc .vmem S1024x128 .f32}
    (hd : dst'.view.dmaCredit = NK) {sm : DmaSem sig} (hsm : csem kd = .dma sm)
    {w1 : src'.view.WordExact} {w2 : dst'.view.WordExact}
    {k : PUnit → Prog (TpuEff nD τ sig (Elt F) Λ₀ .tc) α} (O : CellTallies nD τ sig ℕ) (hO : Above O 0) :
    iprop(invs (F := F) D K ∗ levAts L lv ∗ cred (tallyAt (cell c kd) 0 NK) ∗ (∃ Wt, owes (c : Thread nD τ) O Wt) ∗ Drn D c kd r i)
      ⊢ iprop(((∃ Wt, owes (c : Thread nD τ) O Wt) ∗ Drn D c kd r (i + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src' dst' w1 w2) k) Q) := by
  have hc : cell c kd = ((c : Thread nD τ), SemLoc.dma sm) := by show ((c : Thread nD τ), csem kd) = _; rw [hsm]
  have hmw : (levAts L lv : sProp 𝕄) ⊢ MayWait (c : Thread nD τ) (SemLoc.dma sm) 0 O := by
    rw [← hsm]; exact mayWait_cell c kd 0 (by omega) O (by rw [h8.lvk]; exact hO)
  have hpay : ∀ d, (Rd D).payload ((c : Thread nD τ), SemLoc.dma sm) r d = pay D c kd r d := fun d => by rw [← hc]; exact payload_cell D c kd r d
  unfold Drn
  iintro ⟨#HI, #HL, Hc, ⟨%Wt, Ho⟩, ⟨%S, Hat, Hp⟩⟩ Hk
  ihave #Hi := (inv_cell D K c kd) $$ HI
  iapply (Rounds.wp_wait 𝒱₀ ER (Rd D) (c : Thread nD τ) none (κ := K (c, kd))
      (wpE_waitDma2_eq 𝒱₀ (c : Thread nD τ) none Set.univ) (Set.mem_univ _) (cr := Finsupp.single 0 NK) (O := O) (W := Wt)
      {(SemLoc.dma sm, 0)} (R := r) (m := i * NK) (T := S) (by rw [hd]; exact Finsupp.sum_single_index rfl)
      (by
        refine (Finset.image_subset_image Finsupp.support_single_subset).trans ?_
        rw [Finset.image_singleton])) $$ [Hc Ho Hat]
  · rw [← hc]
    isplitr; · iexact Hi
    isplitl [Hc]; · iexact Hc
    isplitl [Ho]; · iexact Ho
    isplitr; · iapply hmw; iexact HL
    iexact Hat
  iintro %S' ⟨%hS, Ho, Hat, Hp'⟩
  iapply Hk
  isplitl [Ho]; · iexists _; iexact Ho
  iexists S'
  isplitl [Hat]
  · rw [← hc, hd, Nat.add_mul, Nat.one_mul]; iexact Hat
  iapply (Entails.of_eq (show iprop(bigSep S (pay D c kd r) ∗ bigSep (S' \ S) (fun d => (Rd D).payload ((c : Thread nD τ), SemLoc.dma sm) r d))
      = bigSep S' (pay D c kd r) by
    rw [show (fun d => (Rd D).payload ((c : Thread nD τ), SemLoc.dma sm) r d) = pay D c kd r from funext hpay]
    exact (bigSep_sdiff_split hS.1).symm))
  isplitl [Hp]; · iexact Hp
  iexact Hp'

/-- The last wait: the whole round's payloads, the cell at the next round. -/
theorem wp_drain_last (c : Dev nD) (kd : Kd) (r : ℕ) (h8 : Eight kd r)
    {src' : Memref sig .tc .hbm S1024x128 .f32} {dst' : Memref sig .tc .vmem S1024x128 .f32}
    (hd : dst'.view.dmaCredit = NK) {sm : DmaSem sig} (hsm : csem kd = .dma sm)
    {w1 : src'.view.WordExact} {w2 : dst'.view.WordExact}
    {k : PUnit → Prog (TpuEff nD τ sig (Elt F) Λ₀ .tc) α} (O : CellTallies nD τ sig ℕ) (hO : Above O 0) :
    iprop(invs (F := F) D K ∗ levAts L lv ∗ cred (tallyAt (cell c kd) 0 NK) ∗ (∃ Wt, owes (c : Thread nD τ) O Wt) ∗ Drn D c kd r 7)
      ⊢ iprop(((∃ Wt, owes (c : Thread nD τ) O Wt) ∗ atPos ER (cell c kd) (r + 1) ∅ 0 ∗ reached ER (cell c kd) (r + 1)
              ∗ bigSep Finset.univ (pay D c kd r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src' dst' w1 w2) k) Q) := by
  have hc : cell c kd = ((c : Thread nD τ), SemLoc.dma sm) := by show ((c : Thread nD τ), csem kd) = _; rw [hsm]
  have hmw : (levAts L lv : sProp 𝕄) ⊢ MayWait (c : Thread nD τ) (SemLoc.dma sm) 0 O := by
    rw [← hsm]; exact mayWait_cell c kd 0 (by omega) O (by rw [h8.lvk]; exact hO)
  have hpay : ∀ d, (Rd D).payload ((c : Thread nD τ), SemLoc.dma sm) r d = pay D c kd r d := fun d => by rw [← hc]; exact payload_cell D c kd r d
  have hdut : (Rd D).duties ((c : Thread nD τ), SemLoc.dma sm) r = Finset.univ := by rw [← hc, duties_cell, h8.dut]
  unfold Drn
  iintro ⟨#HI, #HL, Hc, ⟨%Wt, Ho⟩, ⟨%S, Hat, Hp⟩⟩ Hk
  ihave #Hi := (inv_cell D K c kd) $$ HI
  iapply (Rounds.wp_wait_rest_token 𝒱₀ ER (Rd D) (c : Thread nD τ) none (κ := K (c, kd))
      (wpE_waitDma2_eq 𝒱₀ (c : Thread nD τ) none Set.univ) (Set.mem_univ _) 0 (O := O) (W := Wt) (R := r) (m := 7 * NK) (T := S)
      (by rw [← hc, hd, expect_cell, h8.dut, h8.amt]; simp; omega)) $$ [Hc Ho Hat]
  · rw [← hc, hd]
    isplitr; · iexact Hi
    isplitl [Hc]; · iexact Hc
    isplitl [Ho]; · iexact Ho
    isplitr; · iapply hmw; iexact HL
    iexact Hat
  iintro ⟨Ho, Hat, #Hr, Hp'⟩
  iapply Hk
  isplitl [Ho]; · iexists _; iexact Ho
  isplitl [Hat]; · rw [hc]; iexact Hat
  isplitr; · rw [hc]; iexact Hr
  iapply (Entails.of_eq (show iprop(bigSep S (pay D c kd r)
        ∗ bigSep ((Rd D).duties ((c : Thread nD τ), SemLoc.dma sm) r \ S) (fun d => (Rd D).payload ((c : Thread nD τ), SemLoc.dma sm) r d))
      = bigSep Finset.univ (pay D c kd r) by
    rw [show (fun d => (Rd D).payload ((c : Thread nD τ), SemLoc.dma sm) r d) = pay D c kd r from funext hpay, hdut]
    exact (bigSep_sdiff_split (Finset.subset_univ S)).symm))
  isplitl [Hp]; · iexact Hp
  iexact Hp'

end Drain

end Cert.KernelIdealRun

end
-- ==== Proof.KernelIdealRun.Ops.lean ====
/-
The communication half of a trip: the next group's key and value copies, the first hops, the waits and the forwards.
-/
module

public import proofs.«01_k».proof.Proof.KernelIdealRun.KV

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-! ## The key and value copies of a slot, one after the other -/

/-- The heads of a slot, the first `i` in flight, the others idle. -/
def kRun (c : Dev nD) (s : Fin 2) (r i : ℕ) : sProp 𝕄 :=
  bigSep Finset.univ fun hh : Fin 8 => if hh.val < i then kFly (F := F) c s r hh else kIdle D c s r hh
def vRun (c : Dev nD) (s : Fin 2) (r i : ℕ) : sProp 𝕄 :=
  bigSep Finset.univ fun hh : Fin 8 => if hh.val < i then vFly (F := F) c s r hh else vIdle D c s r hh

/-- A family over the heads whose member `hh` changes. -/
theorem run_next (A B : Fin 8 → sProp 𝕄) (hh : Fin 8) :
    (bigSep Finset.univ fun x : Fin 8 => if x.val < hh.val then A x else B x)
      ⊣⊢ iprop(B hh ∗ bigSep (Finset.univ.erase hh) fun x : Fin 8 => if x.val < hh.val then A x else B x) := by
  rw [bigSep_erase (Finset.mem_univ hh), if_neg (lt_irrefl _)]; exact ⟨Entails.refl _, Entails.refl _⟩
theorem run_next' (A B : Fin 8 → sProp 𝕄) (hh : Fin 8) :
    iprop(A hh ∗ bigSep (Finset.univ.erase hh) fun x : Fin 8 => if x.val < hh.val then A x else B x)
      ⊢ bigSep Finset.univ fun x : Fin 8 => if x.val < hh.val + 1 then A x else B x := by
  rw [bigSep_erase (Finset.mem_univ hh) (Φ := fun x : Fin 8 => if x.val < hh.val + 1 then A x else B x), if_pos (Nat.lt_succ_self _)]
  refine sep_mono_right (bigSep_mono fun x hx => ?_)
  have hne : x.val ≠ hh.val := fun h => (Finset.mem_erase.mp hx).1 (Fin.ext h)
  by_cases h : x.val < hh.val
  · simp only [if_pos h, if_pos (show x.val < hh.val + 1 by omega)]; exact Entails.refl _
  · simp only [if_neg h, if_neg (show ¬ x.val < hh.val + 1 by omega)]; exact Entails.refl _

section Starts
variable {α : Type} {Q : α → sProp (MT nD τ sig ℕ (Elt F) ℕ UU ℕ)}

theorem wp_knext (c : Dev nD) (s : Fin 2) (hh : Fin 8) (r : ℕ) (g : Dev nD) (hr : r < 4) (hg : g = grp c (2 * r + s.val))
    {src' : Memref sig .tc .hbm S1024x128 .f32} {dst' : Memref sig .tc .vmem S1024x128 .f32}
    (hs : src' = khV c g hh) (hd : dst' = kbV s hh) {sm : DmaSem sig} (hsm : sm = kcS s)
    {w1 : src'.view.WordExact} {w2 : dst'.view.WordExact} {w3 : DmaTarget.Typed (nD := nD) (τ := τ) (p := .tc) .hbm (.dma sm) (.here dst')}
    {k : PUnit → Prog (TpuEff nD τ sig (Elt F) Λ₀ .tc) α} :
    iprop(invs (F := F) D K ∗ reached ER (cell c (some (.kc s))) r ∗ kRun D c s r hh.val)
      ⊢ iprop((kRun D c s r (hh.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sm) w1 w2 w3) k) Q) := by
  unfold kRun
  iintro ⟨#HI, #Hr, Hk⟩ Hq
  ihave Hk := (run_next (kFly (F := F) c s r) (kIdle D c s r) hh).1 $$ Hk
  icases Hk with ⟨Hk, Hrest⟩
  iapply (wp_kstart D K c g s hh r hr hg hs hd hsm) $$ [Hk]
  · isplitr; · iexact HI
    isplitr; · iexact Hr
    iexact Hk
  iintro Hk
  iapply Hq
  iapply (run_next' (kFly (F := F) c s r) (kIdle D c s r) hh)
  isplitl [Hk]; · iexact Hk
  iexact Hrest

theorem wp_vnext (c : Dev nD) (s : Fin 2) (hh : Fin 8) (r : ℕ) (g : Dev nD) (hr : r < 4) (hg : g = grp c (2 * r + s.val))
    {src' : Memref sig .tc .hbm S1024x128 .f32} {dst' : Memref sig .tc .vmem S1024x128 .f32}
    (hs : src' = vhV c g hh) (hd : dst' = vbV s hh) {sm : DmaSem sig} (hsm : sm = vcS s)
    {w1 : src'.view.WordExact} {w2 : dst'.view.WordExact} {w3 : DmaTarget.Typed (nD := nD) (τ := τ) (p := .tc) .hbm (.dma sm) (.here dst')}
    {k : PUnit → Prog (TpuEff nD τ sig (Elt F) Λ₀ .tc) α} :
    iprop(invs (F := F) D K ∗ reached ER (cell c (some (.vc s))) r ∗ vRun D c s r hh.val)
      ⊢ iprop((vRun D c s r (hh.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sm) w1 w2 w3) k) Q) := by
  unfold vRun
  iintro ⟨#HI, #Hr, Hk⟩ Hq
  ihave Hk := (run_next (vFly (F := F) c s r) (vIdle D c s r) hh).1 $$ Hk
  icases Hk with ⟨Hk, Hrest⟩
  iapply (wp_vstart D K c g s hh r hr hg hs hd hsm) $$ [Hk]
  · isplitr; · iexact HI
    isplitr; · iexact Hr
    iexact Hk
  iintro Hk
  iapply Hq
  iapply (run_next' (vFly (F := F) c s r) (vIdle D c s r) hh)
  isplitl [Hk]; · iexact Hk
  iexact Hrest

end Starts

/-! ## The memrefs and semaphores the printed operations name -/

theorem kb_at {off : Fin 4 → ℕ} {inb : ∀ a, off a + S1x1x1024x128.size a ≤ S2x8x1024x128.size a} (s : Fin 2) (hh : Fin 8)
    (h : off = ![s.val, hh.val, 0, 0]) :
    (kbM.slice (Rect.unit (s := S2x8x1024x128) off S1x1x1024x128.size inb) (fun _ => rfl)).squeeze S1024x128 squeezes_S1x1x1024x128_S1024x128 = kbV s hh := by
  subst h; rfl
theorem vb_at {off : Fin 4 → ℕ} {inb : ∀ a, off a + S1x1x1024x128.size a ≤ S2x8x1024x128.size a} (s : Fin 2) (hh : Fin 8)
    (h : off = ![s.val, hh.val, 0, 0]) :
    (vbM.slice (Rect.unit (s := S2x8x1024x128) off S1x1x1024x128.size inb) (fun _ => rfl)).squeeze S1024x128 squeezes_S1x1x1024x128_S1024x128 = vbV s hh := by
  subst h; rfl
theorem kh_at {off : Fin 4 → ℕ} {inb : ∀ a, off a + S1x1024x1x128.size a ≤ S8x1024x64x128.size a} (b g hh : Fin 8)
    (h : off = ![b.val, 0, 8 * g.val + hh.val, 0]) :
    (KM.slice (Rect.unit (s := S8x1024x64x128) off S1x1024x1x128.size inb) (fun _ => rfl)).squeeze S1024x128 squeezes_S1x1024x1x128_S1024x128 = khV b g hh := by
  subst h; rfl
theorem vh_at {off : Fin 4 → ℕ} {inb : ∀ a, off a + S1x1024x1x128.size a ≤ S8x1024x64x128.size a} (b g hh : Fin 8)
    (h : off = ![b.val, 0, 8 * g.val + hh.val, 0]) :
    (VM.slice (Rect.unit (s := S8x1024x64x128) off S1x1024x1x128.size inb) (fun _ => rfl)).squeeze S1024x128 squeezes_S1x1024x1x128_S1024x128 = vhV b g hh := by
  subst h; rfl
theorem comm_at {off : Fin 5 → ℕ} {inb : ∀ a, off a + S1x1x2x512x1024.size a ≤ S2x2x2x1024x1024.size a} (d s h : Fin 2)
    (e : off = ![d.val, s.val, 0, 512 * h.val, 0]) :
    (commM.slice (Rect.unit (s := S2x2x2x1024x1024) off S1x1x2x512x1024.size inb) (fun _ => rfl)).squeeze S2x512x1024 squeezes_S1x1x2x512x1024_S2x512x1024 = commV d s h := by
  subst e; rfl
theorem kc_at {off : Fin 1 → ℕ} {inb : ∀ a, off a + S1.size a ≤ S2.size a} (s : Fin 2) (h : off = ![s.val]) :
    ((cc0_scratch6.slice (Rect.unit (s := S2) off S1.size inb)).squeeze S_ squeezes_S1_S_).sem = kcS s := by
  subst h; revert s; decide
theorem vc_at {off : Fin 1 → ℕ} {inb : ∀ a, off a + S1.size a ≤ S2.size a} (s : Fin 2) (h : off = ![s.val]) :
    ((cc0_scratch7.slice (Rect.unit (s := S2) off S1.size inb)).squeeze S_ squeezes_S1_S_).sem = vcS s := by
  subst h; revert s; decide
theorem snd_at {off : Fin 3 → ℕ} {inb : ∀ a, off a + S1x1x1.size a ≤ S2x2x2.size a} (d s h : Fin 2) (e : off = ![d.val, s.val, h.val]) :
    ((cc0_scratch4.slice (Rect.unit (s := S2x2x2) off S1x1x1.size inb)).squeeze S_ squeezes_S1x1x1_S_).sem = sndS d s h := by
  subst e; revert d s h; decide
theorem rcv_at {off : Fin 3 → ℕ} {inb : ∀ a, off a + S1x1x1.size a ≤ S2x2x2.size a} (d s h : Fin 2) (e : off = ![d.val, s.val, h.val]) :
    ((cc0_scratch5.slice (Rect.unit (s := S2x2x2) off S1x1x1.size inb)).squeeze S_ squeezes_S1x1x1_S_).sem = rcvS d s h := by
  subst e; revert d s h; decide
theorem fr_at {off : Fin 3 → ℕ} {inb : ∀ a, off a + S1x1x1.size a ≤ S2x3x2.size a} (d : Fin 2) (p : Fin 3) (h : Fin 2) (e : off = ![d.val, p.val, h.val]) :
    ((cc0_scratch8.slice (Rect.unit (s := S2x3x2) off S1x1x1.size inb)).squeeze S_ squeezes_S1x1x1_S_).sem = frS d p h := by
  subst e; revert d p h; decide
/-- A half's credit. -/
theorem comm_credit (off : Fin 5 → ℕ) (inb : ∀ a, off a + S1x1x2x512x1024.size a ≤ S2x2x2x1024x1024.size a) :
    ((commM.slice (Rect.unit (s := S2x2x2x1024x1024) off S1x1x2x512x1024.size inb) (fun _ => rfl)).squeeze S2x512x1024 squeezes_S1x1x2x512x1024_S2x512x1024).view.dmaCredit = NW := rfl

end Cert.KernelIdealRun

end
-- ==== Proof.KernelIdealRun.Pref.lean ====
/-
The parts of the kernel's body that start the key and value copies of a group.
-/
module

public import proofs.«01_k».proof.Proof.KernelIdealRun.Ops

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

theorem wp_part3 (c : Dev nD) (t : Fin k0_t1_loop.trips) (h1 : k0_cond1 t = 1#1) (s : Fin 2) (r : ℕ) (g : Dev nD) (hr : r < 4) (hs : s.val = (t.val + 1) % 2) (hg : g = grp c (2 * r + s.val)) (hg' : g = grp c (t.val + 1)) (v926 : BitVec 32) {Φ : PUnit → sProp (MT nD τ sig ℕ (Elt F) ℕ UU ℕ)} :
    iprop(invs (F := F) D K ∗ reached ER (cell c (some (.kc s))) r ∗ reached ER (cell c (some (.vc s))) r ∗ kRun D c s r 0 ∗ vRun D c s r 0)
      ⊢ iprop((kRun D c s r 2 ∗ vRun D c s r 2 -∗ Φ ⟨⟩) -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c t h1 v926) Φ) := by
  have h4 : ∀ hh : Fin 8, k0_off4 c t (BitVec.ofNat 32 hh.val) = ![c.val, 0, 8 * g.val + hh.val, 0] := fun hh => by
    rw [hg']; exact off4_eq c t ((cond1_iff t).mp h1) hh
  have h2 : k0_off2 t = ![s.val] := by rw [k0_off2_eq, hs]
  rw [k0_part3_eq_skeleton]
  unfold k0_part3_skel
  simp only [Prog.lift, Prog.bind_op, Prog.bind_ret, Prog.pure_eq_ret]
  iintro ⟨#HI, #Hrk, #Hrv, Hk, Hv⟩ Hq
  iapply (wp_knext D K _ _ 0 r _ hr hg (kh_at _ _ 0 (h4 0)) (kb_at _ 0 ((k0_off3_eq t).trans (by rw [← hs]; rfl))) (kc_at _ h2)) $$ [Hk]
  · isplitr; · iexact HI
    isplitr; · iexact Hrk
    iexact Hk
  iintro Hk
  iapply (wp_vnext D K _ _ 0 r _ hr hg (vh_at _ _ 0 (h4 0)) (vb_at _ 0 ((k0_off3_eq t).trans (by rw [← hs]; rfl))) (vc_at _ h2)) $$ [Hv]
  · isplitr; · iexact HI
    isplitr; · iexact Hrv
    iexact Hv
  iintro Hv
  iapply (wp_knext D K _ _ 1 r _ hr hg (kh_at _ _ 1 (h4 1)) (kb_at _ 1 ((k0_off5_eq t).trans (by rw [← hs]; rfl))) (kc_at _ h2)) $$ [Hk]
  · isplitr; · iexact HI
    isplitr; · iexact Hrk
    iexact Hk
  iintro Hk
  iapply (wp_vnext D K _ _ 1 r _ hr hg (vh_at _ _ 1 (h4 1)) (vb_at _ 1 ((k0_off5_eq t).trans (by rw [← hs]; rfl))) (vc_at _ h2)) $$ [Hv]
  · isplitr; · iexact HI
    isplitr; · iexact Hrv
    iexact Hv
  iintro Hv
  rw [wp_ret]
  imodintro
  iapply Hq
  isplitl [Hk]; · iexact Hk
  iexact Hv

theorem wp_part4 (c : Dev nD) (t : Fin k0_t1_loop.trips) (h1 : k0_cond1 t = 1#1) (s : Fin 2) (r : ℕ) (g : Dev nD) (hr : r < 4) (hs : s.val = (t.val + 1) % 2) (hg : g = grp c (2 * r + s.val)) (hg' : g = grp c (t.val + 1)) {Φ : PUnit → sProp (MT nD τ sig ℕ (Elt F) ℕ UU ℕ)} :
    iprop(invs (F := F) D K ∗ reached ER (cell c (some (.kc s))) r ∗ reached ER (cell c (some (.vc s))) r ∗ kRun D c s r 2 ∗ vRun D c s r 2)
      ⊢ iprop((kRun D c s r 5 ∗ vRun D c s r 4 -∗ Φ ⟨⟩) -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c t h1) Φ) := by
  have h4 : ∀ hh : Fin 8, k0_off4 c t (BitVec.ofNat 32 hh.val) = ![c.val, 0, 8 * g.val + hh.val, 0] := fun hh => by
    rw [hg']; exact off4_eq c t ((cond1_iff t).mp h1) hh
  have h2 : k0_off2 t = ![s.val] := by rw [k0_off2_eq, hs]
  rw [k0_part4_eq_skeleton]
  unfold k0_part4_skel
  simp only [Prog.lift, Prog.bind_op, Prog.bind_ret, Prog.pure_eq_ret]
  iintro ⟨#HI, #Hrk, #Hrv, Hk, Hv⟩ Hq
  iapply (wp_knext D K _ _ 2 r _ hr hg (kh_at _ _ 2 (h4 2)) (kb_at _ 2 ((k0_off6_eq t).trans (by rw [← hs]; rfl))) (kc_at _ h2)) $$ [Hk]
  · isplitr; · iexact HI
    isplitr; · iexact Hrk
    iexact Hk
  iintro Hk
  iapply (wp_vnext D K _ _ 2 r _ hr hg (vh_at _ _ 2 (h4 2)) (vb_at _ 2 ((k0_off6_eq t).trans (by rw [← hs]; rfl))) (vc_at _ h2)) $$ [Hv]
  · isplitr; · iexact HI
    isplitr; · iexact Hrv
    iexact Hv
  iintro Hv
  iapply (wp_knext D K _ _ 3 r _ hr hg (kh_at _ _ 3 (h4 3)) (kb_at _ 3 ((k0_off7_eq t).trans (by rw [← hs]; rfl))) (kc_at _ h2)) $$ [Hk]
  · isplitr; · iexact HI
    isplitr; · iexact Hrk
    iexact Hk
  iintro Hk
  iapply (wp_vnext D K _ _ 3 r _ hr hg (vh_at _ _ 3 (h4 3)) (vb_at _ 3 ((k0_off7_eq t).trans (by rw [← hs]; rfl))) (vc_at _ h2)) $$ [Hv]
  · isplitr; · iexact HI
    isplitr; · iexact Hrv
    iexact Hv
  iintro Hv
  iapply (wp_knext D K _ _ 4 r _ hr hg (kh_at _ _ 4 (h4 4)) (kb_at _ 4 ((k0_off8_eq t).trans (by rw [← hs]; rfl))) (kc_at _ h2)) $$ [Hk]
  · isplitr; · iexact HI
    isplitr; · iexact Hrk
    iexact Hk
  iintro Hk
  rw [wp_ret]
  imodintro
  iapply Hq
  isplitl [Hk]; · iexact Hk
  iexact Hv

theorem wp_part5 (c : Dev nD) (t : Fin k0_t1_loop.trips) (h1 : k0_cond1 t = 1#1) (s : Fin 2) (r : ℕ) (g : Dev nD) (hr : r < 4) (hs : s.val = (t.val + 1) % 2) (hg : g = grp c (2 * r + s.val)) (hg' : g = grp c (t.val + 1)) {Φ : PUnit → sProp (MT nD τ sig ℕ (Elt F) ℕ UU ℕ)} :
    iprop(invs (F := F) D K ∗ reached ER (cell c (some (.kc s))) r ∗ reached ER (cell c (some (.vc s))) r ∗ kRun D c s r 5 ∗ vRun D c s r 4)
      ⊢ iprop((kRun D c s r 7 ∗ vRun D c s r 7 -∗ Φ ⟨⟩) -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c t h1) Φ) := by
  have h4 : ∀ hh : Fin 8, k0_off4 c t (BitVec.ofNat 32 hh.val) = ![c.val, 0, 8 * g.val + hh.val, 0] := fun hh => by
    rw [hg']; exact off4_eq c t ((cond1_iff t).mp h1) hh
  have h2 : k0_off2 t = ![s.val] := by rw [k0_off2_eq, hs]
  rw [k0_part5_eq_skeleton]
  unfold k0_part5_skel
  simp only [Prog.lift, Prog.bind_op, Prog.bind_ret, Prog.pure_eq_ret]
  iintro ⟨#HI, #Hrk, #Hrv, Hk, Hv⟩ Hq
  iapply (wp_vnext D K _ _ 4 r _ hr hg (vh_at _ _ 4 (h4 4)) (vb_at _ 4 ((k0_off8_eq t).trans (by rw [← hs]; rfl))) (vc_at _ h2)) $$ [Hv]
  · isplitr; · iexact HI
    isplitr; · iexact Hrv
    iexact Hv
  iintro Hv
  iapply (wp_knext D K _ _ 5 r _ hr hg (kh_at _ _ 5 (h4 5)) (kb_at _ 5 ((k0_off9_eq t).trans (by rw [← hs]; rfl))) (kc_at _ h2)) $$ [Hk]
  · isplitr; · iexact HI
    isplitr; · iexact Hrk
    iexact Hk
  iintro Hk
  iapply (wp_vnext D K _ _ 5 r _ hr hg (vh_at _ _ 5 (h4 5)) (vb_at _ 5 ((k0_off9_eq t).trans (by rw [← hs]; rfl))) (vc_at _ h2)) $$ [Hv]
  · isplitr; · iexact HI
    isplitr; · iexact Hrv
    iexact Hv
  iintro Hv
  iapply (wp_knext D K _ _ 6 r _ hr hg (kh_at _ _ 6 (h4 6)) (kb_at _ 6 ((k0_off10_eq t).trans (by rw [← hs]; rfl))) (kc_at _ h2)) $$ [Hk]
  · isplitr; · iexact HI
    isplitr; · iexact Hrk
    iexact Hk
  iintro Hk
  iapply (wp_vnext D K _ _ 6 r _ hr hg (vh_at _ _ 6 (h4 6)) (vb_at _ 6 ((k0_off10_eq t).trans (by rw [← hs]; rfl))) (vc_at _ h2)) $$ [Hv]
  · isplitr; · iexact HI
    isplitr; · iexact Hrv
    iexact Hv
  iintro Hv
  rw [wp_ret]
  imodintro
  iapply Hq
  isplitl [Hk]; · iexact Hk
  iexact Hv

theorem wp_part27 (c : Dev nD) (s : Fin 2) (r : ℕ) (g : Dev nD) (hr : r < 4) (hs : s = 0) (hg : g = grp c (2 * r + s.val)) (hg' : g = c) (v2 v51 : BitVec 32) {Φ : PUnit → sProp (MT nD τ sig ℕ (Elt F) ℕ UU ℕ)} :
    iprop(invs (F := F) D K ∗ reached ER (cell c (some (.kc s))) r ∗ reached ER (cell c (some (.vc s))) r ∗ kRun D c s r 0 ∗ vRun D c s r 0)
      ⊢ iprop((kRun D c s r 1 ∗ vRun D c s r 1 -∗ Φ ⟨⟩) -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v51) Φ) := by
  subst hs hg'
  rw [k0_part27_eq_skeleton]
  unfold k0_part27_skel
  simp only [Prog.lift, Prog.bind_op, Prog.bind_ret, Prog.pure_eq_ret]
  iintro ⟨#HI, #Hrk, #Hrv, Hk, Hv⟩ Hq
  iapply (wp_knext D K _ _ 0 r _ hr hg (kh_at _ _ 0 (k0_off1_eq _ 0)) (kb_at _ 0 rfl) (kc_at _ rfl)) $$ [Hk]
  · isplitr; · iexact HI
    isplitr; · iexact Hrk
    iexact Hk
  iintro Hk
  iapply (wp_vnext D K _ _ 0 r _ hr hg (vh_at _ _ 0 (k0_off1_eq _ 0)) (vb_at _ 0 rfl) (vc_at _ rfl)) $$ [Hv]
  · isplitr; · iexact HI
    isplitr; · iexact Hrv
    iexact Hv
  iintro Hv
  rw [wp_ret]
  imodintro
  iapply Hq
  isplitl [Hk]; · iexact Hk
  iexact Hv

theorem wp_part28 (c : Dev nD) (s : Fin 2) (r : ℕ) (g : Dev nD) (hr : r < 4) (hs : s = 0) (hg : g = grp c (2 * r + s.val)) (hg' : g = c) {Φ : PUnit → sProp (MT nD τ sig ℕ (Elt F) ℕ UU ℕ)} :
    iprop(invs (F := F) D K ∗ reached ER (cell c (some (.kc s))) r ∗ reached ER (cell c (some (.vc s))) r ∗ kRun D c s r 1 ∗ vRun D c s r 1)
      ⊢ iprop((kRun D c s r 4 ∗ vRun D c s r 3 -∗ Φ ⟨⟩) -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Φ) := by
  subst hs hg'
  rw [k0_part28_eq_skeleton]
  unfold k0_part28_skel
  simp only [Prog.lift, Prog.bind_op, Prog.bind_ret, Prog.pure_eq_ret]
  iintro ⟨#HI, #Hrk, #Hrv, Hk, Hv⟩ Hq
  iapply (wp_knext D K _ _ 1 r _ hr hg (kh_at _ _ 1 (k0_off1_eq _ 1)) (kb_at _ 1 rfl) (kc_at _ rfl)) $$ [Hk]
  · isplitr; · iexact HI
    isplitr; · iexact Hrk
    iexact Hk
  iintro Hk
  iapply (wp_vnext D K _ _ 1 r _ hr hg (vh_at _ _ 1 (k0_off1_eq _ 1)) (vb_at _ 1 rfl) (vc_at _ rfl)) $$ [Hv]
  · isplitr; · iexact HI
    isplitr; · iexact Hrv
    iexact Hv
  iintro Hv
  iapply (wp_knext D K _ _ 2 r _ hr hg (kh_at _ _ 2 (k0_off1_eq _ 2)) (kb_at _ 2 rfl) (kc_at _ rfl)) $$ [Hk]
  · isplitr; · iexact HI
    isplitr; · iexact Hrk
    iexact Hk
  iintro Hk
  iapply (wp_vnext D K _ _ 2 r _ hr hg (vh_at _ _ 2 (k0_off1_eq _ 2)) (vb_at _ 2 rfl) (vc_at _ rfl)) $$ [Hv]
  · isplitr; · iexact HI
    isplitr; · iexact Hrv
    iexact Hv
  iintro Hv
  iapply (wp_knext D K _ _ 3 r _ hr hg (kh_at _ _ 3 (k0_off1_eq _ 3)) (kb_at _ 3 rfl) (kc_at _ rfl)) $$ [Hk]
  · isplitr; · iexact HI
    isplitr; · iexact Hrk
    iexact Hk
  iintro Hk
  rw [wp_ret]
  imodintro
  iapply Hq
  isplitl [Hk]; · iexact Hk
  iexact Hv

theorem wp_part29 (c : Dev nD) (s : Fin 2) (r : ℕ) (g : Dev nD) (hr : r < 4) (hs : s = 0) (hg : g = grp c (2 * r + s.val)) (hg' : g = c) {Φ : PUnit → sProp (MT nD τ sig ℕ (Elt F) ℕ UU ℕ)} :
    iprop(invs (F := F) D K ∗ reached ER (cell c (some (.kc s))) r ∗ reached ER (cell c (some (.vc s))) r ∗ kRun D c s r 4 ∗ vRun D c s r 3)
      ⊢ iprop((kRun D c s r 6 ∗ vRun D c s r 5 -∗ Φ ⟨⟩) -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Φ) := by
  subst hs hg'
  rw [k0_part29_eq_skeleton]
  unfold k0_part29_skel
  simp only [Prog.lift, Prog.bind_op, Prog.bind_ret, Prog.pure_eq_ret]
  iintro ⟨#HI, #Hrk, #Hrv, Hk, Hv⟩ Hq
  iapply (wp_vnext D K _ _ 3 r _ hr hg (vh_at _ _ 3 (k0_off1_eq _ 3)) (vb_at _ 3 rfl) (vc_at _ rfl)) $$ [Hv]
  · isplitr; · iexact HI
    isplitr; · iexact Hrv
    iexact Hv
  iintro Hv
  iapply (wp_knext D K _ _ 4 r _ hr hg (kh_at _ _ 4 (k0_off1_eq _ 4)) (kb_at _ 4 rfl) (kc_at _ rfl)) $$ [Hk]
  · isplitr; · iexact HI
    isplitr; · iexact Hrk
    iexact Hk
  iintro Hk
  iapply (wp_vnext D K _ _ 4 r _ hr hg (vh_at _ _ 4 (k0_off1_eq _ 4)) (vb_at _ 4 rfl) (vc_at _ rfl)) $$ [Hv]
  · isplitr; · iexact HI
    isplitr; · iexact Hrv
    iexact Hv
  iintro Hv
  iapply (wp_knext D K _ _ 5 r _ hr hg (kh_at _ _ 5 (k0_off1_eq _ 5)) (kb_at _ 5 rfl) (kc_at _ rfl)) $$ [Hk]
  · isplitr; · iexact HI
    isplitr; · iexact Hrk
    iexact Hk
  iintro Hk
  rw [wp_ret]
  imodintro
  iapply Hq
  isplitl [Hk]; · iexact Hk
  iexact Hv

theorem wp_part30 (c : Dev nD) (s : Fin 2) (r : ℕ) (g : Dev nD) (hr : r < 4) (hs : s = 0) (hg : g = grp c (2 * r + s.val)) (hg' : g = c) {Φ : PUnit → sProp (MT nD τ sig ℕ (Elt F) ℕ UU ℕ)} :
    iprop(invs (F := F) D K ∗ reached ER (cell c (some (.kc s))) r ∗ reached ER (cell c (some (.vc s))) r ∗ kRun D c s r 6 ∗ vRun D c s r 5)
      ⊢ iprop((kRun D c s r 8 ∗ vRun D c s r 7 -∗ Φ ⟨⟩) -∗ wp frame (wpE (defs₀ (F := F)) 𝒱₀ (c : Thread nD τ) none) Set.univ (k0_part30 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Φ) := by
  subst hs hg'
  rw [k0_part30_eq_skeleton]
  unfold k0_part30_skel
  simp only [Prog.lift, Prog.bind_op, Prog.bind_ret, Prog.pure_eq_ret]
  iintro ⟨#HI, #Hrk, #Hrv, Hk, Hv⟩ Hq
  iapply (wp_vnext D K _ _ 5 r _ hr hg (vh_at _ _ 5 (k0_off1_eq _ 5)) (vb_at _ 5 rfl) (vc_at _ rfl)) $$ [Hv]
  · isplitr; · iexact HI
    isplitr; · iexact Hrv
    iexact Hv
  iintro Hv
  iapply (wp_knext D K _ _ 6 r _ hr hg (kh_at _ _ 6 (k0_off1_eq _ 6)) (kb_at _ 6 rfl) (kc_at _ rfl)) $$ [Hk]
  · isplitr; · iexact HI
    isplitr; · iexact Hrk
    iexact Hk
  iintro Hk
  iapply (wp_vnext D K _ _ 6 r _ hr hg (vh_at _ _ 6 (k0_off1_eq _ 6)) (vb_at _ 6 rfl) (vc_at _ rfl)) $$ [Hv]
  · isplitr; · iexact HI
    isplitr; · iexact Hrv
    iexact Hv
  iintro Hv
  iapply (wp_knext D K _ _ 7 r _ hr hg (kh_at _ _ 7 (k0_off1_eq _ 7)) (kb_at _ 7 rfl) (kc_at _ rfl)) $$ [Hk]
  · isplitr; · iexact HI
    isplitr; · iexact Hrk
    iexact Hk
  iintro Hk
  rw [wp_ret]
  imodintro
  iapply Hq
  isplitl [Hk]; · iexact Hk
  iexact Hv

end Cert.KernelIdealRun

end
-- ==== Proof.KernelIdealRun.Comm.lean ====
/-
The communication half of a trip: the next group's key and value copies, the first hops, the waits and the forwards.
-/
module

public import proofs.«01_k».proof.Proof.KernelIdealRun.Pref

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-! ## The slots -/

/-- A slot in flight in round `r`, and one idle before round `r`. -/
def SF (c : Dev nD) (s : Fin 2) (r : ℕ) : sProp 𝕄 :=
  iprop(atPos ER (cell c (some (.kc s))) r ∅ 0 ∗ atPos ER (cell c (some (.vc s))) r ∅ 0 ∗ kRun D c s r 8 ∗ vRun D c s r 8)
def SI (c : Dev nD) (s : Fin 2) (r : ℕ) : sProp 𝕄 :=
  iprop(atPos ER (cell c (some (.kc s))) r ∅ 0 ∗ atPos ER (cell c (some (.vc s))) r ∅ 0
    ∗ reached ER (cell c (some (.kc s))) r ∗ reached ER (cell c (some (.vc s))) r ∗ kRun D c s r 0 ∗ vRun D c s r 0)
/-- The slot of trip `t`, its copies in flight (past the last trip, idle). -/
def SX (c : Dev nD) (t : ℕ) : sProp 𝕄 := if t < 8 then SF D c (sl t) (t / 2) else SI D c (sl t) (t / 2)

/-! ## The chains between trips -/

def Ch (c : Dev nD) (t : ℕ) : sProp 𝕄 :=
  if t = 0 then iprop(Cs0 D c 0 0 ∗ Cs0 D c 0 1 ∗ Cs0 D c 1 0 ∗ Cs0 D c 1 1)
  else iprop(Cs D c 0 0 (nextP 0 t) ∗ Cs D c 0 1 (nextP 0 t) ∗ Cs D c 1 0 (nextP 1 t) ∗ Cs D c 1 1 (nextP 1 t))
def Ow (c : Dev nD) (t : ℕ) : CellTallies nD τ sig ℕ :=
  (oc c 0 0 (nextP 0 t) + oc c 0 1 (nextP 0 t)) + (oc c 1 0 (nextP 1 t) + oc c 1 1 (nextP 1 t))
/-- The way a trip does not handle. -/
def ot (d : Fin 2) : Fin 2 := if d = 0 then 1 else 0

theorem ow_dir (c : Dev nD) (d : Fin 2) (t : ℕ) :
    Ow c t = (oc c d 0 (nextP d t) + oc c d 1 (nextP d t)) + (oc c (ot d) 0 (nextP (ot d) t) + oc c (ot d) 1 (nextP (ot d) t)) := by
  unfold Ow
  rcases (show d = 0 ∨ d = 1 by revert d; decide) with rfl | rfl
  · rfl
  · exact add_comm _ _
theorem ch_dir (c : Dev nD) (d : Fin 2) (t : ℕ) (h : t ≠ 0) :
    Ch D c t ⊣⊢ iprop((Cs D c d 0 (nextP d t) ∗ Cs D c d 1 (nextP d t)) ∗ (Cs D c (ot d) 0 (nextP (ot d) t) ∗ Cs D c (ot d) 1 (nextP (ot d) t))) := by
  unfold Ch
  rw [if_neg h]
  rcases (show d = 0 ∨ d = 1 by revert d; decide) with rfl | rfl
  · constructor
    · iintro ⟨H1, H2, H3, H4⟩
      isplitl [H1 H2]; · isplitl [H1]; · iexact H1
                         iexact H2
      isplitl [H3]; · iexact H3
      iexact H4
    · iintro ⟨⟨H1, H2⟩, H3, H4⟩
      isplitl [H1]; · iexact H1
      isplitl [H2]; · iexact H2
      isplitl [H3]; · iexact H3
      iexact H4
  · constructor
    · iintro ⟨H1, H2, H3, H4⟩
      isplitl [H3 H4]; · isplitl [H3]; · iexact H3
                         iexact H4
      isplitl [H1]; · iexact H1
      iexact H2
    · iintro ⟨⟨H1, H2⟩, H3, H4⟩
      isplitl [H3]; · iexact H3
      isplitl [H4]; · iexact H4
      isplitl [H1]; · iexact H1
      iexact H2

theorem nextP_dir {t : ℕ} (h1 : 1 ≤ t) (h8 : t < 8) : nextP (dirT t) t = posT t := by
  interval_cases t <;> decide
theorem nextP_dir' {t : ℕ} (h1 : 1 ≤ t) (h8 : t < 8) : nextP (dirT t) (t + 1) = posT t + 1 := by
  interval_cases t <;> decide
theorem nextP_ot {t : ℕ} (h1 : 1 ≤ t) (h8 : t < 8) : nextP (ot (dirT t)) (t + 1) = nextP (ot (dirT t)) t := by
  interval_cases t <;> decide
theorem step_ot {t : ℕ} (h1 : 1 ≤ t) (h8 : t < 8) :
    t < stepT (ot (dirT t)) (nextP (ot (dirT t)) t + 1) ∧ t < stepT (ot (dirT t)) (max (nextP (ot (dirT t)) t) 1) := by
  interval_cases t <;> decide
theorem step_dir {t : ℕ} (h1 : 1 ≤ t) (h8 : t < 8) : stepT (dirT t) (posT t) = t ∧ t < stepT (dirT t) (posT t + 1) := by
  interval_cases t <;> decide
theorem pos_range {t : ℕ} (h1 : 1 ≤ t) (h8 : t < 8) :
    1 ≤ posT t ∧ posT t ≤ last (dirT t) ∧ (t ≤ 5 → posT t < last (dirT t)) ∧ (6 ≤ t → posT t = last (dirT t)) := by
  interval_cases t <;> decide
theorem oc_last (c : Dev nD) (d h : Fin 2) : oc c d h (last d) = oc c d h (last d + 1) := by
  unfold oc
  rw [Finset.Ico_eq_empty (by omega), Finset.Ico_eq_empty (by omega), Finset.Ico_eq_empty (by omega), Finset.Ico_eq_empty (by omega)]

/-- The levels of what is owed beside the chain a trip waits on. -/
theorem above_first (c : Dev nD) {t : ℕ} (h1 : 1 ≤ t) (h8 : t < 8) :
    Above (oc c (dirT t) 1 (posT t) + (oc c (ot (dirT t)) 0 (nextP (ot (dirT t)) t) + oc c (ot (dirT t)) 1 (nextP (ot (dirT t)) t)))
      (4 * stepT (dirT t) (posT t) + 2 * (0 : Fin 2).val + 3) := by
  obtain ⟨ho1, ho2⟩ := step_ot h1 h8
  obtain ⟨hd1, hd2⟩ := step_dir h1 h8
  have hp := (pos_range h1 h8).1
  rw [hd1]
  have h00 : (0 : Fin 2).val = 0 := rfl
  have h11 : (1 : Fin 2).val = 1 := rfl
  refine (above_oc ?_ ?_).add ((above_oc ?_ ?_).add (above_oc ?_ ?_))
  · omega
  · rw [max_eq_left hp, hd1]; omega
  all_goals omega
theorem above_second (c : Dev nD) {t : ℕ} (h1 : 1 ≤ t) (h8 : t < 8) :
    Above (oc c (dirT t) 0 (posT t + 1) + (oc c (ot (dirT t)) 0 (nextP (ot (dirT t)) t) + oc c (ot (dirT t)) 1 (nextP (ot (dirT t)) t)))
      (4 * stepT (dirT t) (posT t) + 2 * (1 : Fin 2).val + 3) := by
  obtain ⟨ho1, ho2⟩ := step_ot h1 h8
  obtain ⟨hd1, hd2⟩ := step_dir h1 h8
  have hp := (pos_range h1 h8).1
  have hm : stepT (dirT t) (posT t + 1) < stepT (dirT t) (posT t + 1 + 1) := by unfold stepT; split <;> omega
  rw [hd1]
  have h00 : (0 : Fin 2).val = 0 := rfl
  have h11 : (1 : Fin 2).val = 1 := rfl
  refine (above_oc ?_ ?_).add ((above_oc ?_ ?_).add (above_oc ?_ ?_))
  · omega
  · rw [max_eq_left (by omega)]; omega
  all_goals omega
theorem Above.mono {O : CellTallies nD τ sig ℕ} {b b' : ℕ} (h : Above O b) (hb : b' ≤ b) : Above O b' := fun g u hp => ⟨(h g u hp).1, hb.trans_lt (h g u hp).2⟩

/-! ## The offsets, by way and position -/

theorem off20_at : ∀ t : Fin k0_t1_loop.trips, k0_off20 t = ![(dirT t.val).val, (sl (posT t.val)).val, (0 : Fin 2).val] := by decide +kernel
theorem off27_at : ∀ t : Fin k0_t1_loop.trips, k0_off27 t = ![(dirT t.val).val, (sl (posT t.val)).val, (1 : Fin 2).val] := by decide +kernel
theorem off24_at : ∀ t : Fin k0_t1_loop.trips, k0_off24 t = ![(dirT t.val).val, (sl (posT t.val + 1)).val, (0 : Fin 2).val] := by decide +kernel
theorem off31_at : ∀ t : Fin k0_t1_loop.trips, k0_off31 t = ![(dirT t.val).val, (sl (posT t.val + 1)).val, (1 : Fin 2).val] := by decide +kernel
theorem off25_at : ∀ t : Fin k0_t1_loop.trips, k0_off25 t = ![(dirT t.val).val, (sl (posT t.val + 1)).val, 0, 512 * (0 : Fin 2).val, 0] := by decide +kernel
theorem off26_at : ∀ t : Fin k0_t1_loop.trips, k0_off26 t = ![(dirT t.val).val, (sl (posT t.val)).val, 0, 512 * (0 : Fin 2).val, 0] := by decide +kernel
theorem off32_at : ∀ t : Fin k0_t1_loop.trips, k0_off32 t = ![(dirT t.val).val, (sl (posT t.val + 1)).val, 0, 512 * (1 : Fin 2).val, 0] := by decide +kernel
theorem off33_at : ∀ t : Fin k0_t1_loop.trips, k0_off33 t = ![(dirT t.val).val, (sl (posT t.val)).val, 0, 512 * (1 : Fin 2).val, 0] := by decide +kernel
theorem dev7_at : ∀ (c : Dev nD) (t : Fin k0_t1_loop.trips), k0_dev7 c t = (up (dirT t.val) c).val := by decide +kernel
theorem dev8_at : ∀ (c : Dev nD) (t : Fin k0_t1_loop.trips), k0_dev8 c t = (dn (dirT t.val) c).val := by decide +kernel
theorem dev9_at : ∀ (c : Dev nD) (t : Fin k0_t1_loop.trips), k0_dev9 c t = (up (dirT t.val) c).val := by decide +kernel
theorem dev10_at : ∀ (c : Dev nD) (t : Fin k0_t1_loop.trips), k0_dev10 c t = (dn (dirT t.val) c).val := by decide +kernel

/-! ## The parts -/

section Parts
variable {α : Type} {Q : α → sProp (MT nD τ sig ℕ (Elt F) ℕ UU ℕ)}

/-- A program whose later half is bound first: what its earlier half leaves is what the later half needs. -/
theorem wp_jp (c : Dev nD) {P M R : sProp (MT nD τ sig ℕ (Elt F) ℕ UU ℕ)} {X J : Prog (TpuEff nD τ sig (Elt F) Λ₀ .tc) α}
    (h1 : P ⊢ iprop((M -∗ wp frame (wpE (defs₀ (F := F)) 𝒱₀ (c : Thread nD τ) none) Set.univ J Q) -∗ wp frame (wpE (defs₀ (F := F)) 𝒱₀ (c : Thread nD τ) none) Set.univ X Q))
    (h2 : iprop(R ∗ M) ⊢ wp frame (wpE (defs₀ (F := F)) 𝒱₀ (c : Thread nD τ) none) Set.univ J Q) :
    iprop(R ∗ P) ⊢ wp frame (wpE (defs₀ (F := F)) 𝒱₀ (c : Thread nD τ) none) Set.univ X Q := by
  iintro ⟨HR, HP⟩
  iapply h1 $$ [HP]
  · iexact HP
  iintro HM
  iapply h2
  isplitl [HR]; · iexact HR
  iexact HM

/-- After a trip's first half: a first trip's hops are all under way; later, the first half of the trip's way has been
    handled, and the second half's waits have been made. -/
def Mid (c : Dev nD) (t : ℕ) : sProp 𝕄 :=
  if t = 0 then iprop(Ch D c 1 ∗ ∃ Wt, owes (c : Thread nD τ) (Ow c 1) Wt)
  else iprop((Cs D c (dirT t) 0 (posT t + 1) ∗ Ms D c (dirT t) 1 (posT t))
    ∗ (Cs D c (ot (dirT t)) 0 (nextP (ot (dirT t)) t) ∗ Cs D c (ot (dirT t)) 1 (nextP (ot (dirT t)) t))
    ∗ ∃ Wt, owes (c : Thread nD τ) ((oc c (dirT t) 0 (posT t + 1) + (oc c (ot (dirT t)) 0 (nextP (ot (dirT t)) t) + oc c (ot (dirT t)) 1 (nextP (ot (dirT t)) t)))
        + oc c (dirT t) 1 (posT t)) Wt)

theorem wp_part10 (c : Dev nD) (t : Fin k0_t1_loop.trips) (v5 v7 a1 a2 a3 a4 a5 a6 : BitVec 32)
    {Φ : BitVec 32 → sProp (MT nD τ sig ℕ (Elt F) ℕ UU ℕ)} :
    iprop(invs (F := F) D K ∗ rch0 (F := F) ∗ levAts L lv ∗ Mid D c t.val)
      ⊢ iprop((∀ x, Ch D c (t.val + 1) ∗ (∃ Wt, owes (c : Thread nD τ) (Ow c (t.val + 1)) Wt) -∗ Φ x)
        -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v7 t a1 a2 a3 a4 a5 a6) Φ) := by
  have ht8 : t.val < 8 := lt_of_lt_of_eq t.isLt trips_eq
  rw [k0_part10_eq_skeleton]
  unfold k0_part10_skel
  by_cases h0 : t.val = 0
  · have hc6 : ¬ k0_cond6 t = 1#1 := fun h => by have := (cond6_iff t).mp h; omega
    simp only [hc6, dite_false, Prog.pure_eq_ret]
    unfold Mid
    rw [if_pos h0, h0]
    iintro ⟨#HI, #Hr0, #HL, Hm⟩ Hq
    rw [wp_ret]
    imodintro
    iapply Hq
    iexact Hm
  have h1 : 1 ≤ t.val := by omega
  obtain ⟨hp1, hp2, hp3, hp4⟩ := pos_range h1 ht8
  have hend : (Ow c (t.val + 1)) = (oc c (dirT t.val) 0 (posT t.val + 1) + (oc c (ot (dirT t.val)) 0 (nextP (ot (dirT t.val)) t.val) + oc c (ot (dirT t.val)) 1 (nextP (ot (dirT t.val)) t.val)))
        + oc c (dirT t.val) 1 (posT t.val + 1) := by
    rw [ow_dir c (dirT t.val), nextP_dir' h1 ht8, nextP_ot h1 ht8]; abel
  have hfin : iprop((Cs D c (dirT t.val) 0 (posT t.val + 1) ∗ Cs D c (dirT t.val) 1 (posT t.val + 1))
      ∗ (Cs D c (ot (dirT t.val)) 0 (nextP (ot (dirT t.val)) t.val) ∗ Cs D c (ot (dirT t.val)) 1 (nextP (ot (dirT t.val)) t.val))) ⊢ Ch D c (t.val + 1) := by
    refine .trans (Entails.of_eq ?_) (ch_dir D c (dirT t.val) (t.val + 1) (by omega)).2
    rw [nextP_dir' h1 ht8, nextP_ot h1 ht8]
  by_cases h5 : t.val ≤ 5
  · have hc6 : k0_cond6 t = 1#1 := (cond6_iff t).mpr ⟨h1, h5⟩
    simp only [hc6, dite_true, semSignalWord, semWaitWord, Prog.lift, Prog.bind_op, Prog.bind_ret, Prog.pure_eq_ret]
    unfold Mid
    rw [if_neg h0, hend]
    iintro ⟨#HI, #Hr0, #HL, ⟨Ha, Hb⟩, He, Ho⟩ Hq
    iapply (wp_forward D K c (dirT t.val) 1 (posT t.val) hp1 (hp3 h5) (Fin.ext (dev9_at c t)) (fr_at _ _ _ (off30_eq t h1 h5)) (fr_at _ _ _ (off30_eq t h1 h5))
      (comm_at _ _ _ (off33_at t)) (comm_at _ _ _ (off32_at t)) (Fin.ext (dev10_at c t)) (snd_at _ _ _ (off31_at t)) (rcv_at _ _ _ (off31_at t)) _ (above_second c h1 ht8)) $$ [Hb Ho]
    · isplitr; · iexact HI
      isplitr; · iexact Hr0
      isplitr; · iexact HL
      isplitl [Hb]; · iexact Hb
      iexact Ho
    iintro ⟨Ho, Hb⟩
    rw [wp_ret]
    imodintro
    iapply Hq
    isplitr [Ho]
    · iapply hfin
      isplitr [He]
      · isplitl [Ha]; · iexact Ha
        iexact Hb
      iexact He
    iexact Ho
  · have hc6 : ¬ k0_cond6 t = 1#1 := fun h => by have := (cond6_iff t).mp h; omega
    simp only [hc6, dite_false, Prog.pure_eq_ret]
    have hl : Ms D c (dirT t.val) 1 (posT t.val) ⊢ Cs D c (dirT t.val) 1 (posT t.val + 1) := by
      rw [hp4 (by omega)]; exact Ms_last D c _ _
    have hoc : oc c (dirT t.val) 1 (posT t.val) = oc c (dirT t.val) 1 (posT t.val + 1) := by rw [hp4 (by omega)]; exact oc_last c _ _
    unfold Mid
    rw [if_neg h0, hend, hoc]
    iintro ⟨#HI, #Hr0, #HL, ⟨Ha, Hb⟩, He, Ho⟩ Hq
    rw [wp_ret]
    imodintro
    iapply Hq
    ihave Hb := hl $$ Hb
    isplitr [Ho]
    · iapply hfin
      isplitr [He]
      · isplitl [Ha]; · iexact Ha
        iexact Hb
      iexact He
    iexact Ho

theorem wp_part6 (c : Dev nD) (t : Fin k0_t1_loop.trips) (h2 : k0_cond2 t = 1#1) (v5 v7 : BitVec 32) (R : CellTallies nD τ sig ℕ)
    {Φ : (Σ' (v904 : BitVec 32), BitVec 32) → sProp (MT nD τ sig ℕ (Elt F) ℕ UU ℕ)} :
    iprop(invs (F := F) D K ∗ rch0 (F := F) ∗ Cs0 D c 0 0 ∗ (∃ Wt, owes (c : Thread nD τ) (R + oc c 0 0 0) Wt))
      ⊢ iprop((∀ x, (∃ Wt, owes (c : Thread nD τ) (R + oc c 0 0 1) Wt) ∗ Cs D c 0 0 1 -∗ Φ x)
        -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v7 t h2) Φ) := by
  rw [k0_part6_eq_skeleton]
  unfold k0_part6_skel
  simp only [Prog.lift, Prog.bind_op, Prog.bind_ret, Prog.pure_eq_ret]
  iintro H Hq
  iapply (wp_first D K c 0 0 (comm_at _ _ _ (k0_off13_eq 1)) (comm_at _ _ _ (k0_off13_eq 0)) (Fin.ext (k0_dev3_eq c)) (snd_at _ _ _ k0_off12_eq) (rcv_at _ _ _ k0_off12_eq) R) $$ [H]
  · iexact H
  iintro H
  rw [wp_ret]
  imodintro
  iapply Hq
  iexact H
theorem wp_part7 (c : Dev nD) (t : Fin k0_t1_loop.trips) (h2 : k0_cond2 t = 1#1) (v5 v7 v904 b : BitVec 32) (R : CellTallies nD τ sig ℕ)
    {Φ : (Σ' (v934 : BitVec 32), BitVec 32) → sProp (MT nD τ sig ℕ (Elt F) ℕ UU ℕ)} :
    iprop(invs (F := F) D K ∗ rch0 (F := F) ∗ Cs0 D c 1 0 ∗ Cs0 D c 0 1 ∗ (∃ Wt, owes (c : Thread nD τ) (R + oc c 0 1 0 + oc c 1 0 0) Wt))
      ⊢ iprop((∀ x, (∃ Wt, owes (c : Thread nD τ) (R + oc c 1 0 1 + oc c 0 1 1) Wt) ∗ Cs D c 1 0 1 ∗ Cs D c 0 1 1 -∗ Φ x)
        -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v5 v7 t h2 v904 b) Φ) := by
  rw [k0_part7_eq_skeleton]
  unfold k0_part7_skel
  simp only [Prog.lift, Prog.bind_op, Prog.bind_ret, Prog.pure_eq_ret]
  have hx : R + oc c 0 1 0 + oc c 1 0 1 = R + oc c 1 0 1 + oc c 0 1 0 := by abel
  iintro ⟨#HI, #Hr0, Ha, Hb, Ho⟩ Hq
  iapply (wp_first D K c 1 0 (comm_at _ _ _ (k0_off15_eq 1)) (comm_at _ _ _ (k0_off15_eq 0)) (Fin.ext (k0_dev4_eq c)) (snd_at _ _ _ k0_off14_eq) (rcv_at _ _ _ k0_off14_eq) (R + oc c 0 1 0)) $$ [Ha Ho]
  · isplitr; · iexact HI
    isplitr; · iexact Hr0
    isplitl [Ha]; · iexact Ha
    iexact Ho
  iintro ⟨⟨%Wt, Ho⟩, Ha⟩
  ihave Ho := (Entails.of_eq (congrArg (fun O => (owes (c : Thread nD τ) O Wt : sProp (MT nD τ sig ℕ (Elt F) ℕ UU ℕ))) hx)) $$ Ho
  iapply (wp_first D K c 0 1 (comm_at _ _ _ (k0_off17_eq 1)) (comm_at _ _ _ (k0_off17_eq 0)) (Fin.ext (k0_dev5_eq c)) (snd_at _ _ _ k0_off16_eq) (rcv_at _ _ _ k0_off16_eq) (R + oc c 1 0 1)) $$ [Hb Ho]
  · isplitr; · iexact HI
    isplitr; · iexact Hr0
    isplitl [Hb]; · iexact Hb
    iexists _; iexact Ho
  iintro ⟨Ho, Hb⟩
  rw [wp_ret]
  imodintro
  iapply Hq
  isplitl [Ho]; · iexact Ho
  isplitl [Ha]; · iexact Ha
  iexact Hb

/-- What a trip's first half finds. -/
def Fst (c : Dev nD) (t : ℕ) : sProp 𝕄 := iprop(Ch D c t ∗ ∃ Wt, owes (c : Thread nD τ) (Ow c t) Wt)

set_option maxHeartbeats 4000000 in
theorem wp_part9 (c : Dev nD) (t : Fin k0_t1_loop.trips) (v2 v5 v7 a1 a2 a3 a4 a5 : BitVec 32) (a6 : BitVec 1) (a7 : BitVec 32)
    {Φ : (Σ' (v264 : BitVec 32) (v265 : BitVec 32) (v290 : BitVec 32), BitVec 32) → sProp (MT nD τ sig ℕ (Elt F) ℕ UU ℕ)} :
    iprop((invs (F := F) D K ∗ rch0 (F := F) ∗ levAts L lv ∗ Fst D c t.val ∗ (∀ x, Mid D c t.val ∗ SX D c (t.val + 1) -∗ Φ x))
        ∗ (invs (F := F) D K ∗ SI D c (sl (t.val + 1)) ((t.val + 1) / 2)))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v5 v7 t a1 a2 a3 a4 a5 a6 a7) Φ := by
  have ht8 : t.val < 8 := lt_of_lt_of_eq t.isLt trips_eq
  rw [k0_part9_eq_skeleton]
  unfold k0_part9_skel
  extract_lets -underBinder +onlyGivenNames u1 u2 u3 u4 u5 u6 u7 u8 u9 u10 u11 u12 jp
  refine wp_jp c (M := SX D c (t.val + 1)) (J := jp ⟨⟩) ?_ ?_
  · clear_value jp
    by_cases h7 : t.val < 7
    · have hc1 : k0_cond1 t = 1#1 := (cond1_iff t).mpr h7
      obtain ⟨g, hg⟩ : ∃ g, g = grp c (t.val + 1) := ⟨_, rfl⟩
      obtain ⟨r, hr⟩ : ∃ r, r = (t.val + 1) / 2 := ⟨_, rfl⟩
      obtain ⟨s, hs⟩ : ∃ s, s = sl (t.val + 1) := ⟨_, rfl⟩
      have hsv : s.val = (t.val + 1) % 2 := by rw [hs]; rfl
      have hr4 : r < 4 := by omega
      have hg' : g = grp c (2 * r + s.val) := by rw [hg, hsv, hr]; congr 1; omega
      have h4 : ∀ hh : Fin 8, k0_off4 c t (BitVec.ofNat 32 hh.val) = ![c.val, 0, 8 * g.val + hh.val, 0] := fun hh => by
        rw [hg]; exact off4_eq c t h7 hh
      have h2 : k0_off2 t = ![s.val] := by rw [k0_off2_eq, hsv]
      unfold SX
      rw [if_pos (by omega), ← hr, ← hs]
      unfold SI SF
      simp only [hc1, dite_true]
      rw [k0_part1_eq_skeleton, k0_part2_eq_skeleton]
      unfold k0_part1_skel k0_part2_skel
      simp only [Prog.lift, Prog.bind_op, Prog.bind_ret, Prog.pure_eq_ret]
      iintro ⟨#HI, Hak, Hav, #Hrk, #Hrv, Hk, Hv⟩ Hq
      rw [wp_bind]
      iapply (wp_part3 D K c t hc1 s r g hr4 hsv hg' hg) $$ [Hk Hv]
      · isplitr; · iexact HI
        isplitr; · iexact Hrk
        isplitr; · iexact Hrv
        isplitl [Hk]; · iexact Hk
        iexact Hv
      iintro ⟨Hk, Hv⟩
      rw [wp_bind]
      iapply (wp_part4 D K c t hc1 s r g hr4 hsv hg' hg) $$ [Hk Hv]
      · isplitr; · iexact HI
        isplitr; · iexact Hrk
        isplitr; · iexact Hrv
        isplitl [Hk]; · iexact Hk
        iexact Hv
      iintro ⟨Hk, Hv⟩
      rw [wp_bind]
      iapply (wp_part5 D K c t hc1 s r g hr4 hsv hg' hg) $$ [Hk Hv]
      · isplitr; · iexact HI
        isplitr; · iexact Hrk
        isplitr; · iexact Hrv
        isplitl [Hk]; · iexact Hk
        iexact Hv
      iintro ⟨Hk, Hv⟩
      iapply (wp_knext D K _ _ 7 r _ hr4 hg' (kh_at _ _ 7 (h4 7)) (kb_at _ 7 ((k0_off11_eq t).trans (by rw [← hsv]; rfl))) (kc_at _ h2)) $$ [Hk]
      · isplitr; · iexact HI
        isplitr; · iexact Hrk
        iexact Hk
      iintro Hk
      iapply (wp_vnext D K _ _ 7 r _ hr4 hg' (vh_at _ _ 7 (h4 7)) (vb_at _ 7 ((k0_off11_eq t).trans (by rw [← hsv]; rfl))) (vc_at _ h2)) $$ [Hv]
      · isplitr; · iexact HI
        isplitr; · iexact Hrv
        iexact Hv
      iintro Hv
      iapply Hq
      isplitl [Hak]; · iexact Hak
      isplitl [Hav]; · iexact Hav
      isplitl [Hk]; · iexact Hk
      iexact Hv
    · have hc1 : ¬ k0_cond1 t = 1#1 := fun h => h7 ((cond1_iff t).mp h)
      simp only [hc1, dite_false]
      unfold SX
      rw [if_neg (by omega)]
      iintro ⟨#HI, H⟩ Hq
      iapply Hq
      iexact H
  simp only [jp]
  by_cases h0 : t.val = 0
  · have hc2 : k0_cond2 t = 1#1 := (cond2_iff t).mpr h0
    have hc3 : ¬ k0_cond3 t = 1#1 := fun h => by have := (cond3_iff t).mp h; omega
    have hc4 : ¬ k0_cond4 t = 1#1 := fun h => by have := (cond4_iff t).mp h; omega
    have hc5 : ¬ k0_cond5 t = 1#1 := fun h => by have := (cond5_iff t).mp h; omega
    simp only [hc2, hc3, hc4, hc5, dite_false, dite_true, Prog.lift, Prog.bind_op, Prog.bind_ret, Prog.pure_eq_ret]
    unfold Fst Mid Ch
    rw [if_pos h0, if_pos h0, if_neg one_ne_zero, h0]
    have e0 : Ow c 0 = (oc c 0 1 0 + (oc c 1 0 0 + oc c 1 1 0)) + oc c 0 0 0 := by
      show (oc c 0 0 0 + oc c 0 1 0) + (oc c 1 0 0 + oc c 1 1 0) = _; abel
    have e1 : (oc c 0 1 0 + (oc c 1 0 0 + oc c 1 1 0)) + oc c 0 0 1 = (oc c 1 1 0 + oc c 0 0 1) + oc c 0 1 0 + oc c 1 0 0 := by abel
    have e2 : (oc c 1 1 0 + oc c 0 0 1) + oc c 1 0 1 + oc c 0 1 1 = (oc c 0 0 1 + oc c 1 0 1 + oc c 0 1 1) + oc c 1 1 0 := by abel
    have e3 : (oc c 0 0 1 + oc c 1 0 1 + oc c 0 1 1) + oc c 1 1 1 = Ow c 1 := by
      show _ = (oc c 0 0 1 + oc c 0 1 1) + (oc c 1 0 1 + oc c 1 1 1); abel
    have hn0 : nextP 0 1 = 1 := by decide
    have hn1 : nextP 1 1 = 1 := by decide
    rw [hn0, hn1, e0, ← e3]
    iintro ⟨⟨#HI, #Hr0, #HL, ⟨⟨Ha, Hb, Hc, Hd⟩, Ho⟩, Hq⟩, HS⟩
    rw [wp_bind]
    iapply (wp_part6 D K c t hc2 v5 v7 _) $$ [Ha Ho]
    · isplitr; · iexact HI
      isplitr; · iexact Hr0
      isplitl [Ha]; · iexact Ha
      iexact Ho
    iintro %x ⟨⟨%Wt, Ho⟩, Ha⟩
    ihave Ho := (Entails.of_eq (congrArg (fun O => (owes (c : Thread nD τ) O Wt : sProp (MT nD τ sig ℕ (Elt F) ℕ UU ℕ))) e1)) $$ Ho
    rw [wp_bind]
    iapply (wp_part7 D K c t hc2 v5 v7 _ _ (oc c 1 1 0 + oc c 0 0 1)) $$ [Hb Hc Ho]
    · isplitr; · iexact HI
      isplitr; · iexact Hr0
      isplitl [Hc]; · iexact Hc
      isplitl [Hb]; · iexact Hb
      iexists _; iexact Ho
    iintro %y ⟨⟨%Wt', Ho⟩, Hc, Hb⟩
    ihave Ho := (Entails.of_eq (congrArg (fun O => (owes (c : Thread nD τ) O Wt' : sProp (MT nD τ sig ℕ (Elt F) ℕ UU ℕ))) e2)) $$ Ho
    iapply (wp_first D K c 1 1 (comm_at _ _ _ (k0_off19_eq 1)) (comm_at _ _ _ (k0_off19_eq 0)) (Fin.ext (k0_dev6_eq c)) (snd_at _ _ _ k0_off18_eq) (rcv_at _ _ _ k0_off18_eq) _) $$ [Hd Ho]
    · isplitr; · iexact HI
      isplitr; · iexact Hr0
      isplitl [Hd]; · iexact Hd
      iexists _; iexact Ho
    iintro ⟨Ho, Hd⟩
    rw [wp_ret]
    imodintro
    iapply Hq
    isplitr [HS]
    · isplitr [Ho]
      · isplitl [Ha]; · iexact Ha
        isplitl [Hb]; · iexact Hb
        isplitl [Hc]; · iexact Hc
        iexact Hd
      iexact Ho
    iexact HS
  have h1 : 1 ≤ t.val := by omega
  obtain ⟨hp1, hp2, hp3, hp4⟩ := pos_range h1 ht8
  have hc2 : ¬ k0_cond2 t = 1#1 := fun h => h0 ((cond2_iff t).mp h)
  have hc3 : k0_cond3 t = 1#1 := (cond3_iff t).mpr h1
  have hc5 : k0_cond5 t = 1#1 := (cond5_iff t).mpr h1
  have hin : Fst D c t.val ⊢ iprop((Cs D c (dirT t.val) 0 (posT t.val) ∗ Cs D c (dirT t.val) 1 (posT t.val))
      ∗ (Cs D c (ot (dirT t.val)) 0 (nextP (ot (dirT t.val)) t.val) ∗ Cs D c (ot (dirT t.val)) 1 (nextP (ot (dirT t.val)) t.val))
      ∗ ∃ Wt, owes (c : Thread nD τ) ((oc c (dirT t.val) 1 (posT t.val) + (oc c (ot (dirT t.val)) 0 (nextP (ot (dirT t.val)) t.val) + oc c (ot (dirT t.val)) 1 (nextP (ot (dirT t.val)) t.val)))
        + oc c (dirT t.val) 0 (posT t.val)) Wt) := by
    have ho : Ow c t.val = (oc c (dirT t.val) 1 (posT t.val) + (oc c (ot (dirT t.val)) 0 (nextP (ot (dirT t.val)) t.val) + oc c (ot (dirT t.val)) 1 (nextP (ot (dirT t.val)) t.val)))
        + oc c (dirT t.val) 0 (posT t.val) := by rw [ow_dir c (dirT t.val), nextP_dir h1 ht8]; abel
    have hch := (ch_dir D c (dirT t.val) t.val h0).1
    rw [nextP_dir h1 ht8] at hch
    unfold Fst
    rw [ho]
    iintro ⟨Hc, Ho⟩
    ihave Hc := hch $$ Hc
    icases Hc with ⟨Ha, Hb⟩
    isplitl [Ha]; · iexact Ha
    isplitl [Hb]; · iexact Hb
    iexact Ho
  have hmid : ∀ Wt, owes (c : Thread nD τ) ((oc c (dirT t.val) 1 (posT t.val) + (oc c (ot (dirT t.val)) 0 (nextP (ot (dirT t.val)) t.val) + oc c (ot (dirT t.val)) 1 (nextP (ot (dirT t.val)) t.val)))
        + oc c (dirT t.val) 0 (posT t.val + 1)) Wt ⊢ (owes (c : Thread nD τ) ((oc c (dirT t.val) 0 (posT t.val + 1) + (oc c (ot (dirT t.val)) 0 (nextP (ot (dirT t.val)) t.val) + oc c (ot (dirT t.val)) 1 (nextP (ot (dirT t.val)) t.val)))
        + oc c (dirT t.val) 1 (posT t.val)) Wt : sProp (MT nD τ sig ℕ (Elt F) ℕ UU ℕ)) := fun Wt =>
    Entails.of_eq (congrArg (fun O => (owes (c : Thread nD τ) O Wt : sProp (MT nD τ sig ℕ (Elt F) ℕ UU ℕ))) (by abel))
  by_cases h5 : t.val ≤ 5
  · have hc4 : k0_cond4 t = 1#1 := (cond4_iff t).mpr ⟨h1, h5⟩
    simp only [hc2, hc3, hc4, hc5, dite_false, dite_true, semSignalWord, semWaitWord, Prog.lift, Prog.bind_op, Prog.bind_ret, Prog.pure_eq_ret]
    unfold Mid
    rw [if_neg h0]
    iintro ⟨⟨#HI, #Hr0, #HL, HF, Hq⟩, HS⟩
    ihave HF := hin $$ HF
    icases HF with ⟨⟨Ha, Hb⟩, He, Ho⟩
    iapply (wp_waits D K c (dirT t.val) 0 (posT t.val) hp1 hp2 (snd_at _ _ _ (off20_at t)) (rcv_at _ _ _ (off20_at t)) (comm_credit _ _) (comm_credit _ _) _ ((above_first c h1 ht8).mono (Nat.le_succ _))) $$ [Ha Ho]
    · isplitr; · iexact HI
      isplitr; · iexact HL
      isplitl [Ha]; · iexact Ha
      iexact Ho
    iintro ⟨Ho, Ha⟩
    iapply (wp_forward D K c (dirT t.val) 0 (posT t.val) hp1 (hp3 h5) (Fin.ext (dev7_at c t)) (fr_at _ _ _ (off23_eq t h1 h5)) (fr_at _ _ _ (off23_eq t h1 h5))
      (comm_at _ _ _ (off26_at t)) (comm_at _ _ _ (off25_at t)) (Fin.ext (dev8_at c t)) (snd_at _ _ _ (off24_at t)) (rcv_at _ _ _ (off24_at t)) _ (above_first c h1 ht8)) $$ [Ha Ho]
    · isplitr; · iexact HI
      isplitr; · iexact Hr0
      isplitr; · iexact HL
      isplitl [Ha]; · iexact Ha
      iexact Ho
    iintro ⟨⟨%Wt, Ho⟩, Ha⟩
    ihave Ho := (hmid Wt) $$ Ho
    iapply (wp_waits D K c (dirT t.val) 1 (posT t.val) hp1 hp2 (snd_at _ _ _ (off27_at t)) (rcv_at _ _ _ (off27_at t)) (comm_credit _ _) (comm_credit _ _) _ ((above_second c h1 ht8).mono (Nat.le_succ _))) $$ [Hb Ho]
    · isplitr; · iexact HI
      isplitr; · iexact HL
      isplitl [Hb]; · iexact Hb
      iexists _; iexact Ho
    iintro ⟨Ho, Hb⟩
    rw [wp_ret]
    imodintro
    iapply Hq
    isplitr [HS]
    · isplitr [Ho He]
      · isplitl [Ha]; · iexact Ha
        iexact Hb
      isplitl [He]; · iexact He
      iexact Ho
    iexact HS
  · have hc4 : ¬ k0_cond4 t = 1#1 := fun h => by have := (cond4_iff t).mp h; omega
    have hl : Ms D c (dirT t.val) 0 (posT t.val) ⊢ Cs D c (dirT t.val) 0 (posT t.val + 1) := by
      rw [hp4 (by omega)]; exact Ms_last D c _ _
    have hoc : oc c (dirT t.val) 0 (posT t.val) = oc c (dirT t.val) 0 (posT t.val + 1) := by rw [hp4 (by omega)]; exact oc_last c _ _
    simp only [hc2, hc3, hc4, hc5, dite_false, dite_true, Prog.lift, Prog.bind_op, Prog.bind_ret, Prog.pure_eq_ret]
    rw [← hoc] at hmid
    unfold Mid
    rw [if_neg h0, ← hoc]
    iintro ⟨⟨#HI, #Hr0, #HL, HF, Hq⟩, HS⟩
    ihave HF := hin $$ HF
    icases HF with ⟨⟨Ha, Hb⟩, He, Ho⟩
    iapply (wp_waits D K c (dirT t.val) 0 (posT t.val) hp1 hp2 (snd_at _ _ _ (off20_at t)) (rcv_at _ _ _ (off20_at t)) (comm_credit _ _) (comm_credit _ _) _ ((above_first c h1 ht8).mono (Nat.le_succ _))) $$ [Ha Ho]
    · isplitr; · iexact HI
      isplitr; · iexact HL
      isplitl [Ha]; · iexact Ha
      iexact Ho
    iintro ⟨⟨%Wt, Ho⟩, Ha⟩
    ihave Ha := hl $$ Ha
    ihave Ho := (hmid Wt) $$ Ho
    have hab := above_second c h1 ht8
    rw [← hoc] at hab
    iapply (wp_waits D K c (dirT t.val) 1 (posT t.val) hp1 hp2 (snd_at _ _ _ (off27_at t)) (rcv_at _ _ _ (off27_at t)) (comm_credit _ _) (comm_credit _ _) _ (hab.mono (Nat.le_succ _))) $$ [Hb Ho]
    · isplitr; · iexact HI
      isplitr; · iexact HL
      isplitl [Hb]; · iexact Hb
      iexists _; iexact Ho
    iintro ⟨Ho, Hb⟩
    rw [wp_ret]
    imodintro
    iapply Hq
    isplitr [HS]
    · isplitr [Ho He]
      · isplitl [Ha]; · iexact Ha
        iexact Hb
      isplitl [He]; · iexact He
      iexact Ho
    iexact HS

end Parts

end Cert.KernelIdealRun

end
-- ==== Proof.KernelIdealRun.Drain.lean ====
/-
A trip's waits for the key and value copies of its slot.
-/
module

public import proofs.«01_k».proof.Proof.KernelIdealRun.Comm

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-- The tokens of the rounds from `r` on; the heads landed in round `r`. -/
def kRest' (c : Dev nD) (s : Fin 2) (r : ℕ) : sProp 𝕄 := bigSep Finset.univ fun hh : Fin 8 => kToks (F := F) c s hh r
def vRest' (c : Dev nD) (s : Fin 2) (r : ℕ) : sProp 𝕄 := bigSep Finset.univ fun hh : Fin 8 => vToks (F := F) c s hh r
def kHeld (c : Dev nD) (s : Fin 2) (r : ℕ) : sProp 𝕄 := bigSep Finset.univ (pay D c (some (.kc s)) r)
def vHeld (c : Dev nD) (s : Fin 2) (r : ℕ) : sProp 𝕄 := bigSep Finset.univ (pay D c (some (.vc s)) r)

/-- A slot's cell while its copies are waited for, `i` of them waited for. -/
def Dr (c : Dev nD) (kd : Kd) (r i : ℕ) : sProp 𝕄 :=
  iprop((bigSep (Finset.Ico i 8) fun _ => cred (tallyAt (cell c kd) 0 NK)) ∗ Drn D c kd r i)

theorem dr_zero (c : Dev nD) (kd : Kd) (r : ℕ) :
    iprop(atPos ER (cell c kd) r ∅ 0 ∗ bigSep (Finset.univ : Finset (Fin 8)) fun _ => (cred (tallyAt (cell c kd) 0 NK) : sProp (MT nD τ sig ℕ (Elt F) ℕ UU ℕ)))
      ⊢ Dr D c kd r 0 := by
  have he : (bigSep (Finset.univ : Finset (Fin 8)) fun _ => (cred (tallyAt (cell c kd) 0 NK) : sProp (MT nD τ sig ℕ (Elt F) ℕ UU ℕ)))
      = bigSep (Finset.Ico 0 8) fun _ => cred (tallyAt (cell c kd) 0 NK) := by
    have hm : Finset.Ico 0 8 = (Finset.univ : Finset (Fin 8)).map Fin.valEmbedding := by decide
    rw [hm, bigSep_map]
  unfold Dr
  rw [he]
  iintro ⟨Ha, Hc⟩
  isplitl [Hc]; · iexact Hc
  iapply (drn_zero D c kd r)
  iexact Ha

theorem kRun_all (c : Dev nD) (s : Fin 2) (r : ℕ) :
    kRun D c s r 8 ⊢ iprop((bigSep (Finset.univ : Finset (Fin 8)) fun _ => cred (tallyAt (cell c (some (.kc s))) 0 NK)) ∗ kRest' (F := F) c s (r + 1)) := by
  have he : (fun hh : Fin 8 => if hh.val < 8 then kFly (F := F) c s r hh else kIdle D c s r hh)
      = fun hh : Fin 8 => iprop(cred (tallyAt (cell c (some (.kc s))) 0 NK) ∗ kToks (F := F) c s hh (r + 1)) := by
    funext hh; rw [if_pos hh.isLt]; rfl
  unfold kRun kRest'
  rw [he]
  exact Entails.of_eq (bigSep_sep' _ _ _)
theorem vRun_all (c : Dev nD) (s : Fin 2) (r : ℕ) :
    vRun D c s r 8 ⊢ iprop((bigSep (Finset.univ : Finset (Fin 8)) fun _ => cred (tallyAt (cell c (some (.vc s))) 0 NK)) ∗ vRest' (F := F) c s (r + 1)) := by
  have he : (fun hh : Fin 8 => if hh.val < 8 then vFly (F := F) c s r hh else vIdle D c s r hh)
      = fun hh : Fin 8 => iprop(cred (tallyAt (cell c (some (.vc s))) 0 NK) ∗ vToks (F := F) c s hh (r + 1)) := by
    funext hh; rw [if_pos hh.isLt]; rfl
  unfold vRun vRest'
  rw [he]
  exact Entails.of_eq (bigSep_sep' _ _ _)

/-- The landed heads, with the rounds' tokens, are the idle heads of the next round. -/
theorem kRun_none (c : Dev nD) (s : Fin 2) (r r' : ℕ) : iprop(kHeld D c s r ∗ kRest' (F := F) c s r') ⊢ kRun D c s r' 0 := by
  have he : (fun hh : Fin 8 => if hh.val < 0 then kFly (F := F) c s r' hh else kIdle D c s r' hh) = fun hh : Fin 8 => kIdle D c s r' hh := by
    funext hh; rw [if_neg (Nat.not_lt_zero _)]
  unfold kRun kHeld kRest'
  rw [he, ← bigSep_sep']
  refine bigSep_mono fun hh _ => ?_
  unfold kIdle
  show iprop((kPts c s hh (KC D c (grp c (2 * r + s.val))) ∗ kTok D c s hh) ∗ kToks c s hh r') ⊢ _
  iintro ⟨⟨H1, H2⟩, H3⟩
  isplitl [H1]; · iexists _; iexact H1
  isplitl [H2]; · iexact H2
  iexact H3
theorem vRun_none (c : Dev nD) (s : Fin 2) (r r' : ℕ) : iprop(vHeld D c s r ∗ vRest' (F := F) c s r') ⊢ vRun D c s r' 0 := by
  have he : (fun hh : Fin 8 => if hh.val < 0 then vFly (F := F) c s r' hh else vIdle D c s r' hh) = fun hh : Fin 8 => vIdle D c s r' hh := by
    funext hh; rw [if_neg (Nat.not_lt_zero _)]
  unfold vRun vHeld vRest'
  rw [he, ← bigSep_sep']
  refine bigSep_mono fun hh _ => ?_
  unfold vIdle
  show iprop((vPts c s hh (VC D c (grp c (2 * r + s.val))) ∗ vTok D c s hh) ∗ vToks c s hh r') ⊢ _
  iintro ⟨⟨H1, H2⟩, H3⟩
  isplitl [H1]; · iexists _; iexact H1
  isplitl [H2]; · iexact H2
  iexact H3

section Ops
variable {α : Type} {Q : α → sProp (MT nD τ sig ℕ (Elt F) ℕ UU ℕ)}

/-- One wait, not the last. -/
theorem wp_dr (c : Dev nD) (kd : Kd) (r i : ℕ) (hi : i < 8) (h8 : Eight kd r)
    {src' : Memref sig .tc .hbm S1024x128 .f32} {dst' : Memref sig .tc .vmem S1024x128 .f32}
    (hd : dst'.view.dmaCredit = NK) {sm : DmaSem sig} (hsm : csem kd = .dma sm)
    {w1 : src'.view.WordExact} {w2 : dst'.view.WordExact}
    {k : PUnit → Prog (TpuEff nD τ sig (Elt F) Λ₀ .tc) α} (O : CellTallies nD τ sig ℕ) (hO : Above O 0) :
    iprop(invs (F := F) D K ∗ levAts L lv ∗ (∃ Wt, owes (c : Thread nD τ) O Wt) ∗ Dr D c kd r i)
      ⊢ iprop(((∃ Wt, owes (c : Thread nD τ) O Wt) ∗ Dr D c kd r (i + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src' dst' w1 w2) k) Q) := by
  unfold Dr
  rw [ico_head hi]
  iintro ⟨#HI, #HL, Ho, ⟨Hc, Hcs⟩, Hd⟩ Hk
  iapply (wp_drain D K c kd r i h8 hd hsm O hO) $$ [Hc Ho Hd]
  · isplitr; · iexact HI
    isplitr; · iexact HL
    isplitl [Hc]; · iexact Hc
    isplitl [Ho]; · iexact Ho
    iexact Hd
  iintro ⟨Ho, Hd⟩
  iapply Hk
  isplitl [Ho]; · iexact Ho
  isplitl [Hcs]; · iexact Hcs
  iexact Hd
/-- The last. -/
theorem wp_dr_last (c : Dev nD) (kd : Kd) (r : ℕ) (h8 : Eight kd r)
    {src' : Memref sig .tc .hbm S1024x128 .f32} {dst' : Memref sig .tc .vmem S1024x128 .f32}
    (hd : dst'.view.dmaCredit = NK) {sm : DmaSem sig} (hsm : csem kd = .dma sm)
    {w1 : src'.view.WordExact} {w2 : dst'.view.WordExact}
    {k : PUnit → Prog (TpuEff nD τ sig (Elt F) Λ₀ .tc) α} (O : CellTallies nD τ sig ℕ) (hO : Above O 0) :
    iprop(invs (F := F) D K ∗ levAts L lv ∗ (∃ Wt, owes (c : Thread nD τ) O Wt) ∗ Dr D c kd r 7)
      ⊢ iprop(((∃ Wt, owes (c : Thread nD τ) O Wt) ∗ (atPos ER (cell c kd) (r + 1) ∅ 0 ∗ reached ER (cell c kd) (r + 1) ∗ bigSep Finset.univ (pay D c kd r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src' dst' w1 w2) k) Q) := by
  unfold Dr
  rw [ico_head (by decide)]
  iintro ⟨#HI, #HL, Ho, ⟨Hc, Hcs⟩, Hd⟩ Hk
  iapply (wp_drain_last D K c kd r h8 hd hsm O hO) $$ [Hc Ho Hd]
  · isplitr; · iexact HI
    isplitr; · iexact HL
    isplitl [Hc]; · iexact Hc
    isplitl [Ho]; · iexact Ho
    iexact Hd
  iintro ⟨Ho, Ha, Hr, Hp⟩
  iapply Hk
  isplitl [Ho]; · iexact Ho
  isplitl [Ha]; · iexact Ha
  isplitl [Hr]; · iexact Hr
  iexact Hp

theorem above_ow (c : Dev nD) {t : ℕ} (h8 : t ≤ 8) : Above (Ow c t) 0 := by
  unfold Ow
  refine Above.add (Above.add (above_oc ?_ ?_) (above_oc ?_ ?_)) (Above.add (above_oc ?_ ?_) (above_oc ?_ ?_)) <;> omega

end Ops

section Parts
theorem wp_part11 (c : Dev nD) (t : Fin k0_t1_loop.trips) (s : Fin 2) (r : ℕ) (hr : r < 4) (hs : s.val = t.val % 2) (O : CellTallies nD τ sig ℕ) (hO : Above O 0) (v264 : BitVec 32) {Φ : PUnit → sProp (MT nD τ sig ℕ (Elt F) ℕ UU ℕ)} :
    iprop(invs (F := F) D K ∗ levAts L lv ∗ (∃ Wt, owes (c : Thread nD τ) O Wt) ∗ Dr D c (some (.kc s)) r 0 ∗ Dr D c (some (.vc s)) r 0)
      ⊢ iprop(((∃ Wt, owes (c : Thread nD τ) O Wt) ∗ Dr D c (some (.kc s)) r 2 ∗ Dr D c (some (.vc s)) r 2 -∗ Φ ⟨⟩) -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c t v264) Φ) := by
  have h34 : k0_off34 t = ![s.val] := by rw [k0_off34_eq, hs]
  have hk : ∀ (off : Fin 4 → ℕ) (inb : ∀ a, off a + S1x1x1024x128.size a ≤ S2x8x1024x128.size a),
      ((kbM.slice (Rect.unit off S1x1x1024x128.size inb) (fun _ => rfl)).squeeze S1024x128 squeezes_S1x1x1024x128_S1024x128).view.dmaCredit = NK := fun _ _ => rfl
  have hv : ∀ (off : Fin 4 → ℕ) (inb : ∀ a, off a + S1x1x1024x128.size a ≤ S2x8x1024x128.size a),
      ((vbM.slice (Rect.unit off S1x1x1024x128.size inb) (fun _ => rfl)).squeeze S1024x128 squeezes_S1x1x1024x128_S1024x128).view.dmaCredit = NK := fun _ _ => rfl
  rw [k0_part11_eq_skeleton]
  unfold k0_part11_skel
  simp only [Prog.lift, Prog.bind_op, Prog.bind_ret, Prog.pure_eq_ret]
  iintro ⟨#HI, #HL, Ho, Hk, Hv⟩ Hq
  iapply (wp_dr D K c (some (.kc s)) r 0 (by decide) (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hk⟩
  iapply (wp_dr D K c (some (.vc s)) r 0 (by decide) (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hv⟩
  iapply (wp_dr D K c (some (.kc s)) r 1 (by decide) (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hk⟩
  iapply (wp_dr D K c (some (.vc s)) r 1 (by decide) (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hv⟩
  rw [wp_ret]
  imodintro
  iapply Hq
  isplitl [Ho]; · iexact Ho
  isplitl [Hk]; · iexact Hk
  iexact Hv

theorem wp_part12 (c : Dev nD) (t : Fin k0_t1_loop.trips) (s : Fin 2) (r : ℕ) (hr : r < 4) (hs : s.val = t.val % 2) (O : CellTallies nD τ sig ℕ) (hO : Above O 0) {Φ : PUnit → sProp (MT nD τ sig ℕ (Elt F) ℕ UU ℕ)} :
    iprop(invs (F := F) D K ∗ levAts L lv ∗ (∃ Wt, owes (c : Thread nD τ) O Wt) ∗ Dr D c (some (.kc s)) r 2 ∗ Dr D c (some (.vc s)) r 2)
      ⊢ iprop(((∃ Wt, owes (c : Thread nD τ) O Wt) ∗ Dr D c (some (.kc s)) r 5 ∗ Dr D c (some (.vc s)) r 4 -∗ Φ ⟨⟩) -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c t) Φ) := by
  have h34 : k0_off34 t = ![s.val] := by rw [k0_off34_eq, hs]
  have hk : ∀ (off : Fin 4 → ℕ) (inb : ∀ a, off a + S1x1x1024x128.size a ≤ S2x8x1024x128.size a),
      ((kbM.slice (Rect.unit off S1x1x1024x128.size inb) (fun _ => rfl)).squeeze S1024x128 squeezes_S1x1x1024x128_S1024x128).view.dmaCredit = NK := fun _ _ => rfl
  have hv : ∀ (off : Fin 4 → ℕ) (inb : ∀ a, off a + S1x1x1024x128.size a ≤ S2x8x1024x128.size a),
      ((vbM.slice (Rect.unit off S1x1x1024x128.size inb) (fun _ => rfl)).squeeze S1024x128 squeezes_S1x1x1024x128_S1024x128).view.dmaCredit = NK := fun _ _ => rfl
  rw [k0_part12_eq_skeleton]
  unfold k0_part12_skel
  simp only [Prog.lift, Prog.bind_op, Prog.bind_ret, Prog.pure_eq_ret]
  iintro ⟨#HI, #HL, Ho, Hk, Hv⟩ Hq
  iapply (wp_dr D K c (some (.kc s)) r 2 (by decide) (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hk⟩
  iapply (wp_dr D K c (some (.vc s)) r 2 (by decide) (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hv⟩
  iapply (wp_dr D K c (some (.kc s)) r 3 (by decide) (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hk⟩
  iapply (wp_dr D K c (some (.vc s)) r 3 (by decide) (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hv⟩
  iapply (wp_dr D K c (some (.kc s)) r 4 (by decide) (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hk⟩
  rw [wp_ret]
  imodintro
  iapply Hq
  isplitl [Ho]; · iexact Ho
  isplitl [Hk]; · iexact Hk
  iexact Hv

theorem wp_part13 (c : Dev nD) (t : Fin k0_t1_loop.trips) (s : Fin 2) (r : ℕ) (hr : r < 4) (hs : s.val = t.val % 2) (O : CellTallies nD τ sig ℕ) (hO : Above O 0) {Φ : PUnit → sProp (MT nD τ sig ℕ (Elt F) ℕ UU ℕ)} :
    iprop(invs (F := F) D K ∗ levAts L lv ∗ (∃ Wt, owes (c : Thread nD τ) O Wt) ∗ Dr D c (some (.kc s)) r 5 ∗ Dr D c (some (.vc s)) r 4)
      ⊢ iprop(((∃ Wt, owes (c : Thread nD τ) O Wt) ∗ Dr D c (some (.kc s)) r 7 ∗ Dr D c (some (.vc s)) r 7 -∗ Φ ⟨⟩) -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c t) Φ) := by
  have h34 : k0_off34 t = ![s.val] := by rw [k0_off34_eq, hs]
  have hk : ∀ (off : Fin 4 → ℕ) (inb : ∀ a, off a + S1x1x1024x128.size a ≤ S2x8x1024x128.size a),
      ((kbM.slice (Rect.unit off S1x1x1024x128.size inb) (fun _ => rfl)).squeeze S1024x128 squeezes_S1x1x1024x128_S1024x128).view.dmaCredit = NK := fun _ _ => rfl
  have hv : ∀ (off : Fin 4 → ℕ) (inb : ∀ a, off a + S1x1x1024x128.size a ≤ S2x8x1024x128.size a),
      ((vbM.slice (Rect.unit off S1x1x1024x128.size inb) (fun _ => rfl)).squeeze S1024x128 squeezes_S1x1x1024x128_S1024x128).view.dmaCredit = NK := fun _ _ => rfl
  rw [k0_part13_eq_skeleton]
  unfold k0_part13_skel
  simp only [Prog.lift, Prog.bind_op, Prog.bind_ret, Prog.pure_eq_ret]
  iintro ⟨#HI, #HL, Ho, Hk, Hv⟩ Hq
  iapply (wp_dr D K c (some (.vc s)) r 4 (by decide) (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hv⟩
  iapply (wp_dr D K c (some (.kc s)) r 5 (by decide) (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hk⟩
  iapply (wp_dr D K c (some (.vc s)) r 5 (by decide) (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hv⟩
  iapply (wp_dr D K c (some (.kc s)) r 6 (by decide) (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hk⟩
  iapply (wp_dr D K c (some (.vc s)) r 6 (by decide) (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hv⟩
  rw [wp_ret]
  imodintro
  iapply Hq
  isplitl [Ho]; · iexact Ho
  isplitl [Hk]; · iexact Hk
  iexact Hv

end Parts

end Cert.KernelIdealRun

end
-- ==== Proof.KernelIdealRun.Mem.lean ====
/-
The loads and stores of a trip's compute: the landed heads, the travelling weights, the buffer of the heads' results.
-/
module

public import proofs.«01_k».proof.Proof.KernelIdealRun.Drain

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-! ## The heads -/

/-- Head `hh` of group `g` of device `c`'s keys, as a load of the key buffer reads it; values likewise. -/
def KL (c g : Dev nD) (hh : Fin 8) : Vec F S1x1x1024x128 .f32 := kbM.view.readAt (Elt F) (kbR 0 hh).toLoadRect (KC D c g)
def VL (c g : Dev nD) (hh : Fin 8) : Vec F S1x1x1024x128 .f32 := vbM.view.readAt (Elt F) (kbR 0 hh).toLoadRect (VC D c g)

theorem hdIdx_slot (b g : Fin 8) (s : Fin 2) (hh : Fin 8) (x : S1x1x1024x128.Idx) :
    hdIdx b g ((kbR s hh).emb x) = hdIdx b g ((kbR 0 hh).emb x) := by
  funext a
  match a with
  | ⟨0, _⟩ => rfl
  | ⟨1, _⟩ => rfl
  | ⟨2, _⟩ => rfl
  | ⟨3, _⟩ => rfl
theorem KL_slot (c g : Dev nD) (s : Fin 2) (hh : Fin 8) : kbM.view.readAt (Elt F) (kbR s hh).toLoadRect (KC D c g) = KL D c g hh := by
  funext x; exact congrArg (D.Ka c) (hdIdx_slot c g s hh x)
theorem VL_slot (c g : Dev nD) (s : Fin 2) (hh : Fin 8) : vbM.view.readAt (Elt F) (kbR s hh).toLoadRect (VC D c g) = VL D c g hh := by
  funext x; exact congrArg (D.Va c) (hdIdx_slot c g s hh x)

theorem kbV_set (s : Fin 2) (hh : Fin 8) : (kbV s hh).view.set = (kbM.access (kbR s hh)).set := View.set_reshape _ _
theorem vbV_set (s : Fin 2) (hh : Fin 8) : (vbV s hh).view.set = (vbM.access (kbR s hh)).set := View.set_reshape _ _
theorem commV_set (d s h : Fin 2) : (commV d s h).view.set = (commM.access (commR d s h)).set := View.set_reshape _ _

section Rules
variable {α : Type} {Q : α → sProp (MT nD τ sig ℕ (Elt F) ℕ UU ℕ)}

/-- A load of head `hh` of the slot. -/
theorem wp_kload (c g : Dev nD) (s : Fin 2) (r : ℕ) (hh : Fin 8) (hg : g = grp c (2 * r + s.val)) {off : Fin 4 → ℕ}
    {inb : ∀ a, off a + S1x1x1024x128.size a ≤ S2x8x1024x128.size a} (ho : off = ![s.val, hh.val, 0, 0])
    {hl : kbM.view.LoadsAt (Rect.unit (s := S2x8x1024x128) off S1x1x1024x128.size inb).toLoadRect}
    {k : Vec F S1x1x1024x128 .f32 → Prog (TpuEff nD τ sig (Elt F) Λ₀ .tc) α} :
    kHeld D c s r ⊢ iprop((kHeld D c s r -∗ wp frame (wpE (defs₀ (F := F)) 𝒱₀ (c : Thread nD τ) none) Set.univ (k (KL D c g hh)) Q)
      -∗ wp frame (wpE (defs₀ (F := F)) 𝒱₀ (c : Thread nD τ) none) Set.univ (.op (.load kbM (Rect.unit (s := S2x8x1024x128) off S1x1x1024x128.size inb).toLoadRect hl) k) Q) := by
  subst ho
  have hS : (kbM.access (kbR s hh)).set ⊆ (kbV s hh).view.set := by
    rw [kbV_set]
  have hp : pay D c (some (.kc s)) r hh = iprop(kPts c s hh (KC D c g) ∗ kTok D c s hh) := by rw [hg]; rfl
  unfold kPts at hp
  have he : bigSep Finset.univ (pay D c (some (.kc s)) r) = iprop(pay D c (some (.kc s)) r hh ∗ bigSep (Finset.univ.erase hh) (pay D c (some (.kc s)) r)) := bigSep_erase (Finset.mem_univ hh)
  unfold kHeld
  rw [he, hp, ← KL_slot D c g s hh]
  iintro ⟨⟨H, Ht⟩, Hr⟩ Hk
  iapply (wp_load_rect 𝒱₀ (c : Thread nD τ) none Set.univ (m := kbM) (r := kbR s hh) (k := k) (f := KC D c g) hS) $$ H
  iintro H
  iapply Hk
  isplitr [Hr]
  · isplitl [H]; · iexact H
    iexact Ht
  iexact Hr

/-- A load of head `hh` of the slot. -/
theorem wp_vload (c g : Dev nD) (s : Fin 2) (r : ℕ) (hh : Fin 8) (hg : g = grp c (2 * r + s.val)) {off : Fin 4 → ℕ}
    {inb : ∀ a, off a + S1x1x1024x128.size a ≤ S2x8x1024x128.size a} (ho : off = ![s.val, hh.val, 0, 0])
    {hl : vbM.view.LoadsAt (Rect.unit (s := S2x8x1024x128) off S1x1x1024x128.size inb).toLoadRect}
    {k : Vec F S1x1x1024x128 .f32 → Prog (TpuEff nD τ sig (Elt F) Λ₀ .tc) α} :
    vHeld D c s r ⊢ iprop((vHeld D c s r -∗ wp frame (wpE (defs₀ (F := F)) 𝒱₀ (c : Thread nD τ) none) Set.univ (k (VL D c g hh)) Q)
      -∗ wp frame (wpE (defs₀ (F := F)) 𝒱₀ (c : Thread nD τ) none) Set.univ (.op (.load vbM (Rect.unit (s := S2x8x1024x128) off S1x1x1024x128.size inb).toLoadRect hl) k) Q) := by
  subst ho
  have hS : (vbM.access (kbR s hh)).set ⊆ (vbV s hh).view.set := by
    rw [vbV_set]
  have hp : pay D c (some (.vc s)) r hh = iprop(vPts c s hh (VC D c g) ∗ vTok D c s hh) := by rw [hg]; rfl
  unfold vPts at hp
  have he : bigSep Finset.univ (pay D c (some (.vc s)) r) = iprop(pay D c (some (.vc s)) r hh ∗ bigSep (Finset.univ.erase hh) (pay D c (some (.vc s)) r)) := bigSep_erase (Finset.mem_univ hh)
  unfold vHeld
  rw [he, hp, ← VL_slot D c g s hh]
  iintro ⟨⟨H, Ht⟩, Hr⟩ Hk
  iapply (wp_load_rect 𝒱₀ (c : Thread nD τ) none Set.univ (m := vbM) (r := kbR s hh) (k := k) (f := VC D c g) hS) $$ H
  iintro H
  iapply Hk
  isplitr [Hr]
  · isplitl [H]; · iexact H
    iexact Ht
  iexact Hr

/-! ## The buffer of the heads' results -/

/-- The buffer when every piece is in: piece `n` is rows half `n % 2`, head `n / 2`. -/
def ctxOf (X : ℕ → Vec F S512x128 .bf16) : Vec F S1024x1024 .bf16 := fun i =>
  X (2 * ((i 1).val / 128) + (i 0).val / 512) (ix2 ⟨(i 0).val % 512, Nat.mod_lt _ (by decide)⟩ ⟨(i 1).val % 128, Nat.mod_lt _ (by decide)⟩)

/-- The buffer with its first `n` pieces in. -/
def ctxAt (c : Dev nD) (X : ℕ → Vec F S512x128 .bf16) (n : ℕ) : sProp 𝕄 :=
  iprop(∃ f : cc0_scratch3.ty.Contents (Elt F), ⌜∀ i : S1024x1024.Idx, 2 * ((i 1).val / 128) + (i 0).val / 512 < n → f i = ctxOf X i⌝
    ∗ ((c : Thread nD τ).loc cc0_scratch3) ↦{fullShare} f)

theorem ctx_zero (c : Dev nD) (X : ℕ → Vec F S512x128 .bf16) (f : cc0_scratch3.ty.Contents (Elt F)) :
    (((c : Thread nD τ).loc cc0_scratch3) ↦{fullShare} f : sProp (MT nD τ sig ℕ (Elt F) ℕ UU ℕ)) ⊢ ctxAt c X 0 := by
  unfold ctxAt
  iintro H
  iexists f
  isplitr
  · ipureintro; intro i h; exact absurd h (Nat.not_lt_zero _)
  iexact H
theorem ctx_all (c : Dev nD) (X : ℕ → Vec F S512x128 .bf16) :
    ctxAt c X 16 ⊢ (((c : Thread nD τ).loc cc0_scratch3) ↦{fullShare} (ctxOf X) : sProp (MT nD τ sig ℕ (Elt F) ℕ UU ℕ)) := by
  unfold ctxAt
  iintro ⟨%f, %hf, H⟩
  have he : f = ctxOf X := by
    funext i
    refine hf i ?_
    have h0 : (i 0).val < 1024 := (i 0).isLt
    have h1 : (i 1).val < 1024 := (i 1).isLt
    omega
  subst he
  iexact H

theorem ctx_write (X : ℕ → Vec F S512x128 .bf16) (n : ℕ) (f : cc0_scratch3.ty.Contents (Elt F)) {off : Fin 2 → ℕ}
    (inb : ∀ a, off a + S512x128.size a ≤ S1024x1024.size a) (ho : off = ![512 * (n % 2), 128 * (n / 2)])
    (hf : ∀ i : S1024x1024.Idx, 2 * ((i 1).val / 128) + (i 0).val / 512 < n → f i = ctxOf X i)
    (i : S1024x1024.Idx) (hi : 2 * ((i 1).val / 128) + (i 0).val / 512 < n + 1) :
    (ctxM.access (Rect.unit (s := S1024x1024) off S512x128.size inb)).write (Elt F) f (X n) Finset.univ i = ctxOf X i := by
  subst ho
  have h0 : (i 0).val < 1024 := (i 0).isLt
  have h1 : (i 1).val < 1024 := (i 1).isLt
  rcases Nat.lt_succ_iff_lt_or_eq.mp hi with hlt | heq
  · rw [View.write_of_not_mem, hf i hlt]
    intro hm
    obtain ⟨y, _, hy⟩ := Finset.mem_map.mp hm
    have e0 : 512 * (n % 2) + 1 * (y 0).val = (i 0).val := congrArg Fin.val (congrFun hy (0 : Fin 2))
    have e1 : 128 * (n / 2) + 1 * (y 1).val = (i 1).val := congrArg Fin.val (congrFun hy (1 : Fin 2))
    have y0 : (y 0).val < 512 := (y 0).isLt
    have y1 : (y 1).val < 128 := (y 1).isLt
    omega
  · have hm : (ctxM.access (Rect.unit (s := S1024x1024) ![512 * (n % 2), 128 * (n / 2)] S512x128.size inb)).emb
        (ix2 ⟨(i 0).val % 512, Nat.mod_lt _ (by decide)⟩ ⟨(i 1).val % 128, Nat.mod_lt _ (by decide)⟩) = i := by
      funext a
      apply Fin.ext
      match a with
      | ⟨0, _⟩ => show 512 * (n % 2) + 1 * ((i 0).val % 512) = (i 0).val; omega
      | ⟨1, _⟩ => show 128 * (n / 2) + 1 * ((i 1).val % 128) = (i 1).val; omega
    conv_lhs => rw [← hm]
    rw [View.write_emb_of_mem _ _ (Finset.mem_univ _)]
    unfold ctxOf
    rw [heq]
    rfl

theorem wp_cload (c : Dev nD) (X : ℕ → Vec F S512x128 .bf16) (n : ℕ) {r : LoadRect S1024x1024} {hl : ctxM.view.LoadsAt r}
    {k : (r.shape.Idx → Elt F .bf16) → Prog (TpuEff nD τ sig (Elt F) Λ₀ .tc) α} :
    ctxAt c X n ⊢ iprop((∀ v, ctxAt c X n -∗ wp frame (wpE (defs₀ (F := F)) 𝒱₀ (c : Thread nD τ) none) Set.univ (k v) Q) -∗ wp frame (wpE (defs₀ (F := F)) 𝒱₀ (c : Thread nD τ) none) Set.univ (.op (.load ctxM r hl) k) Q) := by
  unfold ctxAt
  iintro ⟨%f, %hf, H⟩ Hk
  iapply (wp_load 𝒱₀ (c : Thread nD τ) none Set.univ (m := ctxM) (r := r) (k := k) (f := f) (S := Finset.univ) (Finset.subset_univ _)) $$ H
  iintro H
  iapply Hk
  iexists f
  isplitr
  · ipureintro; exact hf
  iexact H

theorem wp_cstore (c : Dev nD) (X : ℕ → Vec F S512x128 .bf16) (n : ℕ) {off : Fin 2 → ℕ}
    {inb : ∀ a, off a + S512x128.size a ≤ S1024x1024.size a} (ho : off = ![512 * (n % 2), 128 * (n / 2)])
    {w : Vec F S512x128 .bf16} (hw : w = X n)
    {hx : (ctxM.access (Rect.unit (s := S1024x1024) off S512x128.size inb)).Stores Finset.univ}
    {hm : (Finset.univ : Finset S512x128.Idx) = Finset.univ ∨ ∀ a, (Rect.unit (s := S1024x1024) off S512x128.size inb).stride a = 1}
    {k : PUnit → Prog (TpuEff nD τ sig (Elt F) Λ₀ .tc) α} :
    ctxAt c X n ⊢ iprop((ctxAt c X (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.store ctxM (Rect.unit (s := S1024x1024) off S512x128.size inb) w Finset.univ hx hm) k) Q) := by
  subst hw
  unfold ctxAt
  iintro ⟨%f, %hf, H⟩ Hk
  iapply (wp_store 𝒱₀ (c : Thread nD τ) none Set.univ (m := ctxM) (r := Rect.unit (s := S1024x1024) off S512x128.size inb) (w := X n) (Mk := Finset.univ) (k := k) (f := f)
    (S := Finset.univ) (Finset.subset_univ _)) $$ H
  iintro H
  iapply Hk
  iexists _
  isplitr
  · ipureintro; exact ctx_write X n f inb ho hf
  iexact H

/-! ## A plane of the travelling weights -/

theorem pl_inb (d s pl : Fin 2) : ∀ a, (![d.val, s.val, pl.val, 0, 0] : Fin 5 → ℕ) a + S1x1x1x1024x1024.size a ≤ S2x2x2x1024x1024.size a := by
  revert d s pl; decide
abbrev plR (d s pl : Fin 2) : Rect S2x2x2x1024x1024 := Rect.unit ![d.val, s.val, pl.val, 0, 0] S1x1x1x1024x1024.size (pl_inb d s pl)

theorem comm_disj (d s : Fin 2) : Disjoint (commV d s 0).view.set (commV d s 1).view.set := by
  rw [Finset.disjoint_left]
  intro i h0 h1
  obtain ⟨y, _, hy⟩ := Finset.mem_map.mp ((commV_set d s 0) ▸ h0)
  obtain ⟨z, _, hz⟩ := Finset.mem_map.mp ((commV_set d s 1) ▸ h1)
  have e0 : 512 * (0 : Fin 2).val + 1 * (y 3).val = (i 3).val := congrArg Fin.val (congrFun hy (3 : Fin 5))
  have e1 : 512 * (1 : Fin 2).val + 1 * (z 3).val = (i 3).val := congrArg Fin.val (congrFun hz (3 : Fin 5))
  have hy3 : (y 3).val < 512 := (y 3).isLt
  have h00 : (0 : Fin 2).val = 0 := rfl
  have h11 : (1 : Fin 2).val = 1 := rfl
  omega

theorem pl_sub (d s pl : Fin 2) : (commM.access (plR d s pl)).set ⊆ (commV d s 0).view.set ∪ (commV d s 1).view.set := by
  intro i hi
  obtain ⟨y, _, hy⟩ := Finset.mem_map.mp hi
  have e3 : 0 + 1 * (y 3).val = (i 3).val := congrArg Fin.val (congrFun hy (3 : Fin 5))
  have y3 : (y 3).val < 1024 := (y 3).isLt
  have key : ∀ h : Fin 2, (h.val = (i 3).val / 512) → i ∈ (commV d s h).view.set := fun h hh => by
    rw [commV_set]
    refine Finset.mem_map.mpr ⟨fun a => match a with
      | ⟨0, _⟩ => (0 : Fin 1) | ⟨1, _⟩ => (0 : Fin 1) | ⟨2, _⟩ => pl | ⟨3, _⟩ => (⟨(i 3).val % 512, Nat.mod_lt _ (by decide)⟩ : Fin 512) | ⟨4, _⟩ => (y 4 : Fin 1024), Finset.mem_univ _, ?_⟩
    rw [← hy] at hh ⊢
    funext a
    apply Fin.ext
    have t0 : (y 0).val = 0 := Nat.lt_one_iff.mp (y 0).isLt
    have t1 : (y 1).val = 0 := Nat.lt_one_iff.mp (y 1).isLt
    have t2 : (y 2).val = 0 := Nat.lt_one_iff.mp (y 2).isLt
    match a with
    | ⟨0, _⟩ => show d.val + 1 * 0 = d.val + 1 * (y 0).val; omega
    | ⟨1, _⟩ => show s.val + 1 * 0 = s.val + 1 * (y 1).val; omega
    | ⟨2, _⟩ => show 0 + 1 * pl.val = pl.val + 1 * (y 2).val; omega
    | ⟨3, _⟩ =>
      have hh' : h.val = (0 + 1 * (y 3).val) / 512 := hh
      show 512 * h.val + 1 * ((0 + 1 * (y 3).val) % 512) = 0 + 1 * (y 3).val; omega
    | ⟨4, _⟩ => rfl
  rcases (show (i 3).val / 512 = 0 ∨ (i 3).val / 512 = 1 by omega) with h | h
  · exact Finset.mem_union_left _ (key 0 h.symm)
  · exact Finset.mem_union_right _ (key 1 h.symm)

/-- Both halves of a slot, held for reading. -/
def cBoth (c : Dev nD) (d s : Fin 2) (f : cc0_scratch0.ty.Contents (Elt F)) : sProp 𝕄 :=
  iprop(cPts c d s 0 fullShare.right f ∗ cPts c d s 1 fullShare.right f)

theorem wp_pload (c : Dev nD) (d s pl : Fin 2) (f : cc0_scratch0.ty.Contents (Elt F)) {off : Fin 5 → ℕ}
    {inb : ∀ a, off a + S1x1x1x1024x1024.size a ≤ S2x2x2x1024x1024.size a} (ho : off = ![d.val, s.val, pl.val, 0, 0])
    {hl : commM.view.LoadsAt (Rect.unit (s := S2x2x2x1024x1024) off S1x1x1x1024x1024.size inb).toLoadRect}
    {k : Vec F S1x1x1x1024x1024 .bf16 → Prog (TpuEff nD τ sig (Elt F) Λ₀ .tc) α} :
    cBoth c d s f ⊢ iprop((cBoth c d s f -∗ wp frame (wpE (defs₀ (F := F)) 𝒱₀ (c : Thread nD τ) none) Set.univ (k (commM.view.readAt (Elt F) (plR d s pl).toLoadRect f)) Q)
      -∗ wp frame (wpE (defs₀ (F := F)) 𝒱₀ (c : Thread nD τ) none) Set.univ (.op (.load commM (Rect.unit (s := S2x2x2x1024x1024) off S1x1x1x1024x1024.size inb).toLoadRect hl) k) Q) := by
  subst ho
  have hj : cBoth c d s f ⊣⊢ (((commM.access (plR d s pl)).loc (c : Thread nD τ)) ↦[(commV d s 0).view.set ∪ (commV d s 1).view.set]{fullShare.right} f : sProp (MT nD τ sig ℕ (Elt F) ℕ UU ℕ)) := by
    unfold cBoth cPts
    have := Idealize.ShloMosaic.pointsTo_union (Ix := ℕ) (Val := Elt F) (Name := ℕ) (U := UU) (Lvl := ℕ) (ℓ := (commM.access (plR d s pl)).loc (c : Thread nD τ)) (q := fullShare.right) (f := f) (comm_disj d s)
    exact ⟨this.2, this.1⟩
  iintro H Hk
  ihave H := hj.1 $$ H
  iapply (wp_load_rect 𝒱₀ (c : Thread nD τ) none Set.univ (m := commM) (r := plR d s pl) (k := k) (f := f) (pl_sub d s pl)) $$ H
  iintro H
  iapply Hk
  iapply hj.2
  iexact H

end Rules

end Cert.KernelIdealRun

end
-- ==== Proof.KernelIdealRun.Heads.lean ====
/-
The compute of one trip: eight heads' attention of one group, stored piece by piece.
-/
module

public import proofs.«01_k».proof.Proof.KernelIdealRun.Mem

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-! ## The pieces -/

/-- Rows 0–511 of a head: scores masked, exponentials, weighted values over their sum. -/
def cx0 (M : FVec F S512x512 .f32) (qs : FVec F S1024x128 .bf16) (k v : Vec F S1x1x1024x128 .f32) : FVec F S512x128 .bf16 :=
  k0_pay18 (k0_pay17 M qs (k0_pay14 k) v)
/-- Rows 512–1023: the first 512 keys unmasked, the last 512 masked. -/
def cx1 (M : FVec F S512x512 .f32) (qs : FVec F S1024x128 .bf16) (k v : Vec F S1x1x1024x128 .f32) : FVec F S512x128 .bf16 :=
  k0_pay19 (k0_pay16 M qs (k0_pay14 k) v)
/-- A head's columns of the queries. -/
def qcol (q : FVec F S1024x1024 .bf16) : ℕ → FVec F S1024x128 .bf16
  | 0 => extractStridedSlice S1024x128 ![0, 0] q slices_S1024x1024_o0_0_S1024x128
  | 1 => k0_pay13 q
  | 2 => k0_pay20 q
  | 3 => k0_pay30 q
  | 4 => k0_pay39 q
  | 5 => k0_pay45 q
  | 6 => k0_pay54 q
  | _ => k0_pay60 q
/-- The sixteen pieces, of the queries `q` and the heads' keys and values. -/
def piece (M : FVec F S512x512 .f32) (q : FVec F S1024x1024 .bf16) (Kf Vf : Fin 8 → Vec F S1x1x1024x128 .f32) (n : ℕ) : Vec F S512x128 .bf16 :=
  if n % 2 = 0 then cx0 M (qcol q (n / 2)) (Kf ⟨n / 2 % 8, Nat.mod_lt _ (by decide)⟩) (Vf ⟨n / 2 % 8, Nat.mod_lt _ (by decide)⟩)
  else cx1 M (qcol q (n / 2)) (Kf ⟨n / 2 % 8, Nat.mod_lt _ (by decide)⟩) (Vf ⟨n / 2 % 8, Nat.mod_lt _ (by decide)⟩)

section Pieces
variable (M : FVec F S512x512 .f32) (v161 : FVec F S1024x1024 .bf16) (q : FVec F S1024x1024 .bf16) (w : Vec F S1x1x1x1024x1024 .bf16) (k v : Vec F S1x1x1024x128 .f32)
theorem piece_0 : k0_pay11 (k0_pay8 v) (k0_pay9 v161 M w k) (k0_pay10 v161 M w k) = cx0 M (extractStridedSlice S1024x128 ![0, 0] (k0_pay5 v161 w) slices_S1024x1024_o0_0_S1024x128) k v := rfl
theorem piece_1 : k0_pay12 M (k0_pay6 v161 w) (k0_pay7 k) (k0_pay8 v) = cx1 M (extractStridedSlice S1024x128 ![0, 0] (k0_pay5 v161 w) slices_S1024x1024_o0_0_S1024x128) k v := rfl
theorem piece_2 : k0_pay18 (k0_pay17 M (k0_pay13 q) (k0_pay14 k) v) = cx0 M (k0_pay13 q) k v := rfl
theorem piece_3 : k0_pay19 (k0_pay16 M (k0_pay13 q) (k0_pay14 k) v) = cx1 M (k0_pay13 q) k v := rfl
theorem piece_4 : k0_pay28 (k0_pay23 M q k v) = cx0 M (k0_pay20 q) k v := rfl
theorem piece_5 : k0_pay29 (k0_pay22 v) (k0_pay24 q k) (k0_pay25 M q k) (k0_pay26 q k) (k0_pay27 M q k) = cx1 M (k0_pay20 q) k v := rfl
theorem piece_6 : k0_pay37 (k0_pay34 M q k) (k0_pay35 M q k) (k0_pay36 v) (constant S512x128 .f32 0x00000000#32) = cx0 M (k0_pay30 q) k v := rfl
theorem piece_7 : k0_pay38 M (k0_pay30 q) (k0_pay31 k) (k0_pay32 v) = cx1 M (k0_pay30 q) k v := rfl
theorem piece_8 : k0_pay43 M (k0_pay39 q) (k0_pay40 k) v = cx0 M (k0_pay39 q) k v := rfl
theorem piece_9 : k0_pay44 (k0_pay42 M (k0_pay39 q) (k0_pay40 k) v) = cx1 M (k0_pay39 q) k v := rfl
theorem piece_10 : k0_pay52 (k0_pay48 M q k v) = cx0 M (k0_pay45 q) k v := rfl
theorem piece_11 : k0_pay53 (k0_pay47 v) (k0_pay49 q k) (k0_pay50 M q k) (k0_pay51 M q k) (Scalar.ofBits .f32 0x3F800000#32) = cx1 M (k0_pay45 q) k v := rfl
theorem piece_12 : k0_pay58 (k0_pay57 M q k v) = cx0 M (k0_pay54 q) k v := rfl
theorem piece_13 : k0_pay59 M (k0_pay54 q) (k0_pay55 k) (k0_pay56 v) = cx1 M (k0_pay54 q) k v := rfl
theorem piece_14 : k0_pay64 M (k0_pay60 q) (k0_pay61 k) (k0_pay62 v) = cx0 M (k0_pay60 q) k v := rfl
theorem piece_15 : k0_pay3 (k0_pay65 M (k0_pay60 q) (k0_pay61 k) (k0_pay62 v)) = cx1 M (k0_pay60 q) k v := rfl
end Pieces

/-! ## Where a trip's loads lie -/

theorem off44_at : ∀ t : Fin k0_t1_loop.trips, k0_off44 t = ![(dirT t.val).val, (sl (posT t.val)).val, (0 : Fin 2).val, 0, 0] := by decide +kernel
theorem off53_at : ∀ t : Fin k0_t1_loop.trips, k0_off53 t = ![(dirT t.val).val, (sl (posT t.val)).val, (1 : Fin 2).val, 0, 0] := by decide +kernel
theorem off45_at : ∀ t : Fin k0_t1_loop.trips, k0_off45 t = ![t.val % 2, (0 : Fin 8).val, 0, 0] := by decide +kernel
theorem off46_at : ∀ t : Fin k0_t1_loop.trips, k0_off46 t = ![t.val % 2, (1 : Fin 8).val, 0, 0] := by decide +kernel
theorem off47_at : ∀ t : Fin k0_t1_loop.trips, k0_off47 t = ![t.val % 2, (2 : Fin 8).val, 0, 0] := by decide +kernel
theorem off48_at : ∀ t : Fin k0_t1_loop.trips, k0_off48 t = ![t.val % 2, (3 : Fin 8).val, 0, 0] := by decide +kernel
theorem off49_at : ∀ t : Fin k0_t1_loop.trips, k0_off49 t = ![t.val % 2, (4 : Fin 8).val, 0, 0] := by decide +kernel
theorem off50_at : ∀ t : Fin k0_t1_loop.trips, k0_off50 t = ![t.val % 2, (5 : Fin 8).val, 0, 0] := by decide +kernel
theorem off51_at : ∀ t : Fin k0_t1_loop.trips, k0_off51 t = ![t.val % 2, (6 : Fin 8).val, 0, 0] := by decide +kernel
theorem off52_at : ∀ t : Fin k0_t1_loop.trips, k0_off52 t = ![t.val % 2, (7 : Fin 8).val, 0, 0] := by decide +kernel

/-! ## The parts -/

/-- What the compute holds: the slot's heads, and the buffer with its first `n` pieces in. -/
def Cmp (c : Dev nD) (s : Fin 2) (r : ℕ) (X : ℕ → Vec F S512x128 .bf16) (n : ℕ) : sProp 𝕄 :=
  iprop(kHeld D c s r ∗ vHeld D c s r ∗ ctxAt c X n)

section Parts
variable (c g : Dev nD) (t : Fin k0_t1_loop.trips) (s : Fin 2) (r : ℕ) (hs : s.val = t.val % 2) (hg : g = grp c (2 * r + s.val))
  (M : FVec F S512x512 .f32) (X : ℕ → Vec F S512x128 .bf16) (v292 : BitVec 32)
include hs hg

set_option maxHeartbeats 1000000 in
theorem wp_part15 (v428 : FVec F S1024x1024 .bf16) (v429 v433 v437 : FVec F S1024x128 .bf16) (v442 : FVec F S512x512 .f32) (v446 : FVec F S512x1 .f32) (h0 : k0_pay11 v437 v442 v446 = X 0) (h1 : k0_pay12 M v429 v433 v437 = X 1) {Φ : (Σ' (v485 : FVec F S1024x128 .bf16), FVec F S1024x128 .bf16) → sProp (MT nD τ sig ℕ (Elt F) ℕ UU ℕ)} :
    Cmp D c s r X 0 ⊢ iprop((Cmp D c s r X 2 -∗ Φ ⟨k0_pay13 v428, k0_pay14 (KL D c g 1)⟩) -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v428 v429 v433 v437 v442 v446) Φ) := by
  rw [k0_part15_eq_skeleton]
  unfold k0_part15_skel Cmp
  simp only [Prog.lift, Prog.bind_op, Prog.bind_ret, Prog.pure_eq_ret]
  iintro ⟨Hk, Hv, Hx⟩ Hq
  iapply (wp_cload c X 0) $$ Hx
  iintro %x0 Hx
  iapply (wp_cstore c X 0 (by decide) h0) $$ Hx
  iintro Hx
  iapply (wp_cload c X 1) $$ Hx
  iintro %x1 Hx
  iapply (wp_cstore c X 1 (by decide) h1) $$ Hx
  iintro Hx
  iapply (wp_kload D c g s r 1 hg (by rw [off46_at, hs])) $$ Hk
  iintro Hk
  rw [wp_ret]
  imodintro
  iapply Hq
  isplitl [Hk]; · iexact Hk
  isplitl [Hv]; · iexact Hv
  iexact Hx

set_option maxHeartbeats 1000000 in
theorem wp_part16 (v485 v489 : FVec F S1024x128 .bf16)  {Φ : (Σ' (v532 : FVec F S512x128 .f32), FVec F S512x128 .bf16) → sProp (MT nD τ sig ℕ (Elt F) ℕ UU ℕ)} :
    Cmp D c s r X 2 ⊢ iprop((Cmp D c s r X 2 -∗ Φ ⟨k0_pay16 M v485 v489 (VL D c g 1), k0_pay17 M v485 v489 (VL D c g 1)⟩) -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v485 v489) Φ) := by
  rw [k0_part16_eq_skeleton]
  unfold k0_part16_skel Cmp
  simp only [Prog.lift, Prog.bind_op, Prog.bind_ret, Prog.pure_eq_ret]
  iintro ⟨Hk, Hv, Hx⟩ Hq
  iapply (wp_vload D c g s r 1 hg (by rw [off46_at, hs])) $$ Hv
  iintro Hv
  rw [wp_ret]
  imodintro
  iapply Hq
  isplitl [Hk]; · iexact Hk
  isplitl [Hv]; · iexact Hv
  iexact Hx

set_option maxHeartbeats 1000000 in
theorem wp_part17 (v428 : FVec F S1024x1024 .bf16) (v532 : FVec F S512x128 .f32) (v533 : FVec F S512x128 .bf16) (h0 : k0_pay18 v533 = X 2) (h1 : k0_pay19 v532 = X 3) {Φ : (Σ' (v549 : FVec F S1024x128 .bf16) (v563 : FVec F S512x128 .f32) (v570 : FVec F S512x512 .f32) (v572 : FVec F S512x512 .f32) (v574 : FVec F S512x1 .f32), FVec F S512 .f32) → sProp (MT nD τ sig ℕ (Elt F) ℕ UU ℕ)} :
    Cmp D c s r X 2 ⊢ iprop((Cmp D c s r X 4 -∗ Φ ⟨k0_pay22 (VL D c g 2), k0_pay23 M v428 (KL D c g 2) (VL D c g 2), k0_pay24 v428 (KL D c g 2), k0_pay25 M v428 (KL D c g 2), k0_pay26 v428 (KL D c g 2), k0_pay27 M v428 (KL D c g 2)⟩) -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v428 v532 v533) Φ) := by
  rw [k0_part17_eq_skeleton]
  unfold k0_part17_skel Cmp
  simp only [Prog.lift, Prog.bind_op, Prog.bind_ret, Prog.pure_eq_ret]
  iintro ⟨Hk, Hv, Hx⟩ Hq
  iapply (wp_cload c X 2) $$ Hx
  iintro %x2 Hx
  iapply (wp_cstore c X 2 (by decide) h0) $$ Hx
  iintro Hx
  iapply (wp_cload c X 3) $$ Hx
  iintro %x3 Hx
  iapply (wp_cstore c X 3 (by decide) h1) $$ Hx
  iintro Hx
  iapply (wp_kload D c g s r 2 hg (by rw [off47_at, hs])) $$ Hk
  iintro Hk
  iapply (wp_vload D c g s r 2 hg (by rw [off47_at, hs])) $$ Hv
  iintro Hv
  rw [wp_ret]
  imodintro
  iapply Hq
  isplitl [Hk]; · iexact Hk
  isplitl [Hv]; · iexact Hv
  iexact Hx

set_option maxHeartbeats 1000000 in
theorem wp_part18 (v428 : FVec F S1024x1024 .bf16) (v549 : FVec F S1024x128 .bf16) (v563 : FVec F S512x128 .f32) (v570 v572 : FVec F S512x512 .f32) (v574 : FVec F S512x1 .f32) (v575 : FVec F S512 .f32) (h0 : k0_pay28 v563 = X 4) (h1 : k0_pay29 v549 v570 v572 v574 v575 = X 5) {Φ : (Σ' (v597 : FVec F S1024x128 .bf16) (v601 : FVec F S1024x128 .bf16) (v605 : FVec F S1024x128 .bf16) (v614 : FVec F S512x1 .f32) (v615 : FVec F S512x512 .bf16) (v616 : FVec F S512x128 .bf16), FVec F S512x128 .f32) → sProp (MT nD τ sig ℕ (Elt F) ℕ UU ℕ)} :
    Cmp D c s r X 4 ⊢ iprop((Cmp D c s r X 6 -∗ Φ ⟨k0_pay30 v428, k0_pay31 (KL D c g 3), k0_pay32 (VL D c g 3), k0_pay34 M v428 (KL D c g 3), k0_pay35 M v428 (KL D c g 3), k0_pay36 (VL D c g 3), constant S512x128 .f32 0x00000000#32⟩) -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v428 v549 v563 v570 v572 v574 v575) Φ) := by
  rw [k0_part18_eq_skeleton]
  unfold k0_part18_skel Cmp
  simp only [Prog.lift, Prog.bind_op, Prog.bind_ret, Prog.pure_eq_ret]
  iintro ⟨Hk, Hv, Hx⟩ Hq
  iapply (wp_cload c X 4) $$ Hx
  iintro %x4 Hx
  iapply (wp_cstore c X 4 (by decide) h0) $$ Hx
  iintro Hx
  iapply (wp_cload c X 5) $$ Hx
  iintro %x5 Hx
  iapply (wp_cstore c X 5 (by decide) h1) $$ Hx
  iintro Hx
  iapply (wp_kload D c g s r 3 hg (by rw [off48_at, hs])) $$ Hk
  iintro Hk
  iapply (wp_vload D c g s r 3 hg (by rw [off48_at, hs])) $$ Hv
  iintro Hv
  rw [wp_ret]
  imodintro
  iapply Hq
  isplitl [Hk]; · iexact Hk
  isplitl [Hv]; · iexact Hv
  iexact Hx

set_option maxHeartbeats 1000000 in
theorem wp_part19 (v428 : FVec F S1024x1024 .bf16) (v597 v601 v605 : FVec F S1024x128 .bf16) (v614 : FVec F S512x1 .f32) (v615 : FVec F S512x512 .bf16) (v616 : FVec F S512x128 .bf16) (cst : FVec F S512x128 .f32) (h0 : k0_pay37 v614 v615 v616 cst = X 6) (h1 : k0_pay38 M v597 v601 v605 = X 7) {Φ : (Σ' (v653 : FVec F S1024x128 .bf16), FVec F S1024x128 .bf16) → sProp (MT nD τ sig ℕ (Elt F) ℕ UU ℕ)} :
    Cmp D c s r X 6 ⊢ iprop((Cmp D c s r X 8 -∗ Φ ⟨k0_pay39 v428, k0_pay40 (KL D c g 4)⟩) -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v428 v597 v601 v605 v614 v615 v616 cst) Φ) := by
  rw [k0_part19_eq_skeleton]
  unfold k0_part19_skel Cmp
  simp only [Prog.lift, Prog.bind_op, Prog.bind_ret, Prog.pure_eq_ret]
  iintro ⟨Hk, Hv, Hx⟩ Hq
  iapply (wp_cload c X 6) $$ Hx
  iintro %x6 Hx
  iapply (wp_cstore c X 6 (by decide) h0) $$ Hx
  iintro Hx
  iapply (wp_cload c X 7) $$ Hx
  iintro %x7 Hx
  iapply (wp_cstore c X 7 (by decide) h1) $$ Hx
  iintro Hx
  iapply (wp_kload D c g s r 4 hg (by rw [off49_at, hs])) $$ Hk
  iintro Hk
  rw [wp_ret]
  imodintro
  iapply Hq
  isplitl [Hk]; · iexact Hk
  isplitl [Hv]; · iexact Hv
  iexact Hx

set_option maxHeartbeats 1000000 in
theorem wp_part20 (v653 v657 : FVec F S1024x128 .bf16)  {Φ : (Σ' (v700 : FVec F S512x128 .f32), FVec F S512x128 .bf16) → sProp (MT nD τ sig ℕ (Elt F) ℕ UU ℕ)} :
    Cmp D c s r X 8 ⊢ iprop((Cmp D c s r X 8 -∗ Φ ⟨k0_pay42 M v653 v657 (VL D c g 4), k0_pay43 M v653 v657 (VL D c g 4)⟩) -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v653 v657) Φ) := by
  rw [k0_part20_eq_skeleton]
  unfold k0_part20_skel Cmp
  simp only [Prog.lift, Prog.bind_op, Prog.bind_ret, Prog.pure_eq_ret]
  iintro ⟨Hk, Hv, Hx⟩ Hq
  iapply (wp_vload D c g s r 4 hg (by rw [off49_at, hs])) $$ Hv
  iintro Hv
  iapply (wp_cload c X 8) $$ Hx
  iintro %x8 Hx
  rw [wp_ret]
  imodintro
  iapply Hq
  isplitl [Hk]; · iexact Hk
  isplitl [Hv]; · iexact Hv
  iexact Hx

set_option maxHeartbeats 1000000 in
theorem wp_part21 (v428 : FVec F S1024x1024 .bf16) (v700 : FVec F S512x128 .f32) (v704 : FVec F S512x128 .bf16) (h0 : v704 = X 8) (h1 : k0_pay44 v700 = X 9) {Φ : (Σ' (v717 : FVec F S1024x128 .bf16) (v731 : FVec F S512x128 .f32) (v738 : FVec F S512x512 .f32) (v740 : FVec F S512x512 .f32) (v745 : FVec F S512x1 .f32), F .f32) → sProp (MT nD τ sig ℕ (Elt F) ℕ UU ℕ)} :
    Cmp D c s r X 8 ⊢ iprop((Cmp D c s r X 10 -∗ Φ ⟨k0_pay47 (VL D c g 5), k0_pay48 M v428 (KL D c g 5) (VL D c g 5), k0_pay49 v428 (KL D c g 5), k0_pay50 M v428 (KL D c g 5), k0_pay51 M v428 (KL D c g 5), Scalar.ofBits .f32 0x3F800000#32⟩) -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v428 v700 v704) Φ) := by
  rw [k0_part21_eq_skeleton]
  unfold k0_part21_skel Cmp
  simp only [Prog.lift, Prog.bind_op, Prog.bind_ret, Prog.pure_eq_ret]
  iintro ⟨Hk, Hv, Hx⟩ Hq
  iapply (wp_cstore c X 8 (by decide) h0) $$ Hx
  iintro Hx
  iapply (wp_cload c X 9) $$ Hx
  iintro %x9 Hx
  iapply (wp_cstore c X 9 (by decide) h1) $$ Hx
  iintro Hx
  iapply (wp_kload D c g s r 5 hg (by rw [off50_at, hs])) $$ Hk
  iintro Hk
  iapply (wp_vload D c g s r 5 hg (by rw [off50_at, hs])) $$ Hv
  iintro Hv
  rw [wp_ret]
  imodintro
  iapply Hq
  isplitl [Hk]; · iexact Hk
  isplitl [Hv]; · iexact Hv
  iexact Hx

set_option maxHeartbeats 1000000 in
theorem wp_part22 (v428 : FVec F S1024x1024 .bf16) (v717 : FVec F S1024x128 .bf16) (v731 : FVec F S512x128 .f32) (v738 v740 : FVec F S512x512 .f32) (v745 : FVec F S512x1 .f32) (cst : F .f32) (h0 : k0_pay52 v731 = X 10) (h1 : k0_pay53 v717 v738 v740 v745 cst = X 11) {Φ : (Σ' (v765 : FVec F S1024x128 .bf16) (v769 : FVec F S1024x128 .bf16) (v773 : FVec F S1024x128 .bf16), FVec F S512x128 .f32) → sProp (MT nD τ sig ℕ (Elt F) ℕ UU ℕ)} :
    Cmp D c s r X 10 ⊢ iprop((Cmp D c s r X 12 -∗ Φ ⟨k0_pay54 v428, k0_pay55 (KL D c g 6), k0_pay56 (VL D c g 6), k0_pay57 M v428 (KL D c g 6) (VL D c g 6)⟩) -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v428 v717 v731 v738 v740 v745 cst) Φ) := by
  rw [k0_part22_eq_skeleton]
  unfold k0_part22_skel Cmp
  simp only [Prog.lift, Prog.bind_op, Prog.bind_ret, Prog.pure_eq_ret]
  iintro ⟨Hk, Hv, Hx⟩ Hq
  iapply (wp_cload c X 10) $$ Hx
  iintro %x10 Hx
  iapply (wp_cstore c X 10 (by decide) h0) $$ Hx
  iintro Hx
  iapply (wp_cload c X 11) $$ Hx
  iintro %x11 Hx
  iapply (wp_cstore c X 11 (by decide) h1) $$ Hx
  iintro Hx
  iapply (wp_kload D c g s r 6 hg (by rw [off51_at, hs])) $$ Hk
  iintro Hk
  iapply (wp_vload D c g s r 6 hg (by rw [off51_at, hs])) $$ Hv
  iintro Hv
  rw [wp_ret]
  imodintro
  iapply Hq
  isplitl [Hk]; · iexact Hk
  isplitl [Hv]; · iexact Hv
  iexact Hx

set_option maxHeartbeats 1000000 in
theorem wp_part23 (v428 : FVec F S1024x1024 .bf16) (v765 v769 v773 : FVec F S1024x128 .bf16) (v787 : FVec F S512x128 .f32) (h0 : k0_pay58 v787 = X 12) (h1 : k0_pay59 M v765 v769 v773 = X 13) {Φ : (Σ' (v821 : FVec F S1024x128 .bf16) (v825 : FVec F S1024x128 .bf16), FVec F S1024x128 .f32) → sProp (MT nD τ sig ℕ (Elt F) ℕ UU ℕ)} :
    Cmp D c s r X 12 ⊢ iprop((Cmp D c s r X 14 -∗ Φ ⟨k0_pay60 v428, k0_pay61 (KL D c g 7), k0_pay62 (VL D c g 7)⟩) -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M t v292 v428 v765 v769 v773 v787) Φ) := by
  rw [k0_part23_eq_skeleton]
  unfold k0_part23_skel Cmp
  simp only [Prog.lift, Prog.bind_op, Prog.bind_ret, Prog.pure_eq_ret]
  iintro ⟨Hk, Hv, Hx⟩ Hq
  iapply (wp_cload c X 12) $$ Hx
  iintro %x12 Hx
  iapply (wp_cstore c X 12 (by decide) h0) $$ Hx
  iintro Hx
  iapply (wp_cload c X 13) $$ Hx
  iintro %x13 Hx
  iapply (wp_cstore c X 13 (by decide) h1) $$ Hx
  iintro Hx
  iapply (wp_kload D c g s r 7 hg (by rw [off52_at, hs])) $$ Hk
  iintro Hk
  iapply (wp_vload D c g s r 7 hg (by rw [off52_at, hs])) $$ Hv
  iintro Hv
  rw [wp_ret]
  imodintro
  iapply Hq
  isplitl [Hk]; · iexact Hk
  isplitl [Hv]; · iexact Hv
  iexact Hx

set_option maxHeartbeats 1000000 in
theorem wp_part24 (v821 v825 : FVec F S1024x128 .bf16) (v828 : FVec F S1024x128 .f32) (h0 : k0_pay64 M v821 v825 v828 = X 14) {Φ : FVec F S512x128 .bf16 → sProp (MT nD τ sig ℕ (Elt F) ℕ UU ℕ)} :
    Cmp D c s r X 14 ⊢ iprop((Cmp D c s r X 15 -∗ Φ (k0_pay65 M v821 v825 v828)) -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 M v821 v825 v828) Φ) := by
  rw [k0_part24_eq_skeleton]
  unfold k0_part24_skel Cmp
  simp only [Prog.lift, Prog.bind_op, Prog.bind_ret, Prog.pure_eq_ret]
  iintro ⟨Hk, Hv, Hx⟩ Hq
  iapply (wp_cload c X 14) $$ Hx
  iintro %x14 Hx
  iapply (wp_cstore c X 14 (by decide) h0) $$ Hx
  iintro Hx
  rw [wp_ret]
  imodintro
  iapply Hq
  isplitl [Hk]; · iexact Hk
  isplitl [Hv]; · iexact Hv
  iexact Hx

set_option maxHeartbeats 2000000 in
theorem wp_part14 (hr : r < 4) (O : CellTallies nD τ sig ℕ) (hO : Above O 0) (v161 : FVec F S1024x1024 .bf16) (v251 v265 : BitVec 32) (f : cc0_scratch0.ty.Contents (Elt F)) {Φ : (Σ' (v428 : FVec F S1024x1024 .bf16) (v429 : FVec F S1024x128 .bf16) (v433 : FVec F S1024x128 .bf16) (v437 : FVec F S1024x128 .bf16) (v442 : FVec F S512x512 .f32), FVec F S512x1 .f32) → sProp (MT nD τ sig ℕ (Elt F) ℕ UU ℕ)} :
    iprop(invs (F := F) D K ∗ levAts L lv ∗ (∃ Wt, owes (c : Thread nD τ) O Wt) ∗ Dr D c (some (.kc s)) r 7 ∗ Dr D c (some (.vc s)) r 7 ∗ cBoth c (dirT t.val) (sl (posT t.val)) f)
      ⊢ iprop(((∃ Wt, owes (c : Thread nD τ) O Wt) ∗ (atPos ER (cell c (some (.kc s))) (r + 1) ∅ 0 ∗ reached ER (cell c (some (.kc s))) (r + 1))
          ∗ (atPos ER (cell c (some (.vc s))) (r + 1) ∅ 0 ∗ reached ER (cell c (some (.vc s))) (r + 1)) ∗ kHeld D c s r ∗ vHeld D c s r ∗ cBoth c (dirT t.val) (sl (posT t.val)) f
        -∗ Φ ⟨k0_pay5 v161 (commM.view.readAt (Elt F) (plR (dirT t.val) (sl (posT t.val)) 0).toLoadRect f), k0_pay6 v161 (commM.view.readAt (Elt F) (plR (dirT t.val) (sl (posT t.val)) 0).toLoadRect f), k0_pay7 (KL D c g 0), k0_pay8 (VL D c g 0),
          k0_pay9 v161 M (commM.view.readAt (Elt F) (plR (dirT t.val) (sl (posT t.val)) 0).toLoadRect f) (KL D c g 0), k0_pay10 v161 M (commM.view.readAt (Elt F) (plR (dirT t.val) (sl (posT t.val)) 0).toLoadRect f) (KL D c g 0)⟩) -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v161 M t v251 v265 v292) Φ) := by
  have h34 : k0_off34 t = ![s.val] := by rw [k0_off34_eq, hs]
  have hk : ∀ (off : Fin 4 → ℕ) (inb : ∀ a, off a + S1x1x1024x128.size a ≤ S2x8x1024x128.size a),
      ((kbM.slice (Rect.unit off S1x1x1024x128.size inb) (fun _ => rfl)).squeeze S1024x128 squeezes_S1x1x1024x128_S1024x128).view.dmaCredit = NK := fun _ _ => rfl
  have hv : ∀ (off : Fin 4 → ℕ) (inb : ∀ a, off a + S1x1x1024x128.size a ≤ S2x8x1024x128.size a),
      ((vbM.slice (Rect.unit off S1x1x1024x128.size inb) (fun _ => rfl)).squeeze S1024x128 squeezes_S1x1x1024x128_S1024x128).view.dmaCredit = NK := fun _ _ => rfl
  rw [k0_part14_eq_skeleton]
  unfold k0_part14_skel
  simp only [Prog.lift, Prog.bind_op, Prog.bind_ret, Prog.pure_eq_ret]
  iintro ⟨#HI, #HL, Ho, Hk, Hv, Hc⟩ Hq
  iapply (wp_dr_last D K c (some (.kc s)) r (eight_kc s hr) (hk _ _) (congrArg SemLoc.dma (kc_at _ h34).symm) O hO) $$ [Ho Hk]
  · isplitr; · iexact HI
    isplitr; · iexact HL
    isplitl [Ho]; · iexact Ho
    iexact Hk
  iintro ⟨Ho, Hak, Hrk, Hk⟩
  iapply (wp_dr_last D K c (some (.vc s)) r (eight_vc s hr) (hv _ _) (congrArg SemLoc.dma (vc_at _ h34).symm) O hO) $$ [Ho Hv]
  · isplitr; · iexact HI
    isplitr; · iexact HL
    isplitl [Ho]; · iexact Ho
    iexact Hv
  iintro ⟨Ho, Hav, Hrv, Hv⟩
  iapply (wp_pload c (dirT t.val) (sl (posT t.val)) 0 f (off44_at t)) $$ Hc
  iintro Hc
  iapply (wp_kload D c g s r 0 hg (by rw [off45_at, hs])) $$ [Hk]
  · unfold kHeld; iexact Hk
  iintro Hk
  iapply (wp_vload D c g s r 0 hg (by rw [off45_at, hs])) $$ [Hv]
  · unfold vHeld; iexact Hv
  iintro Hv
  rw [wp_ret]
  imodintro
  iapply Hq
  isplitl [Ho]; · iexact Ho
  isplitl [Hak Hrk]
  · isplitl [Hak]; · iexact Hak
    iexact Hrk
  isplitl [Hav Hrv]
  · isplitl [Hav]; · iexact Hav
    iexact Hrv
  isplitl [Hk]; · iexact Hk
  isplitl [Hv]; · iexact Hv
  iexact Hc

end Parts

end Cert.KernelIdealRun

end
-- ==== Proof.KernelIdealRun.Trip.lean ====
/-
One trip of the loop: from the state before it to the state before the next.
-/
module

public import proofs.«01_k».proof.Proof.KernelIdealRun.Heads

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-! ## The output and the whole of the results' buffer -/

abbrev outM : Memref sig .tc .vmem S1x1024x1024 .f32 := Memref.whole cc0_stg3_0
abbrev outR : Rect S1x1024x1024 := Rect.unit (s := S1x1024x1024) ![0, 0, 0] S1x1024x1024.size inb_S1x1024x1024_S1x1024x1024_0_0_0
abbrev allR : Rect S1024x1024 := Rect.unit (s := S1024x1024) ![0, 0] S1024x1024.size inb_S1024x1024_S1024x1024_0_0

theorem outR_emb (y : S1x1024x1024.Idx) : (outM.access outR).emb y = y := by
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem allR_emb (y : S1024x1024.Idx) : (ctxM.access allR).emb y = y := by
  funext a
  apply Fin.ext
  match a with
  | ⟨0, _⟩ => show 0 + 1 * (y 0).val = (y 0).val; omega
  | ⟨1, _⟩ => show 0 + 1 * (y 1).val = (y 1).val; omega
theorem out_read (f : cc0_stg3_0.ty.Contents (Elt F)) : (outM.access outR).read (Elt F) f = f := by
  funext y
  exact congrArg f (outR_emb y)
theorem all_read (f : cc0_scratch3.ty.Contents (Elt F)) : (ctxM.access allR).read (Elt F) f = f := by
  funext y
  exact congrArg f (allR_emb y)
theorem out_write (f w : cc0_stg3_0.ty.Contents (Elt F)) : (outM.access outR).write (Elt F) f w Finset.univ = w := by
  funext y
  conv_lhs => rw [← outR_emb y]
  rw [View.write_emb_of_mem _ _ (Finset.mem_univ _)]
  rfl

section Rules
variable {α : Type} {Q : α → sProp (MT nD τ sig ℕ (Elt F) ℕ UU ℕ)}

theorem wp_oload (c : Dev nD) (f : cc0_stg3_0.ty.Contents (Elt F)) {hl : outM.view.LoadsAt outR.toLoadRect}
    {k : Vec F S1x1024x1024 .f32 → Prog (TpuEff nD τ sig (Elt F) Λ₀ .tc) α} :
    (((c : Thread nD τ).loc cc0_stg3_0) ↦{fullShare} f : sProp (MT nD τ sig ℕ (Elt F) ℕ UU ℕ))
      ⊢ iprop(((((c : Thread nD τ).loc cc0_stg3_0) ↦{fullShare} f) -∗ wp frame (wpE (defs₀ (F := F)) 𝒱₀ (c : Thread nD τ) none) Set.univ (k f) Q) -∗ wp frame (wpE (defs₀ (F := F)) 𝒱₀ (c : Thread nD τ) none) Set.univ (.op (.load outM outR.toLoadRect hl) k) Q) := by
  iintro H Hk
  iapply (wp_load_rect 𝒱₀ (c : Thread nD τ) none Set.univ (m := outM) (r := outR) (k := k) (f := f) (S := Finset.univ) (Finset.subset_univ _)) $$ H
  rw [out_read]
  iexact Hk
theorem wp_aload (c : Dev nD) (f : cc0_scratch3.ty.Contents (Elt F)) {hl : ctxM.view.LoadsAt allR.toLoadRect}
    {k : Vec F S1024x1024 .bf16 → Prog (TpuEff nD τ sig (Elt F) Λ₀ .tc) α} :
    (((c : Thread nD τ).loc cc0_scratch3) ↦{fullShare} f : sProp (MT nD τ sig ℕ (Elt F) ℕ UU ℕ))
      ⊢ iprop(((((c : Thread nD τ).loc cc0_scratch3) ↦{fullShare} f) -∗ wp frame (wpE (defs₀ (F := F)) 𝒱₀ (c : Thread nD τ) none) Set.univ (k f) Q) -∗ wp frame (wpE (defs₀ (F := F)) 𝒱₀ (c : Thread nD τ) none) Set.univ (.op (.load ctxM allR.toLoadRect hl) k) Q) := by
  iintro H Hk
  iapply (wp_load_rect 𝒱₀ (c : Thread nD τ) none Set.univ (m := ctxM) (r := allR) (k := k) (f := f) (S := Finset.univ) (Finset.subset_univ _)) $$ H
  rw [all_read]
  iexact Hk
theorem wp_ostore (c : Dev nD) (f : cc0_stg3_0.ty.Contents (Elt F)) {w : Vec F S1x1024x1024 .f32}
    {hx : (outM.access outR).Stores Finset.univ}
    {hm : (Finset.univ : Finset S1x1024x1024.Idx) = Finset.univ ∨ ∀ a, outR.stride a = 1}
    {k : PUnit → Prog (TpuEff nD τ sig (Elt F) Λ₀ .tc) α} :
    (((c : Thread nD τ).loc cc0_stg3_0) ↦{fullShare} f : sProp (MT nD τ sig ℕ (Elt F) ℕ UU ℕ))
      ⊢ iprop(((((c : Thread nD τ).loc cc0_stg3_0) ↦{fullShare} w) -∗ wp frame (wpE (defs₀ (F := F)) 𝒱₀ (c : Thread nD τ) none) Set.univ (k ⟨⟩) Q) -∗ wp frame (wpE (defs₀ (F := F)) 𝒱₀ (c : Thread nD τ) none) Set.univ (.op (.store outM outR w Finset.univ hx hm) k) Q) := by
  iintro H Hk
  iapply (wp_store 𝒱₀ (c : Thread nD τ) none Set.univ (m := outM) (r := outR) (w := w) (Mk := Finset.univ) (k := k) (f := f)
    (S := Finset.univ) (Finset.subset_univ _)) $$ H
  have e := out_write f w
  rw [e]
  iexact Hk
end Rules

/-! ## The values of the trips -/

/-- A plane of the weights trip `t` reads: `0` the queries' weights, `1` the output's. -/
def PW (c : Dev nD) (t : ℕ) (pl : Fin 2) : Vec F S1x1x1x1024x1024 .bf16 :=
  commM.view.readAt (Elt F) (plR (dirT t) (sl (posT t)) pl).toLoadRect (D.W (grp c t))
/-- The pieces trip `t` stores. -/
def XT (c : Dev nD) (M : FVec F S512x512 .f32) (x : FVec F S1024x1024 .bf16) (t : ℕ) : ℕ → Vec F S512x128 .bf16 :=
  piece M (k0_pay5 x (PW D c t 0)) (KL D c (grp c t)) (VL D c (grp c t))
/-- The output before trip `t`. -/
def acc (c : Dev nD) (M : FVec F S512x512 .f32) (x : FVec F S1024x1024 .bf16) : ℕ → Vec F S1x1024x1024 .f32
  | 0 => k0_pay2
  | t + 1 => k0_pay4 (acc c M x t) (ctxOf (XT D c M x t)) (PW D c t 1)

/-- The state before trip `t`. -/
def TInv (c : Dev nD) (M : FVec F S512x512 .f32) (x : FVec F S1024x1024 .bf16) (t : ℕ) : sProp 𝕄 :=
  iprop(invs (F := F) D K ∗ rch0 (F := F) ∗ levAts L lv ∗ SX D c t ∗ SI D c (sl (t + 1)) ((t + 1) / 2) ∗ Fst D c t
    ∗ (∃ f, ((c : Thread nD τ).loc cc0_scratch3) ↦{fullShare} f)
    ∗ (((c : Thread nD τ).loc cc0_stg3_0) ↦{fullShare} (acc D c M x t)))

theorem nextP_succ {t : ℕ} (h8 : t < 8) : nextP (dirT t) (t + 1) = posT t + 1 := by
  rcases Nat.eq_zero_or_pos t with rfl | h
  · rfl
  · exact nextP_dir' h h8

theorem cs_take (c : Dev nD) (d h : Fin 2) (p : ℕ) :
    Cs D c d h (p + 1) ⊢ iprop(cPts c d (sl p) h fullShare.right (D.W (src d p c)) ∗ (cPts c d (sl p) h fullShare.right (D.W (src d p c)) -∗ Cs D c d h (p + 1))) := by
  unfold Cs
  rw [Nat.add_sub_cancel]
  iintro ⟨H1, H2, H3, H4, H5, H6⟩
  isplitl [H5]; · iexact H5
  iintro H5
  isplitl [H1]; · iexact H1
  isplitl [H2]; · iexact H2
  isplitl [H3]; · iexact H3
  isplitl [H4]; · iexact H4
  isplitl [H5]; · iexact H5
  iexact H6

/-- The slot a trip reads is held between its communication and the next trip's. -/
theorem ch_take (c : Dev nD) (t : ℕ) (h8 : t < 8) :
    Ch D c (t + 1) ⊢ iprop(cBoth c (dirT t) (sl (posT t)) (D.W (grp c t)) ∗ (cBoth c (dirT t) (sl (posT t)) (D.W (grp c t)) -∗ Ch D c (t + 1))) := by
  have hc := ch_dir D c (dirT t) (t + 1) (Nat.succ_ne_zero _)
  rw [nextP_succ h8] at hc
  unfold cBoth
  iintro H
  ihave H := hc.1 $$ H
  icases H with ⟨⟨H0, H1⟩, H2⟩
  ihave H0 := (cs_take D c (dirT t) 0 (posT t)) $$ H0
  ihave H1 := (cs_take D c (dirT t) 1 (posT t)) $$ H1
  icases H0 with ⟨H0, H0'⟩
  icases H1 with ⟨H1, H1'⟩
  isplitl [H0 H1]
  · isplitl [H0]; · iexact H0
    iexact H1
  iintro ⟨H0, H1⟩
  iapply hc.2
  isplitr [H2]
  · isplitl [H0 H0']
    · iapply H0'; iexact H0
    · iapply H1'; iexact H1
  iexact H2

theorem wp_part8 (c : Dev nD) (t : Fin k0_t1_loop.trips) (v2 a b : BitVec 32) {Φ : (Σ' (arg15 : BitVec 32) (v251 : BitVec 32) (v253 : BitVec 32) (v254 : BitVec 32) (c8_i32_217 : BitVec 32) (v255 : BitVec 1), BitVec 32) → sProp (MT nD τ sig ℕ (Elt F) ℕ UU ℕ)} :
    iprop(∀ x, Φ x) ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2 a b t) Φ := by
  rw [k0_part8_eq_skeleton]
  unfold k0_part8_skel
  simp only [Prog.pure_eq_ret]
  rw [wp_ret]
  iintro H
  imodintro
  iapply H

theorem cmp_intro (c : Dev nD) (s : Fin 2) (r : ℕ) (X : ℕ → Vec F S512x128 .bf16) (n : ℕ) :
    iprop(kHeld D c s r ∗ vHeld D c s r ∗ ctxAt c X n) ⊢ Cmp D c s r X n := Entails.refl _

theorem slot_back (c : Dev nD) (s : Fin 2) (r : ℕ) :
    iprop((atPos ER (cell c (some (.kc s))) (r + 1) ∅ 0 ∗ reached ER (cell c (some (.kc s))) (r + 1))
      ∗ (atPos ER (cell c (some (.vc s))) (r + 1) ∅ 0 ∗ reached ER (cell c (some (.vc s))) (r + 1))
      ∗ (kHeld D c s r ∗ kRest' (F := F) c s (r + 1)) ∗ (vHeld D c s r ∗ vRest' (F := F) c s (r + 1))) ⊢ SI D c s (r + 1) := by
  unfold SI
  iintro ⟨⟨Hak, Hrk⟩, ⟨Hav, Hrv⟩, Hk, Hv⟩
  isplitl [Hak]; · iexact Hak
  isplitl [Hav]; · iexact Hav
  isplitl [Hrk]; · iexact Hrk
  isplitl [Hrv]; · iexact Hrv
  isplitl [Hk]
  · iapply (kRun_none D c s r (r + 1)); iexact Hk
  · iapply (vRun_none D c s r (r + 1)); iexact Hv

theorem slot_open (c : Dev nD) (s : Fin 2) (r : ℕ) :
    SF D c s r ⊢ iprop(Dr D c (some (.kc s)) r 0 ∗ Dr D c (some (.vc s)) r 0 ∗ kRest' (F := F) c s (r + 1) ∗ vRest' (F := F) c s (r + 1)) := by
  unfold SF
  iintro ⟨Hak, Hav, Hk, Hv⟩
  ihave Hk := (kRun_all D c s r) $$ Hk
  ihave Hv := (vRun_all D c s r) $$ Hv
  icases Hk with ⟨Hck, Hrk⟩
  icases Hv with ⟨Hcv, Hrv⟩
  isplitl [Hak Hck]
  · iapply (dr_zero D c (some (.kc s)) r)
    isplitl [Hak]; · iexact Hak
    iexact Hck
  isplitl [Hav Hcv]
  · iapply (dr_zero D c (some (.vc s)) r)
    isplitl [Hav]; · iexact Hav
    iexact Hcv
  isplitl [Hrk]; · iexact Hrk
  iexact Hrv

set_option maxHeartbeats 16000000 in
theorem trip (c : Dev nD) (t : Fin k0_t1_loop.trips) (v2 v5 v7 : BitVec 32) (x : FVec F S1024x1024 .bf16) (v186 v187 : IVec S512x512 32) (c64 : BitVec 32) (v189 v196 : IVec S512x512 32) (v198 : BitVec 32)
    (M : FVec F S512x512 .f32) (hM : k0_pay1 (F := F) v186 v187 c64 v189 v196 v198 = M) (u : Unit) :
    TInv D K c M x t.val ⊢ wp frame (wpE (defs₀ (F := F)) 𝒱₀ (c : Thread nD τ) none) Set.univ (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v5 v7 x v186 v187 c64 v189 v196 v198 t u) (fun _ => TInv D K c M x (t.val + 1)) := by
  have ht8 : t.val < 8 := lt_of_lt_of_eq t.isLt trips_eq
  have hr : t.val / 2 < 4 := by omega
  have hgt : grp c t.val = grp c (2 * (t.val / 2) + (sl t.val).val) := by
    congr 1; show t.val = 2 * (t.val / 2) + t.val % 2; omega
  have hsx : SX D c t.val = SF D c (sl t.val) (t.val / 2) := if_pos ht8
  have hsi : SI D c (sl (t.val + 1 + 1)) ((t.val + 1 + 1) / 2) = SI D c (sl t.val) (t.val / 2 + 1) := by
    have e1 : sl (t.val + 1 + 1) = sl t.val := Fin.ext (show (t.val + 1 + 1) % 2 = t.val % 2 by omega)
    have e2 : (t.val + 1 + 1) / 2 = t.val / 2 + 1 := by omega
    rw [e1, e2]
  have hO : Above (Ow c (t.val + 1)) 0 := above_ow c (by omega)
  unfold k0_t1_body
  rw [hM]
  simp only [Prog.lift, Prog.bind_op, Prog.bind_ret, Prog.pure_eq_ret]
  unfold TInv
  rw [hsx, hsi]
  iintro ⟨#HI, #HR, #HL, HS, HN, HF, ⟨%f3, H3⟩, Hout⟩
  rw [wp_bind]
  iapply (wp_part8 c t v2 _ _)
  iintro %a
  obtain ⟨a1, a2, a3, a4, a5, a6, a7⟩ := a
  dsimp only
  rw [wp_bind]
  iapply (wp_part9 D K c t v2 v5 v7 a1 a2 a3 a4 a5 a6 a7)
  isplitr [HN]
  swap
  · isplitr; · iexact HI
    iexact HN
  isplitr; · iexact HI
  isplitr; · iexact HR
  isplitr; · iexact HL
  isplitl [HF]; · iexact HF
  iintro %b ⟨HM, HX⟩
  obtain ⟨b1, b2, b3, b4⟩ := b
  dsimp only
  rw [wp_bind]
  iapply (wp_part10 D K c t v5 v7 a1 a2 a3 b1 b3 b4) $$ [HM]
  · isplitr; · iexact HI
    isplitr; · iexact HR
    isplitr; · iexact HL
    iexact HM
  iintro %v292 ⟨HCh, Ho⟩
  ihave HS := (slot_open D c (sl t.val) (t.val / 2)) $$ HS
  icases HS with ⟨Hk, Hv, Hrk, Hrv⟩
  rw [wp_bind]
  iapply (wp_part11 D K c t (sl t.val) (t.val / 2) hr rfl (Ow c (t.val + 1)) hO b1) $$ [Ho Hk Hv]
  · isplitr; · iexact HI
    isplitr; · iexact HL
    isplitl [Ho]; · iexact Ho
    isplitl [Hk]; · iexact Hk
    iexact Hv
  iintro ⟨Ho, Hk, Hv⟩
  rw [wp_bind]
  iapply (wp_part12 D K c t (sl t.val) (t.val / 2) hr rfl (Ow c (t.val + 1)) hO) $$ [Ho Hk Hv]
  · isplitr; · iexact HI
    isplitr; · iexact HL
    isplitl [Ho]; · iexact Ho
    isplitl [Hk]; · iexact Hk
    iexact Hv
  iintro ⟨Ho, Hk, Hv⟩
  rw [wp_bind]
  iapply (wp_part13 D K c t (sl t.val) (t.val / 2) hr rfl (Ow c (t.val + 1)) hO) $$ [Ho Hk Hv]
  · isplitr; · iexact HI
    isplitr; · iexact HL
    isplitl [Ho]; · iexact Ho
    isplitl [Hk]; · iexact Hk
    iexact Hv
  iintro ⟨Ho, Hk, Hv⟩
  ihave HCh := (ch_take D c t.val ht8) $$ HCh
  icases HCh with ⟨Hc, Hback⟩
  rw [wp_bind]
  iapply (wp_part14 D K c (grp c t.val) t (sl t.val) (t.val / 2) rfl hgt M v292 hr (Ow c (t.val + 1)) hO x a2 b2 (D.W (grp c t.val))) $$ [Ho Hk Hv Hc]
  · isplitr; · iexact HI
    isplitr; · iexact HL
    isplitl [Ho]; · iexact Ho
    isplitl [Hk]; · iexact Hk
    isplitl [Hv]; · iexact Hv
    iexact Hc
  iintro ⟨Ho, Hak, Hav, Hk, Hv, Hc⟩
  dsimp only
  ihave H3 := (ctx_zero c (XT D c M x t.val) f3) $$ H3
  ihave HC := (cmp_intro D c (sl t.val) (t.val / 2) (XT D c M x t.val) 0) $$ [Hk Hv H3]
  · isplitl [Hk]; · iexact Hk
    isplitl [Hv]; · iexact Hv
    iexact H3
  rw [wp_bind]
  iapply (wp_part15 D c (grp c t.val) t (sl t.val) (t.val / 2) rfl hgt M (XT D c M x t.val) v292 _ _ _ _ _ _ (piece_0 M x (PW D c t.val 0) (KL D c (grp c t.val) 0) (VL D c (grp c t.val) 0)) (piece_1 M x (PW D c t.val 0) (KL D c (grp c t.val) 0) (VL D c (grp c t.val) 0))) $$ HC
  iintro HC
  dsimp only
  rw [wp_bind]
  iapply (wp_part16 D c (grp c t.val) t (sl t.val) (t.val / 2) rfl hgt M (XT D c M x t.val) v292 _ _ ) $$ HC
  iintro HC
  dsimp only
  rw [wp_bind]
  iapply (wp_part17 D c (grp c t.val) t (sl t.val) (t.val / 2) rfl hgt M (XT D c M x t.val) v292 _ _ _ (piece_2 M (k0_pay5 x (PW D c t.val 0)) (KL D c (grp c t.val) 1) (VL D c (grp c t.val) 1)) (piece_3 M (k0_pay5 x (PW D c t.val 0)) (KL D c (grp c t.val) 1) (VL D c (grp c t.val) 1))) $$ HC
  iintro HC
  dsimp only
  rw [wp_bind]
  iapply (wp_part18 D c (grp c t.val) t (sl t.val) (t.val / 2) rfl hgt M (XT D c M x t.val) v292 _ _ _ _ _ _ _ (piece_4 M (k0_pay5 x (PW D c t.val 0)) (KL D c (grp c t.val) 2) (VL D c (grp c t.val) 2)) (piece_5 M (k0_pay5 x (PW D c t.val 0)) (KL D c (grp c t.val) 2) (VL D c (grp c t.val) 2))) $$ HC
  iintro HC
  dsimp only
  rw [wp_bind]
  iapply (wp_part19 D c (grp c t.val) t (sl t.val) (t.val / 2) rfl hgt M (XT D c M x t.val) v292 _ _ _ _ _ _ _ _ (piece_6 M (k0_pay5 x (PW D c t.val 0)) (KL D c (grp c t.val) 3) (VL D c (grp c t.val) 3)) (piece_7 M (k0_pay5 x (PW D c t.val 0)) (KL D c (grp c t.val) 3) (VL D c (grp c t.val) 3))) $$ HC
  iintro HC
  dsimp only
  rw [wp_bind]
  iapply (wp_part20 D c (grp c t.val) t (sl t.val) (t.val / 2) rfl hgt M (XT D c M x t.val) _ _ ) $$ HC
  iintro HC
  dsimp only
  rw [wp_bind]
  iapply (wp_part21 D c (grp c t.val) t (sl t.val) (t.val / 2) rfl hgt M (XT D c M x t.val) v292 _ _ _ (piece_8 M (k0_pay5 x (PW D c t.val 0)) (KL D c (grp c t.val) 4) (VL D c (grp c t.val) 4)) (piece_9 M (k0_pay5 x (PW D c t.val 0)) (KL D c (grp c t.val) 4) (VL D c (grp c t.val) 4))) $$ HC
  iintro HC
  dsimp only
  rw [wp_bind]
  iapply (wp_part22 D c (grp c t.val) t (sl t.val) (t.val / 2) rfl hgt M (XT D c M x t.val) v292 _ _ _ _ _ _ _ (piece_10 M (k0_pay5 x (PW D c t.val 0)) (KL D c (grp c t.val) 5) (VL D c (grp c t.val) 5)) (piece_11 M (k0_pay5 x (PW D c t.val 0)) (KL D c (grp c t.val) 5) (VL D c (grp c t.val) 5))) $$ HC
  iintro HC
  dsimp only
  rw [wp_bind]
  iapply (wp_part23 D c (grp c t.val) t (sl t.val) (t.val / 2) rfl hgt M (XT D c M x t.val) v292 _ _ _ _ _ (piece_12 M (k0_pay5 x (PW D c t.val 0)) (KL D c (grp c t.val) 6) (VL D c (grp c t.val) 6)) (piece_13 M (k0_pay5 x (PW D c t.val 0)) (KL D c (grp c t.val) 6) (VL D c (grp c t.val) 6))) $$ HC
  iintro HC
  dsimp only
  rw [wp_bind]
  iapply (wp_part24 D c (grp c t.val) t (sl t.val) (t.val / 2) rfl hgt M (XT D c M x t.val) _ _ _ (piece_14 M (k0_pay5 x (PW D c t.val 0)) (KL D c (grp c t.val) 7) (VL D c (grp c t.val) 7))) $$ HC
  iintro HC
  unfold Cmp
  icases HC with ⟨Hk, Hv, Hx⟩
  iapply (wp_cload c (XT D c M x t.val) 15) $$ Hx
  iintro %x15 Hx
  iapply (wp_cstore c (XT D c M x t.val) 15 (by decide) (piece_15 M (k0_pay5 x (PW D c t.val 0)) (KL D c (grp c t.val) 7) (VL D c (grp c t.val) 7))) $$ Hx
  iintro Hx
  ihave Hx := (ctx_all c (XT D c M x t.val)) $$ Hx
  iapply (wp_oload c _) $$ Hout
  iintro Hout
  iapply (wp_aload c _) $$ Hx
  iintro Hx
  iapply (wp_pload c (dirT t.val) (sl (posT t.val)) 1 (D.W (grp c t.val)) (off53_at t)) $$ Hc
  iintro Hc
  iapply (wp_oload c _) $$ Hout
  iintro Hout
  iapply (wp_ostore c _) $$ Hout
  iintro Hout
  rw [wp_ret]
  imodintro
  isplitr; · iexact HI
  isplitr; · iexact HR
  isplitr; · iexact HL
  isplitl [HX]; · iexact HX
  isplitl [Hak Hav Hk Hrk Hv Hrv]
  · iapply (slot_back D c (sl t.val) (t.val / 2))
    isplitl [Hak]; · iexact Hak
    isplitl [Hav]; · iexact Hav
    isplitl [Hk Hrk]
    · isplitl [Hk]; · iexact Hk
      iexact Hrk
    isplitl [Hv]; · iexact Hv
    iexact Hrv
  isplitl [Hback Hc Ho]
  · unfold Fst
    isplitl [Hback Hc]
    · iapply Hback; iexact Hc
    iexact Ho
  isplitl [Hx]
  · iexists _; iexact Hx
  iexact Hout

end Cert.KernelIdealRun

end
-- ==== Proof.KernelIdealRun.Region.lean ====
/-
The buffers split into the regions the cells hand over, and joined back.
-/
module

public import proofs.«01_k».proof.Proof.KernelIdealRun.Trip
public import proofs.«01_k».proof.Proof.KernelIdealRun.Pref
public import Idealize.ShloMosaic.Lib.Ring

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-! ## The travelling buffer -/

theorem comm_mem (d s h : Fin 2) (i : S2x2x2x1024x1024.Idx) : i ∈ (commV d s h).view.set ↔ ((i 0).val = d.val ∧ (i 1).val = s.val ∧ (i 3).val / 512 = h.val) := by
  rw [commV_set]
  constructor
  · intro hi
    obtain ⟨y, _, hy⟩ := Finset.mem_map.mp hi
    have e0 : d.val + 1 * (y 0).val = (i 0).val := congrArg Fin.val (congrFun hy (0 : Fin 5))
    have e1 : s.val + 1 * (y 1).val = (i 1).val := congrArg Fin.val (congrFun hy (1 : Fin 5))
    have e3 : 512 * h.val + 1 * (y 3).val = (i 3).val := congrArg Fin.val (congrFun hy (3 : Fin 5))
    have t0 : (y 0).val < 1 := (y 0).isLt
    have t1 : (y 1).val < 1 := (y 1).isLt
    have t3 : (y 3).val < 512 := (y 3).isLt
    omega
  · rintro ⟨h0, h1, h3⟩
    refine Finset.mem_map.mpr ⟨fun a => match a with
      | ⟨0, _⟩ => (0 : Fin 1) | ⟨1, _⟩ => (0 : Fin 1) | ⟨2, _⟩ => (i 2 : Fin 2) | ⟨3, _⟩ => (⟨(i 3).val % 512, Nat.mod_lt _ (by decide)⟩ : Fin 512) | ⟨4, _⟩ => (i 4 : Fin 1024), Finset.mem_univ _, ?_⟩
    funext a
    apply Fin.ext
    match a with
    | ⟨0, _⟩ => show d.val + 1 * 0 = (i 0).val; omega
    | ⟨1, _⟩ => show s.val + 1 * 0 = (i 1).val; omega
    | ⟨2, _⟩ => show 0 + 1 * (i 2).val = (i 2).val; omega
    | ⟨3, _⟩ => show 512 * h.val + 1 * ((i 3).val % 512) = (i 3).val; omega
    | ⟨4, _⟩ => show 0 + 1 * (i 4).val = (i 4).val; omega

abbrev C3 : Type := Fin 2 × Fin 2 × Fin 2
def commS (x : C3) : Finset S2x2x2x1024x1024.Idx := (commV x.1 x.2.1 x.2.2).view.set

theorem commS_disj (x y : C3) (h : x ≠ y) : Disjoint (commS x) (commS y) := by
  rw [Finset.disjoint_left]
  intro i hx hy
  obtain ⟨a0, a1, a2⟩ := (comm_mem _ _ _ i).mp hx
  obtain ⟨b0, b1, b2⟩ := (comm_mem _ _ _ i).mp hy
  exact h (Prod.ext (Fin.ext (a0.symm.trans b0)) (Prod.ext (Fin.ext (a1.symm.trans b1)) (Fin.ext (a2.symm.trans b2))))
theorem commS_cover : Finset.univ.biUnion commS = Finset.univ := by
  refine Finset.eq_univ_iff_forall.mpr fun i => ?_
  have h3 : (i 3).val / 512 < 2 := by have h3 : (i 3).val < 1024 := (i 3).isLt; omega
  exact Finset.mem_biUnion.mpr ⟨((⟨(i 0).val, (i 0).isLt⟩ : Fin 2), (⟨(i 1).val, (i 1).isLt⟩ : Fin 2), (⟨(i 3).val / 512, h3⟩ : Fin 2)),
    Finset.mem_univ _, (comm_mem ⟨(i 0).val, (i 0).isLt⟩ ⟨(i 1).val, (i 1).isLt⟩ ⟨(i 3).val / 512, h3⟩ i).mpr ⟨rfl, rfl, rfl⟩⟩

theorem comm_all (c : Dev nD) (f : cc0_scratch0.ty.Contents (Elt F)) :
    (((c : Thread nD τ).loc cc0_scratch0) ↦{fullShare} f : sProp 𝕄) = bigSep Finset.univ fun x : C3 => cPts c x.1 x.2.1 x.2.2 fullShare f :=
  Ring.pointsTo_blocks (ℓ := (c : Thread nD τ).loc cc0_scratch0) commS commS_disj commS_cover f
theorem comm_join (c : Dev nD) (f₀ : cc0_scratch0.ty.Contents (Elt F)) :
    (bigSep Finset.univ fun x : C3 => cAny (F := F) c x.1 x.2.1 x.2.2) ⊢ (iprop(∃ f, ((c : Thread nD τ).loc cc0_scratch0) ↦{fullShare} f) : sProp 𝕄) :=
  Ring.pointsTo_blocks_join_exists (ℓ := (c : Thread nD τ).loc cc0_scratch0) commS commS_disj commS_cover f₀

/-- A family over the regions, one by one: way, slot, half. -/
theorem c3_chain (Φ : C3 → sProp 𝕄) : bigSep Finset.univ Φ = iprop(Φ (0, 0, 0) ∗ Φ (0, 0, 1) ∗ Φ (0, 1, 0) ∗ Φ (0, 1, 1) ∗ Φ (1, 0, 0) ∗ Φ (1, 0, 1) ∗ Φ (1, 1, 0) ∗ Φ (1, 1, 1)) :=
  bigSep_univ_eq_bigSepL [(0, 0, 0), (0, 0, 1), (0, 1, 0), (0, 1, 1), (1, 0, 0), (1, 0, 1), (1, 1, 0), (1, 1, 1)] (by decide) (by decide) Φ

/-! ## The key and value buffers -/

theorem kb_mem (s : Fin 2) (hh : Fin 8) (i : S2x8x1024x128.Idx) : i ∈ (kbV s hh).view.set ↔ ((i 0).val = s.val ∧ (i 1).val = hh.val) := by
  rw [kbV_set]
  constructor
  · intro hi
    obtain ⟨y, _, hy⟩ := Finset.mem_map.mp hi
    have e0 : s.val + 1 * (y 0).val = (i 0).val := congrArg Fin.val (congrFun hy (0 : Fin 4))
    have e1 : hh.val + 1 * (y 1).val = (i 1).val := congrArg Fin.val (congrFun hy (1 : Fin 4))
    have t0 : (y 0).val < 1 := (y 0).isLt
    have t1 : (y 1).val < 1 := (y 1).isLt
    omega
  · rintro ⟨h0, h1⟩
    refine Finset.mem_map.mpr ⟨fun a => match a with
      | ⟨0, _⟩ => (0 : Fin 1) | ⟨1, _⟩ => (0 : Fin 1) | ⟨2, _⟩ => (i 2 : Fin 1024) | ⟨3, _⟩ => (i 3 : Fin 128), Finset.mem_univ _, ?_⟩
    funext a
    apply Fin.ext
    match a with
    | ⟨0, _⟩ => show s.val + 1 * 0 = (i 0).val; omega
    | ⟨1, _⟩ => show hh.val + 1 * 0 = (i 1).val; omega
    | ⟨2, _⟩ => show 0 + 1 * (i 2).val = (i 2).val; omega
    | ⟨3, _⟩ => show 0 + 1 * (i 3).val = (i 3).val; omega

theorem vb_mem (s : Fin 2) (hh : Fin 8) (i : S2x8x1024x128.Idx) : i ∈ (vbV s hh).view.set ↔ ((i 0).val = s.val ∧ (i 1).val = hh.val) := by
  rw [vbV_set]
  constructor
  · intro hi
    obtain ⟨y, _, hy⟩ := Finset.mem_map.mp hi
    have e0 : s.val + 1 * (y 0).val = (i 0).val := congrArg Fin.val (congrFun hy (0 : Fin 4))
    have e1 : hh.val + 1 * (y 1).val = (i 1).val := congrArg Fin.val (congrFun hy (1 : Fin 4))
    have t0 : (y 0).val < 1 := (y 0).isLt
    have t1 : (y 1).val < 1 := (y 1).isLt
    omega
  · rintro ⟨h0, h1⟩
    refine Finset.mem_map.mpr ⟨fun a => match a with
      | ⟨0, _⟩ => (0 : Fin 1) | ⟨1, _⟩ => (0 : Fin 1) | ⟨2, _⟩ => (i 2 : Fin 1024) | ⟨3, _⟩ => (i 3 : Fin 128), Finset.mem_univ _, ?_⟩
    funext a
    apply Fin.ext
    match a with
    | ⟨0, _⟩ => show s.val + 1 * 0 = (i 0).val; omega
    | ⟨1, _⟩ => show hh.val + 1 * 0 = (i 1).val; omega
    | ⟨2, _⟩ => show 0 + 1 * (i 2).val = (i 2).val; omega
    | ⟨3, _⟩ => show 0 + 1 * (i 3).val = (i 3).val; omega

abbrev C2 : Type := Fin 2 × Fin 8
def kbS (x : C2) : Finset S2x8x1024x128.Idx := (kbV x.1 x.2).view.set

theorem kbS_disj (x y : C2) (h : x ≠ y) : Disjoint (kbS x) (kbS y) := by
  rw [Finset.disjoint_left]
  intro i hx hy
  obtain ⟨a0, a1⟩ := (kb_mem _ _ i).mp hx
  obtain ⟨b0, b1⟩ := (kb_mem _ _ i).mp hy
  exact h (Prod.ext (Fin.ext (a0.symm.trans b0)) (Fin.ext (a1.symm.trans b1)))
theorem kbS_cover : Finset.univ.biUnion kbS = Finset.univ := by
  refine Finset.eq_univ_iff_forall.mpr fun i => Finset.mem_biUnion.mpr ⟨((⟨(i 0).val, (i 0).isLt⟩ : Fin 2), (⟨(i 1).val, (i 1).isLt⟩ : Fin 8)),
    Finset.mem_univ _, (kb_mem _ _ i).mpr ⟨rfl, rfl⟩⟩

def vbS (x : C2) : Finset S2x8x1024x128.Idx := (vbV x.1 x.2).view.set

theorem vbS_disj (x y : C2) (h : x ≠ y) : Disjoint (vbS x) (vbS y) := by
  rw [Finset.disjoint_left]
  intro i hx hy
  obtain ⟨a0, a1⟩ := (vb_mem _ _ i).mp hx
  obtain ⟨b0, b1⟩ := (vb_mem _ _ i).mp hy
  exact h (Prod.ext (Fin.ext (a0.symm.trans b0)) (Fin.ext (a1.symm.trans b1)))
theorem vbS_cover : Finset.univ.biUnion vbS = Finset.univ := by
  refine Finset.eq_univ_iff_forall.mpr fun i => Finset.mem_biUnion.mpr ⟨((⟨(i 0).val, (i 0).isLt⟩ : Fin 2), (⟨(i 1).val, (i 1).isLt⟩ : Fin 8)),
    Finset.mem_univ _, (vb_mem _ _ i).mpr ⟨rfl, rfl⟩⟩

/-- A family over slots and heads, slot by slot. -/
theorem c2_chain (Φ : C2 → sProp 𝕄) : bigSep Finset.univ Φ = iprop((bigSep Finset.univ fun hh : Fin 8 => Φ (0, hh)) ∗ bigSep Finset.univ fun hh : Fin 8 => Φ (1, hh)) := by
  rw [bigSep_univ_prod]
  exact bigSep_fin_two _

theorem kb_all (c : Dev nD) (f : cc0_scratch1.ty.Contents (Elt F)) :
    (((c : Thread nD τ).loc cc0_scratch1) ↦{fullShare} f : sProp 𝕄)
      ⊢ iprop((bigSep Finset.univ fun hh : Fin 8 => iprop(∃ f, kPts (F := F) c 0 hh f)) ∗ bigSep Finset.univ fun hh : Fin 8 => iprop(∃ f, kPts (F := F) c 1 hh f)) := by
  have e : (((c : Thread nD τ).loc cc0_scratch1) ↦{fullShare} f : sProp 𝕄) = bigSep Finset.univ fun x : C2 => kPts c x.1 x.2 f := by
    exact Ring.pointsTo_blocks (ℓ := (c : Thread nD τ).loc cc0_scratch1) kbS kbS_disj kbS_cover f
  rw [e, c2_chain]
  refine Idealize.SL.BI.sep_mono (bigSep_mono fun hh _ => ?_) (bigSep_mono fun hh _ => ?_)
  · refine BIBase.Entails.trans (PROP := sProp 𝕄) (show kPts c 0 hh f ⊢ iprop(∃ f, kPts (F := F) c 0 hh f) from ?_) BIBase.Entails.rfl
    iintro H; iexists f; iexact H
  · refine BIBase.Entails.trans (PROP := sProp 𝕄) (show kPts c 1 hh f ⊢ iprop(∃ f, kPts (F := F) c 1 hh f) from ?_) BIBase.Entails.rfl
    iintro H; iexists f; iexact H
theorem kb_join (c : Dev nD) (f₀ : cc0_scratch1.ty.Contents (Elt F)) :
    iprop((bigSep Finset.univ fun hh : Fin 8 => iprop(∃ f, kPts (F := F) c 0 hh f)) ∗ bigSep Finset.univ fun hh : Fin 8 => iprop(∃ f, kPts (F := F) c 1 hh f))
      ⊢ (iprop(∃ f, ((c : Thread nD τ).loc cc0_scratch1) ↦{fullShare} f) : sProp 𝕄) := by
  have e := c2_chain (F := F) (fun x : C2 => iprop(∃ f, kPts (F := F) c x.1 x.2 f))
  refine (Entails.of_eq e.symm).trans ?_
  exact Ring.pointsTo_blocks_join_exists (ℓ := (c : Thread nD τ).loc cc0_scratch1) kbS kbS_disj kbS_cover f₀
/-- The array lent to the copies share by share, a remainder kept. -/
theorem k_toks (c : Dev nD) :
    (((c : Thread nD τ).loc main_arg2) ↦{fullShare} D.Ka c : sProp 𝕄)
      ⊣⊢ iprop((((c : Thread nD τ).loc main_arg2) ↦{Transfers.shareDrop fullShare 16} D.Ka c)
          ∗ (bigSep Finset.univ fun hh : Fin 8 => kTok D c 0 hh) ∗ bigSep Finset.univ fun hh : Fin 8 => kTok D c 1 hh) := by
  have e : (bigSep (Finset.range 16) fun i => (((c : Thread nD τ).loc main_arg2) ↦{Transfers.shareTokN fullShare i} D.Ka c : sProp 𝕄))
      = bigSep Finset.univ fun x : C2 => kTok D c x.1 x.2 := by
    have hm : Finset.range 16 = (Finset.univ : Finset C2).map ⟨fun x => 8 * x.1.val + x.2.val, by decide⟩ := by decide
    rw [hm, bigSep_map]; rfl
  have e2 := c2_chain (F := F) (fun x : C2 => kTok D c x.1 x.2)
  have h := Transfers.pointsTo_toks_range (Ix := ℕ) (Val := Elt F) (Name := ℕ) (U := UU) (Lvl := ℕ) (ℓ := (c : Thread nD τ).loc main_arg2) (S := Finset.univ) (f := D.Ka c) fullShare 16
  rw [e, e2] at h
  exact h
theorem kRun_zero (c : Dev nD) (s : Fin 2) (r : ℕ) :
    kRun D c s r 0 = iprop((bigSep Finset.univ fun hh : Fin 8 => iprop(∃ f, kPts (F := F) c s hh f)) ∗ (bigSep Finset.univ fun hh : Fin 8 => kTok D c s hh)
      ∗ bigSep Finset.univ fun hh : Fin 8 => kToks (F := F) c s hh r) := by
  have he : (fun hh : Fin 8 => if hh.val < 0 then kFly (F := F) c s r hh else kIdle D c s r hh)
      = fun hh : Fin 8 => iprop((∃ f, kPts (F := F) c s hh f) ∗ kTok D c s hh ∗ kToks (F := F) c s hh r) := by
    funext hh; rw [if_neg (Nat.not_lt_zero _)]; rfl
  unfold kRun
  rw [he]
  refine (bigSep_sep' _ _ _).trans ?_
  exact congrArg (fun P : sProp 𝕄 => iprop((bigSep Finset.univ fun hh : Fin 8 => iprop(∃ f, kPts (F := F) c s hh f)) ∗ P)) (bigSep_sep' _ _ _)

theorem vb_all (c : Dev nD) (f : cc0_scratch2.ty.Contents (Elt F)) :
    (((c : Thread nD τ).loc cc0_scratch2) ↦{fullShare} f : sProp 𝕄)
      ⊢ iprop((bigSep Finset.univ fun hh : Fin 8 => iprop(∃ f, vPts (F := F) c 0 hh f)) ∗ bigSep Finset.univ fun hh : Fin 8 => iprop(∃ f, vPts (F := F) c 1 hh f)) := by
  have e : (((c : Thread nD τ).loc cc0_scratch2) ↦{fullShare} f : sProp 𝕄) = bigSep Finset.univ fun x : C2 => vPts c x.1 x.2 f := by
    exact Ring.pointsTo_blocks (ℓ := (c : Thread nD τ).loc cc0_scratch2) vbS vbS_disj vbS_cover f
  rw [e, c2_chain]
  refine Idealize.SL.BI.sep_mono (bigSep_mono fun hh _ => ?_) (bigSep_mono fun hh _ => ?_)
  · refine BIBase.Entails.trans (PROP := sProp 𝕄) (show vPts c 0 hh f ⊢ iprop(∃ f, vPts (F := F) c 0 hh f) from ?_) BIBase.Entails.rfl
    iintro H; iexists f; iexact H
  · refine BIBase.Entails.trans (PROP := sProp 𝕄) (show vPts c 1 hh f ⊢ iprop(∃ f, vPts (F := F) c 1 hh f) from ?_) BIBase.Entails.rfl
    iintro H; iexists f; iexact H
theorem vb_join (c : Dev nD) (f₀ : cc0_scratch2.ty.Contents (Elt F)) :
    iprop((bigSep Finset.univ fun hh : Fin 8 => iprop(∃ f, vPts (F := F) c 0 hh f)) ∗ bigSep Finset.univ fun hh : Fin 8 => iprop(∃ f, vPts (F := F) c 1 hh f))
      ⊢ (iprop(∃ f, ((c : Thread nD τ).loc cc0_scratch2) ↦{fullShare} f) : sProp 𝕄) := by
  have e := c2_chain (F := F) (fun x : C2 => iprop(∃ f, vPts (F := F) c x.1 x.2 f))
  refine (Entails.of_eq e.symm).trans ?_
  exact Ring.pointsTo_blocks_join_exists (ℓ := (c : Thread nD τ).loc cc0_scratch2) vbS vbS_disj vbS_cover f₀
/-- The array lent to the copies share by share, a remainder kept. -/
theorem v_toks (c : Dev nD) :
    (((c : Thread nD τ).loc main_arg3) ↦{fullShare} D.Va c : sProp 𝕄)
      ⊣⊢ iprop((((c : Thread nD τ).loc main_arg3) ↦{Transfers.shareDrop fullShare 16} D.Va c)
          ∗ (bigSep Finset.univ fun hh : Fin 8 => vTok D c 0 hh) ∗ bigSep Finset.univ fun hh : Fin 8 => vTok D c 1 hh) := by
  have e : (bigSep (Finset.range 16) fun i => (((c : Thread nD τ).loc main_arg3) ↦{Transfers.shareTokN fullShare i} D.Va c : sProp 𝕄))
      = bigSep Finset.univ fun x : C2 => vTok D c x.1 x.2 := by
    have hm : Finset.range 16 = (Finset.univ : Finset C2).map ⟨fun x => 8 * x.1.val + x.2.val, by decide⟩ := by decide
    rw [hm, bigSep_map]; rfl
  have e2 := c2_chain (F := F) (fun x : C2 => vTok D c x.1 x.2)
  have h := Transfers.pointsTo_toks_range (Ix := ℕ) (Val := Elt F) (Name := ℕ) (U := UU) (Lvl := ℕ) (ℓ := (c : Thread nD τ).loc main_arg3) (S := Finset.univ) (f := D.Va c) fullShare 16
  rw [e, e2] at h
  exact h
theorem vRun_zero (c : Dev nD) (s : Fin 2) (r : ℕ) :
    vRun D c s r 0 = iprop((bigSep Finset.univ fun hh : Fin 8 => iprop(∃ f, vPts (F := F) c s hh f)) ∗ (bigSep Finset.univ fun hh : Fin 8 => vTok D c s hh)
      ∗ bigSep Finset.univ fun hh : Fin 8 => vToks (F := F) c s hh r) := by
  have he : (fun hh : Fin 8 => if hh.val < 0 then vFly (F := F) c s r hh else vIdle D c s r hh)
      = fun hh : Fin 8 => iprop((∃ f, vPts (F := F) c s hh f) ∗ vTok D c s hh ∗ vToks (F := F) c s hh r) := by
    funext hh; rw [if_neg (Nat.not_lt_zero _)]; rfl
  unfold vRun
  rw [he]
  refine (bigSep_sep' _ _ _).trans ?_
  exact congrArg (fun P : sProp 𝕄 => iprop((bigSep Finset.univ fun hh : Fin 8 => iprop(∃ f, vPts (F := F) c s hh f)) ∗ P)) (bigSep_sep' _ _ _)

/-! ## The slots of the key and value buffers at launch -/

/-- What the launch gives a slot's cells: their positions and the tokens of their rounds. -/
def KVst (c : Dev nD) (s : Fin 2) : sProp 𝕄 :=
  iprop(atPos ER (cell c (some (.kc s))) 0 ∅ 0 ∗ atPos ER (cell c (some (.vc s))) 0 ∅ 0
    ∗ (bigSep Finset.univ fun hh : Fin 8 => kToks (F := F) c s hh 0) ∗ bigSep Finset.univ fun hh : Fin 8 => vToks (F := F) c s hh 0)
/-- A slot's places at anything, and the shares of the arrays its copies read. -/
def KVmem (c : Dev nD) (s : Fin 2) : sProp 𝕄 :=
  iprop((bigSep Finset.univ fun hh : Fin 8 => iprop(∃ f, kPts (F := F) c s hh f)) ∗ (bigSep Finset.univ fun hh : Fin 8 => iprop(∃ f, vPts (F := F) c s hh f))
    ∗ (bigSep Finset.univ fun hh : Fin 8 => kTok D c s hh) ∗ bigSep Finset.univ fun hh : Fin 8 => vTok D c s hh)
/-- The parts of the arrays no copy reads. -/
def KVrem (c : Dev nD) : sProp 𝕄 :=
  iprop((((c : Thread nD τ).loc main_arg2) ↦{Transfers.shareDrop fullShare 16} D.Ka c) ∗ (((c : Thread nD τ).loc main_arg3) ↦{Transfers.shareDrop fullShare 16} D.Va c))
/-- The two arrays. -/
def KVarr (c : Dev nD) : sProp 𝕄 :=
  iprop((((c : Thread nD τ).loc main_arg2) ↦{fullShare} D.Ka c) ∗ (((c : Thread nD τ).loc main_arg3) ↦{fullShare} D.Va c))

theorem kvmem_intro (c : Dev nD) (f1 : cc0_scratch1.ty.Contents (Elt F)) (f2 : cc0_scratch2.ty.Contents (Elt F)) :
    iprop(KVarr D c ∗ (((c : Thread nD τ).loc cc0_scratch1) ↦{fullShare} f1) ∗ (((c : Thread nD τ).loc cc0_scratch2) ↦{fullShare} f2))
      ⊢ iprop(KVrem D c ∗ KVmem D c 0 ∗ KVmem D c 1) := by
  unfold KVarr KVrem KVmem
  iintro ⟨⟨HK, HV⟩, H1, H2⟩
  ihave HK := (k_toks D c).1 $$ HK
  ihave HV := (v_toks D c).1 $$ HV
  ihave H1 := (kb_all c f1) $$ H1
  ihave H2 := (vb_all c f2) $$ H2
  icases HK with ⟨HK, HK0, HK1⟩
  icases HV with ⟨HV, HV0, HV1⟩
  icases H1 with ⟨H10, H11⟩
  icases H2 with ⟨H20, H21⟩
  isplitl [HK HV]
  · isplitl [HK]; · iexact HK
    iexact HV
  isplitl [HK0 HV0 H10 H20]
  · isplitl [H10]; · iexact H10
    isplitl [H20]; · iexact H20
    isplitl [HK0]; · iexact HK0
    iexact HV0
  isplitl [H11]; · iexact H11
  isplitl [H21]; · iexact H21
  isplitl [HK1]; · iexact HK1
  iexact HV1
theorem kvmem_elim (c : Dev nD) (f1 : cc0_scratch1.ty.Contents (Elt F)) (f2 : cc0_scratch2.ty.Contents (Elt F)) :
    iprop(KVrem D c ∗ KVmem D c 0 ∗ KVmem D c 1)
      ⊢ iprop(KVarr D c ∗ (∃ f1, ((c : Thread nD τ).loc cc0_scratch1) ↦{fullShare} f1) ∗ (∃ f2, ((c : Thread nD τ).loc cc0_scratch2) ↦{fullShare} f2)) := by
  unfold KVarr KVrem KVmem
  iintro ⟨⟨HK, HV⟩, ⟨H10, H20, HK0, HV0⟩, H11, H21, HK1, HV1⟩
  isplitl [HK HV HK0 HV0 HK1 HV1]
  · isplitl [HK HK0 HK1]
    · iapply (k_toks D c).2
      isplitl [HK]; · iexact HK
      isplitl [HK0]; · iexact HK0
      iexact HK1
    · iapply (v_toks D c).2
      isplitl [HV]; · iexact HV
      isplitl [HV0]; · iexact HV0
      iexact HV1
  isplitl [H10 H11]
  · iapply (kb_join c f1)
    isplitl [H10]; · iexact H10
    iexact H11
  · iapply (vb_join c f2)
    isplitl [H20]; · iexact H20
    iexact H21

theorem si_intro (c : Dev nD) (s : Fin 2) : iprop(rch0 (F := F) ∗ KVst (F := F) c s ∗ KVmem D c s) ⊢ SI D c s 0 := by
  unfold SI KVst KVmem
  rw [kRun_zero, vRun_zero]
  iintro ⟨#HR, ⟨Hk, Hv, Hkt, Hvt⟩, H1, H2, H3, H4⟩
  isplitl [Hk]; · iexact Hk
  isplitl [Hv]; · iexact Hv
  isplitr; · iapply (rch_cell c (some (.kc s))); iexact HR
  isplitr; · iapply (rch_cell c (some (.vc s))); iexact HR
  isplitl [H1 H3 Hkt]
  · isplitl [H1]; · iexact H1
    isplitl [H3]; · iexact H3
    iexact Hkt
  isplitl [H2]; · iexact H2
  isplitl [H4]; · iexact H4
  iexact Hvt
theorem si_elim (c : Dev nD) (s : Fin 2) (r : ℕ) :
    SI D c s r ⊢ iprop(atPos ER (cell c (some (.kc s))) r ∅ 0 ∗ atPos ER (cell c (some (.vc s))) r ∅ 0 ∗ KVmem D c s) := by
  unfold SI KVmem
  rw [kRun_zero, vRun_zero]
  iintro ⟨Hk, Hv, -, -, ⟨H1, H3, -⟩, H2, H4, -⟩
  isplitl [Hk]; · iexact Hk
  isplitl [Hv]; · iexact Hv
  isplitl [H1]; · iexact H1
  isplitl [H2]; · iexact H2
  isplitl [H3]; · iexact H3
  iexact H4

end Cert.KernelIdealRun

end
-- ==== Proof.KernelIdealRun.Pro.lean ====
/-
The start of the body: the barrier, the weights into the travelling buffer, the end of the first prefetch.
-/
module

public import proofs.«01_k».proof.Proof.KernelIdealRun.Region

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-! ## A device's own weights in the travelling buffer -/

/-- Row and column of an index, as an index of a plane. -/
def p5 (i : S2x2x2x1024x1024.Idx) : S1x1x1x1024x1024.Idx := fun
  | ⟨0, _⟩ => (0 : Fin 1)
  | ⟨1, _⟩ => (0 : Fin 1)
  | ⟨2, _⟩ => (0 : Fin 1)
  | ⟨3, _⟩ => (i 3 : Fin 1024)
  | ⟨4, _⟩ => (i 4 : Fin 1024)
  | ⟨n + 5, h⟩ => absurd h (Nat.not_lt.2 (Nat.le_add_left _ _))

/-- The travelling buffer where it holds the weights `wq`, `wo`: plane `0` the queries', plane `1` the output's. -/
def WT (wq wo : Vec F S1024x1024 .f32) : cc0_scratch0.ty.Contents (Elt F) := fun i => if (i 2).val = 0 then k0_pay68 wq (p5 i) else k0_pay69 wo (p5 i)

theorem pl_emb (d s pl : Fin 2) (i : S2x2x2x1024x1024.Idx) (h0 : (i 0).val = d.val) (h1 : (i 1).val = s.val) (h2 : (i 2).val = pl.val) :
    (commM.access (plR d s pl)).emb (p5 i) = i := by
  funext a
  apply Fin.ext
  match a with
  | ⟨0, _⟩ => show d.val + 1 * 0 = (i 0).val; omega
  | ⟨1, _⟩ => show s.val + 1 * 0 = (i 1).val; omega
  | ⟨2, _⟩ => show pl.val + 1 * 0 = (i 2).val; omega
  | ⟨3, _⟩ => show 0 + 1 * (i 3).val = (i 3).val; omega
  | ⟨4, _⟩ => show 0 + 1 * (i 4).val = (i 4).val; omega
theorem pl_not (d s pl : Fin 2) (i : S2x2x2x1024x1024.Idx) (h2 : (i 2).val ≠ pl.val) : i ∉ (commM.access (plR d s pl)).setOn Finset.univ := by
  intro hm
  obtain ⟨y, _, hy⟩ := Finset.mem_map.mp hm
  have e2 : pl.val + 1 * (y 2).val = (i 2).val := congrArg Fin.val (congrFun hy (2 : Fin 5))
  have t2 : (y 2).val < 1 := (y 2).isLt
  omega

/-- Both halves of a slot at the full share. -/
def cU (c : Dev nD) (d s : Fin 2) (f : cc0_scratch0.ty.Contents (Elt F)) : sProp 𝕄 :=
  (commV d s 0).view.loc (c : Thread nD τ) ↦[(commV d s 0).view.set ∪ (commV d s 1).view.set]{fullShare} f

theorem cU_split (c : Dev nD) (d s : Fin 2) (f : cc0_scratch0.ty.Contents (Elt F)) :
    cU c d s f ⊣⊢ iprop(cPts c d s 0 fullShare f ∗ cPts c d s 1 fullShare f) := by
  unfold cU cPts
  exact Idealize.ShloMosaic.pointsTo_union (Ix := ℕ) (Val := Elt F) (Name := ℕ) (U := UU) (Lvl := ℕ) (ℓ := (commV d s 0).view.loc (c : Thread nD τ)) (q := fullShare) (f := f) (comm_disj d s)

theorem cU_stored (c : Dev nD) (d s : Fin 2) (f : cc0_scratch0.ty.Contents (Elt F)) (wq wo : Vec F S1024x1024 .f32) :
    (cU c d s ((commM.access (plR d s 1)).write (Elt F) ((commM.access (plR d s 0)).write (Elt F) f (k0_pay68 wq) Finset.univ) (k0_pay69 wo) Finset.univ) : sProp 𝕄)
      = cU c d s (WT wq wo) := by
  unfold cU
  refine pointsTo_congr fun i hi => ?_
  have hd : (i 0).val = d.val ∧ (i 1).val = s.val := by
    rcases Finset.mem_union.mp hi with h | h
    · exact ⟨((comm_mem d s 0 i).mp h).1, ((comm_mem d s 0 i).mp h).2.1⟩
    · exact ⟨((comm_mem d s 1 i).mp h).1, ((comm_mem d s 1 i).mp h).2.1⟩
  have h2 : (i 2).val < 2 := (i 2).isLt
  unfold WT
  by_cases h : (i 2).val = 0
  · rw [if_pos h, View.write_of_not_mem _ _ _ (pl_not d s 1 i (by rw [h]; decide))]
    conv_lhs => rw [← pl_emb d s 0 i hd.1 hd.2 h]
    exact View.write_emb_of_mem _ _ (Finset.mem_univ _)
  · rw [if_neg h]
    conv_lhs => rw [← pl_emb d s 1 i hd.1 hd.2 (by show _ = 1; omega)]
    exact View.write_emb_of_mem _ _ (Finset.mem_univ _)

theorem z2 : (![0, 0] : Fin 2 → ℕ) = fun _ => 0 := funext fun a => by fin_cases a <;> rfl
theorem z3 : (![0, 0, 0] : Fin 3 → ℕ) = fun _ => 0 := funext fun a => by fin_cases a <;> rfl
section Rules
variable {α : Type} {Q : α → sProp (MT nD τ sig ℕ (Elt F) ℕ UU ℕ)}

theorem wp_uload (c : Dev nD) (d s pl : Fin 2) (f : cc0_scratch0.ty.Contents (Elt F)) {off : Fin 5 → ℕ}
    {inb : ∀ a, off a + S1x1x1x1024x1024.size a ≤ S2x2x2x1024x1024.size a} (ho : off = ![d.val, s.val, pl.val, 0, 0])
    {hl : commM.view.LoadsAt (Rect.unit (s := S2x2x2x1024x1024) off S1x1x1x1024x1024.size inb).toLoadRect}
    {k : Vec F S1x1x1x1024x1024 .bf16 → Prog (TpuEff nD τ sig (Elt F) Λ₀ .tc) α} :
    cU c d s f ⊢ iprop((∀ v, cU c d s f -∗ wp frame (wpE (defs₀ (F := F)) 𝒱₀ (c : Thread nD τ) none) Set.univ (k v) Q)
      -∗ wp frame (wpE (defs₀ (F := F)) 𝒱₀ (c : Thread nD τ) none) Set.univ (.op (.load commM (Rect.unit (s := S2x2x2x1024x1024) off S1x1x1x1024x1024.size inb).toLoadRect hl) k) Q) := by
  subst ho
  unfold cU
  iintro H Hk
  iapply (wp_load_rect 𝒱₀ (c : Thread nD τ) none Set.univ (m := commM) (r := plR d s pl) (k := k) (f := f) (pl_sub d s pl)) $$ H
  iintro H
  iapply Hk
  iexact H
theorem wp_ustore (c : Dev nD) (d s pl : Fin 2) (f : cc0_scratch0.ty.Contents (Elt F)) {off : Fin 5 → ℕ}
    {inb : ∀ a, off a + S1x1x1x1024x1024.size a ≤ S2x2x2x1024x1024.size a} (ho : off = ![d.val, s.val, pl.val, 0, 0])
    {w : Vec F S1x1x1x1024x1024 .bf16}
    {hx : (commM.access (Rect.unit (s := S2x2x2x1024x1024) off S1x1x1x1024x1024.size inb)).Stores Finset.univ}
    {hm : (Finset.univ : Finset S1x1x1x1024x1024.Idx) = Finset.univ ∨ ∀ a, (Rect.unit (s := S2x2x2x1024x1024) off S1x1x1x1024x1024.size inb).stride a = 1}
    {k : PUnit → Prog (TpuEff nD τ sig (Elt F) Λ₀ .tc) α} :
    cU c d s f ⊢ iprop((cU c d s ((commM.access (plR d s pl)).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ (.op (.store commM (Rect.unit (s := S2x2x2x1024x1024) off S1x1x1x1024x1024.size inb) w Finset.univ hx hm) k) Q) := by
  subst ho
  unfold cU
  iintro H Hk
  iapply (wp_store 𝒱₀ (c : Thread nD τ) none Set.univ (m := commM) (r := plR d s pl) (w := w) (Mk := Finset.univ) (k := k) (f := f)
    (S := (commV d s 0).view.set ∪ (commV d s 1).view.set) (pl_sub d s pl)) $$ H
  iexact Hk

theorem s0_read (f : cc0_stg0_0.ty.Contents (Elt F)) {off : Fin 3 → ℕ} {inb : ∀ a, off a + S1x1024x1024.size a ≤ S1x1024x1024.size a} (ho : off = ![0, 0, 0]) :
    ((Memref.whole cc0_stg0_0).access (Rect.unit (s := S1x1024x1024) off S1x1024x1024.size inb)).read (Elt F) f = f :=
  Memref.readAt_unit_zero (Elt F) cc0_stg0_0 (ho.trans z3) inb f
theorem wp_s0load (c : Dev nD) (f : cc0_stg0_0.ty.Contents (Elt F)) {off : Fin 3 → ℕ} {inb : ∀ a, off a + S1x1024x1024.size a ≤ S1x1024x1024.size a} (ho : off = ![0, 0, 0])
    {hl : (Memref.whole cc0_stg0_0).view.LoadsAt (Rect.unit (s := S1x1024x1024) off S1x1024x1024.size inb).toLoadRect}
    {k : Vec F S1x1024x1024 .f32 → Prog (TpuEff nD τ sig (Elt F) Λ₀ .tc) α} :
    (((c : Thread nD τ).loc cc0_stg0_0) ↦{fullShare} f : sProp (MT nD τ sig ℕ (Elt F) ℕ UU ℕ))
      ⊢ iprop(((((c : Thread nD τ).loc cc0_stg0_0) ↦{fullShare} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_stg0_0) (Rect.unit (s := S1x1024x1024) off S1x1024x1024.size inb).toLoadRect hl) k) Q) := by
  iintro H Hk
  iapply (wp_load_rect 𝒱₀ (c : Thread nD τ) none Set.univ (m := Memref.whole cc0_stg0_0) (r := (Rect.unit (s := S1x1024x1024) off S1x1024x1024.size inb)) (k := k) (f := f) (S := Finset.univ) (Finset.subset_univ _)) $$ H
  rw [s0_read f ho]
  iexact Hk
theorem s1_read (f : cc0_stg1_0.ty.Contents (Elt F)) {off : Fin 2 → ℕ} {inb : ∀ a, off a + S1024x1024.size a ≤ S1024x1024.size a} (ho : off = ![0, 0]) :
    ((Memref.whole cc0_stg1_0).access (Rect.unit (s := S1024x1024) off S1024x1024.size inb)).read (Elt F) f = f :=
  Memref.readAt_unit_zero (Elt F) cc0_stg1_0 (ho.trans z2) inb f
theorem wp_s1load (c : Dev nD) (f : cc0_stg1_0.ty.Contents (Elt F)) {off : Fin 2 → ℕ} {inb : ∀ a, off a + S1024x1024.size a ≤ S1024x1024.size a} (ho : off = ![0, 0])
    {hl : (Memref.whole cc0_stg1_0).view.LoadsAt (Rect.unit (s := S1024x1024) off S1024x1024.size inb).toLoadRect}
    {k : Vec F S1024x1024 .f32 → Prog (TpuEff nD τ sig (Elt F) Λ₀ .tc) α} :
    (((c : Thread nD τ).loc cc0_stg1_0) ↦{fullShare} f : sProp (MT nD τ sig ℕ (Elt F) ℕ UU ℕ))
      ⊢ iprop(((((c : Thread nD τ).loc cc0_stg1_0) ↦{fullShare} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_stg1_0) (Rect.unit (s := S1024x1024) off S1024x1024.size inb).toLoadRect hl) k) Q) := by
  iintro H Hk
  iapply (wp_load_rect 𝒱₀ (c : Thread nD τ) none Set.univ (m := Memref.whole cc0_stg1_0) (r := (Rect.unit (s := S1024x1024) off S1024x1024.size inb)) (k := k) (f := f) (S := Finset.univ) (Finset.subset_univ _)) $$ H
  rw [s1_read f ho]
  iexact Hk
theorem s2_read (f : cc0_stg2_0.ty.Contents (Elt F)) {off : Fin 2 → ℕ} {inb : ∀ a, off a + S1024x1024.size a ≤ S1024x1024.size a} (ho : off = ![0, 0]) :
    ((Memref.whole cc0_stg2_0).access (Rect.unit (s := S1024x1024) off S1024x1024.size inb)).read (Elt F) f = f :=
  Memref.readAt_unit_zero (Elt F) cc0_stg2_0 (ho.trans z2) inb f
theorem wp_s2load (c : Dev nD) (f : cc0_stg2_0.ty.Contents (Elt F)) {off : Fin 2 → ℕ} {inb : ∀ a, off a + S1024x1024.size a ≤ S1024x1024.size a} (ho : off = ![0, 0])
    {hl : (Memref.whole cc0_stg2_0).view.LoadsAt (Rect.unit (s := S1024x1024) off S1024x1024.size inb).toLoadRect}
    {k : Vec F S1024x1024 .f32 → Prog (TpuEff nD τ sig (Elt F) Λ₀ .tc) α} :
    (((c : Thread nD τ).loc cc0_stg2_0) ↦{fullShare} f : sProp (MT nD τ sig ℕ (Elt F) ℕ UU ℕ))
      ⊢ iprop(((((c : Thread nD τ).loc cc0_stg2_0) ↦{fullShare} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_stg2_0) (Rect.unit (s := S1024x1024) off S1024x1024.size inb).toLoadRect hl) k) Q) := by
  iintro H Hk
  iapply (wp_load_rect 𝒱₀ (c : Thread nD τ) none Set.univ (m := Memref.whole cc0_stg2_0) (r := (Rect.unit (s := S1024x1024) off S1024x1024.size inb)) (k := k) (f := f) (S := Finset.univ) (Finset.subset_univ _)) $$ H
  rw [s2_read f ho]
  iexact Hk
end Rules

/-! ## The barrier -/

/-- What a device owes at launch. -/
def O₁ (c : Dev nD) : CellTallies nD τ sig ℕ := Ow c 0 + tallyAt (cell (up 1 c) none) 0 1
def O₀ (c : Dev nD) : CellTallies nD τ sig ℕ := O₁ c + tallyAt (cell (up 0 c) none) 0 1

theorem above_ow_bar (c : Dev nD) : Above (Ow c 0) 1 := by
  unfold Ow
  refine Above.add (Above.add (above_oc ?_ ?_) (above_oc ?_ ?_)) (Above.add (above_oc ?_ ?_) (above_oc ?_ ?_)) <;> decide

theorem rest_bar (c : Dev nD) :
    bigSep ((Rd D).duties (cell c none) 0 \ ∅) (fun u => (Rd D).payload (cell c none) 0 u)
      = iprop((cAny (F := F) (dn 0 c) 0 1 0 ∗ cAny (dn 0 c) 0 1 1) ∗ (cAny (dn 1 c) 1 1 0 ∗ cAny (dn 1 c) 1 1 1)) := by
  have h : (Rd D).duties (cell c none) 0 \ ∅ = {0, 1} := by rw [Finset.sdiff_empty, duties_cell D c none]; rfl
  rw [h, bigSep_insert (by decide), bigSep_singleton, payload_cell D c none, payload_cell D c none]
  rfl

/-- What the launch gives of the barrier's cells. -/
def Bst (c : Dev nD) : sProp 𝕄 :=
  iprop(atPos ER (cell c none) 0 ∅ 0 ∗ cred (tallyAt (cell c none) 0 2) ∗ dutyTok ER (cell (up 0 c) none) 0 0 ∗ dutyTok ER (cell (up 1 c) none) 0 1)

set_option maxHeartbeats 4000000 in
theorem wp_part25 (c : Dev nD) (f : cc0_scratch0.ty.Contents (Elt F)) (wq wo : Vec F S1024x1024 .f32)
    {Φ : (Σ' (d0 : Dev nD) (v2 : BitVec 32) (v5 : BitVec 32) (v7 : BitVec 32) (v15 : FVec F S1024x1024 .bf16), FVec F S1024x1024 .bf16) → sProp (MT nD τ sig ℕ (Elt F) ℕ UU ℕ)} :
    iprop(invs (F := F) D K ∗ rch0 (F := F) ∗ levAts L lv ∗ (∃ Wt, owes (c : Thread nD τ) (O₀ c) Wt) ∗ Bst (F := F) c
        ∗ (cAny (F := F) c 0 1 0 ∗ cAny (F := F) c 0 1 1) ∗ (cAny (F := F) c 1 1 0 ∗ cAny (F := F) c 1 1 1)
        ∗ (((c : Thread nD τ).loc cc0_stg1_0) ↦{fullShare} wq) ∗ (((c : Thread nD τ).loc cc0_stg2_0) ↦{fullShare} wo) ∗ cU c 0 0 f)
      ⊢ iprop((∀ v2 v5 v7, ((∃ Wt, owes (c : Thread nD τ) (Ow c 0) Wt) ∗ atPos ER (cell c none) 1 ∅ 0
            ∗ (cAny (F := F) (dn 0 c) 0 1 0 ∗ cAny (F := F) (dn 0 c) 0 1 1) ∗ (cAny (F := F) (dn 1 c) 1 1 0 ∗ cAny (F := F) (dn 1 c) 1 1 1)
            ∗ (((c : Thread nD τ).loc cc0_stg1_0) ↦{fullShare} wq) ∗ (((c : Thread nD τ).loc cc0_stg2_0) ↦{fullShare} wo) ∗ cU c 0 0 (WT wq wo))
          -∗ Φ ⟨c, v2, v5, v7, k0_pay66 wq, k0_pay67 wo⟩) -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Φ) := by
  have hd1 : (⟨k0_dev1 c, k0_dev1_lt c⟩ : Dev nD) = up 0 c := Fin.ext (k0_dev1_eq c)
  have hd2 : (⟨k0_dev2 c, k0_dev2_lt c⟩ : Dev nD) = up 1 c := Fin.ext (k0_dev2_eq c)
  rw [k0_part25_eq_skeleton]
  unfold k0_part25_skel
  simp only [semSignalWord, semWaitWord, Prog.lift, Prog.bind_op, Prog.bind_ret, Prog.pure_eq_ret, wp_deviceId]
  rw [hd1, hd2]
  unfold Bst
  iintro ⟨#HI, #HR, #HL, ⟨%Wt, Ho⟩, ⟨Hat, Hc, Ht0, Ht1⟩, Ha, Hb, Hq, Ho', HU⟩ Hk
  ihave #Hi0 := (inv_cell D K (up 0 c) none) $$ HI
  ihave #Hi1 := (inv_cell D K (up 1 c) none) $$ HI
  ihave #Hi := (inv_cell D K c none) $$ HI
  ihave #Hr0 := (rch_cell (up 0 c) none) $$ HR
  ihave #Hr1 := (rch_cell (up 1 c) none) $$ HR
  iapply (Rounds.wp_signal 𝒱₀ ER (Rd D) (c : Thread nD τ) none (dst := Dev.tc (up 0 c)) (sem := barS) (r := 0) (κ := K (up 0 c, none))
      (d := 0) (by show (0 : Fin 8) ∈ (Rd D).duties (cell (up 0 c) none) 0; rw [duties_cell D (up 0 c) none]; decide)
      ((amount_cell D (up 0 c) none 0 0).trans (by decide)) 0 (O₁ c) rfl) $$ [Ho Ht0 Ha]
  · isplitr; · iexact Hi0
    isplitl [Ho]; · iexact Ho
    isplitl [Ht0]; · iexact Ht0
    isplitl [Ha]
    · iapply (Entails.of_eq ((payload_cell D (up 0 c) none 0 0).trans
        (show pay D (up 0 c) none 0 0 = iprop(cAny (F := F) (dn 0 (up 0 c)) 0 1 0 ∗ cAny (dn 0 (up 0 c)) 0 1 1) from rfl)).symm)
      rw [dn_up]; iexact Ha
    iexact Hr0
  iintro Ho
  iapply (Rounds.wp_signal 𝒱₀ ER (Rd D) (c : Thread nD τ) none (dst := Dev.tc (up 1 c)) (sem := barS) (r := 0) (κ := K (up 1 c, none))
      (d := 1) (by show (1 : Fin 8) ∈ (Rd D).duties (cell (up 1 c) none) 0; rw [duties_cell D (up 1 c) none]; decide)
      ((amount_cell D (up 1 c) none 0 1).trans (by decide)) 0 (Ow c 0) rfl) $$ [Ho Ht1 Hb]
  · isplitr; · iexact Hi1
    isplitl [Ho]; · iexact Ho
    isplitl [Ht1]; · iexact Ht1
    isplitl [Hb]
    · iapply (Entails.of_eq ((payload_cell D (up 1 c) none 0 1).trans
        (show pay D (up 1 c) none 0 1 = iprop(cAny (F := F) (dn 1 (up 1 c)) 1 1 0 ∗ cAny (dn 1 (up 1 c)) 1 1 1) from rfl)).symm)
      rw [dn_up]; iexact Hb
    iexact Hr1
  iintro Ho
  iapply (Rounds.wp_wait_rest_token 𝒱₀ ER (Rd D) (c : Thread nD τ) none (κ := K (c, none))
      (wpE_semWait_eq 𝒱₀ (c : Thread nD τ) none Set.univ) (Set.mem_univ _) 0 (W := Wt) (R := 0) (m := 0) (T := ∅)
      (by rw [expect_cell D c none]; decide)) $$ [Hc Ho Hat]
  · isplitr; · iexact Hi
    isplitl [Hc]; · iexact Hc
    isplitl [Ho]; · iexact Ho
    isplitr; · iapply (mayWait_cell c none 0 (by decide) _ (above_ow_bar c)); iexact HL
    iexact Hat
  iintro ⟨Ho, Hat, -, Hpay⟩
  ihave Hp := (Entails.of_eq (rest_bar D c)) $$ Hpay
  icases Hp with ⟨Ha, Hb⟩
  iapply (wp_s1load c wq rfl) $$ Hq
  iintro Hq
  iapply (wp_s2load c wo rfl) $$ Ho'
  iintro Ho'
  iapply (wp_uload c 0 0 0 _ rfl) $$ [HU]
  · iexact HU
  iintro %_ HU
  iapply (wp_ustore c 0 0 0 _ rfl) $$ [HU]
  · iexact HU
  iintro HU
  iapply (wp_uload c 0 0 1 _ rfl) $$ [HU]
  · iexact HU
  iintro %_ HU
  iapply (wp_ustore c 0 0 1 _ rfl) $$ [HU]
  · iexact HU
  iintro HU
  rw [wp_ret]; imodintro
  iapply Hk
  isplitl [Ho]; · iexists _; iexact Ho
  isplitl [Hat]; · iexact Hat
  isplitl [Ha]; · iexact Ha
  isplitl [Hb]; · iexact Hb
  isplitl [Hq]; · iexact Hq
  isplitl [Ho']; · iexact Ho'
  iapply (Entails.of_eq (cU_stored c 0 0 f wq wo))
  iexact HU

theorem wp_part26 (c : Dev nD) (f : cc0_scratch0.ty.Contents (Elt F)) (wq wo : Vec F S1024x1024 .f32) (v2 : BitVec 32)
    {Φ : BitVec 32 → sProp (MT nD τ sig ℕ (Elt F) ℕ UU ℕ)} :
    cU c 1 0 f ⊢ iprop((∀ v, cU c 1 0 (WT wq wo) -∗ Φ v) -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2 (k0_pay66 wq) (k0_pay67 wo)) Φ) := by
  rw [k0_part26_eq_skeleton]
  unfold k0_part26_skel
  simp only [Prog.lift, Prog.bind_op, Prog.bind_ret, Prog.pure_eq_ret]
  iintro HU Hk
  iapply (wp_uload c 1 0 0 _ rfl) $$ [HU]
  · iexact HU
  iintro %_ HU
  iapply (wp_ustore c 1 0 0 _ rfl) $$ [HU]
  · iexact HU
  iintro HU
  iapply (wp_uload c 1 0 1 _ rfl) $$ [HU]
  · iexact HU
  iintro %_ HU
  iapply (wp_ustore c 1 0 1 _ rfl) $$ [HU]
  · iexact HU
  iintro HU
  rw [wp_ret]; imodintro
  iapply Hk
  iapply (Entails.of_eq (cU_stored c 1 0 f wq wo))
  iexact HU

/-! ## The end of the first prefetch -/

theorem wp_part31 (c : Dev nD) (x : Vec F S1x1024x1024 .f32)
    {Φ : (Σ' (v161 : FVec F S1024x1024 .bf16) (v186 : IVec S512x512 32) (v187 : IVec S512x512 32) (c64_i32_180 : BitVec 32) (v189 : IVec S512x512 32) (v196 : IVec S512x512 32), BitVec 32) → sProp (MT nD τ sig ℕ (Elt F) ℕ UU ℕ)} :
    iprop(invs (F := F) D K ∗ reached ER (cell c (some (.vc 0))) 0 ∗ vRun D c 0 0 7 ∗ (((c : Thread nD τ).loc cc0_stg0_0) ↦{fullShare} x))
      ⊢ iprop((vRun D c 0 0 8 ∗ (((c : Thread nD τ).loc cc0_stg0_0) ↦{fullShare} x)
          -∗ Φ ⟨k0_pay72 x, k0_pay73, iota .tc S512x512 32 [1] iota_S512x512_d1_w32, 64#32, k0_pay74, k0_pay75, Scalar.extui (Scalar.cmpi .sgt 64#32 0#32)⟩) -∗ wp frame (wpE (defs₀ (F := F)) 𝒱₀ (c : Thread nD τ) none) Set.univ (k0_part31 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Φ) := by
  have hg : c = grp c (2 * 0 + (0 : Fin 2).val) := by revert c; decide
  rw [k0_part31_eq_skeleton]
  unfold k0_part31_skel
  simp only [Prog.lift, Prog.bind_op, Prog.bind_ret, Prog.pure_eq_ret]
  iintro ⟨#HI, #Hrv, Hv, Hx⟩ Hk
  iapply (wp_vnext D K c 0 7 0 c (by decide) hg (vh_at _ _ 7 (k0_off1_eq _ 7)) (vb_at _ 7 rfl) (vc_at _ rfl)) $$ [Hv]
  · isplitr; · iexact HI
    isplitr; · iexact Hrv
    iexact Hv
  iintro Hv
  iapply (wp_s0load c x rfl) $$ Hx
  iintro Hx
  rw [wp_ret]; imodintro
  iapply Hk
  isplitl [Hv]; · iexact Hv
  iexact Hx

end Cert.KernelIdealRun

end
-- ==== Proof.KernelIdealRun.Clos.lean ====
/-
The end of the body: every cell past its last round, the buffers whole again.
-/
module

public import proofs.«01_k».proof.Proof.KernelIdealRun.Pro

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-- A cell past its last round. -/
def CZ (c : Dev nD) (k : Kd) : sProp 𝕄 := iprop(∃ R, ⌜∀ r, R ≤ r → dut k r = ∅⌝ ∗ atPos ER (cell c k) R ∅ 0)

theorem cz_of (c : Dev nD) (k : Kd) (R : ℕ) (h : ∀ r, R ≤ r → dut k r = ∅) : (atPos ER (cell c k) R ∅ 0 : sProp 𝕄) ⊢ CZ (F := F) c k := by
  unfold CZ
  iintro H
  iexists R
  isplitr; · ipureintro; exact h
  iexact H

theorem cz_close (c : Dev nD) (k : Kd) : iprop(invs (F := F) D K ∗ CZ (F := F) c k) ⊢ iprop(|={Set.univ}=> semVal (cell c k) 0) := by
  unfold CZ
  iintro ⟨#HI, ⟨%R, %hR, H⟩⟩
  ihave #Hi := (inv_cell D K c k) $$ HI
  iapply (Rounds.cell_close ER (Rd D) (g := cell c k) (κ := K (c, k)) (Es := Set.univ) (Set.mem_univ _) (fun hu => hu) (R := R)
    (fun r hr => (duties_cell D c k r).trans (hR r hr)))
  isplitr; · iexact Hi
  iexact H

/-! ## The own cells, chain by chain -/

def chL (d h : Fin 2) : List Ok := [.snd d 0 h, .snd d 1 h, .rcv d 0 h, .rcv d 1 h, .fr d 0 h, .fr d 1 h, .fr d 2 h]
def kvL : List Ok := [.kc 0, .vc 0, .kc 1, .vc 1]
/-- A family at the cells of a chain. -/
def G7 (Φ : Ok → sProp 𝕄) (d h : Fin 2) : sProp 𝕄 :=
  iprop(Φ (.snd d 0 h) ∗ Φ (.snd d 1 h) ∗ Φ (.rcv d 0 h) ∗ Φ (.rcv d 1 h) ∗ Φ (.fr d 0 h) ∗ Φ (.fr d 1 h) ∗ Φ (.fr d 2 h))
def G4 (Φ : Ok → sProp 𝕄) : sProp 𝕄 := iprop(Φ (.kc 0) ∗ Φ (.vc 0) ∗ Φ (.kc 1) ∗ Φ (.vc 1))

theorem chL_nodup (d h : Fin 2) : (chL d h).Nodup := by revert d h; decide
theorem g7_eq (Φ : Ok → sProp 𝕄) (d h : Fin 2) : bigSep (chL d h).toFinset Φ = G7 Φ d h :=
  bigSep_eq_bigSepL_of_eq (chL d h) rfl (chL_nodup d h) Φ
theorem g4_eq (Φ : Ok → sProp 𝕄) : bigSep kvL.toFinset Φ = G4 Φ :=
  bigSep_eq_bigSepL_of_eq kvL rfl (by decide) Φ

theorem ok_univ : (Finset.univ : Finset Ok) = (chL 0 0).toFinset ∪ ((chL 0 1).toFinset ∪ ((chL 1 0).toFinset ∪ ((chL 1 1).toFinset ∪ kvL.toFinset))) := by decide

/-- A family over the own cells, chain by chain. -/
theorem ok_split (Φ : Ok → sProp 𝕄) : bigSep Finset.univ Φ = iprop(G7 Φ 0 0 ∗ G7 Φ 0 1 ∗ G7 Φ 1 0 ∗ G7 Φ 1 1 ∗ G4 Φ) := by
  rw [ok_univ, bigSep_union (by decide), bigSep_union (by decide), bigSep_union (by decide), bigSep_union (by decide),
    g7_eq, g7_eq, g7_eq, g7_eq, g4_eq]
  rfl

/-! ## The end of a chain -/

theorem don_cz (c : Dev nD) (d h : Fin 2) (q : ℕ) : Don (F := F) c d h q ⊢ CZ (F := F) c (some (.fr d (fi q) h)) := by
  unfold Don
  exact cz_of c _ 1 fun r hr => if_neg fun hh => by omega

theorem snd_cz (c : Dev nD) (d h s : Fin 2) (R : ℕ) (hl : last d < hq s R) : (atPos ER (cell c (some (.snd d s h))) R ∅ 0 : sProp 𝕄) ⊢ CZ (F := F) c (some (.snd d s h)) :=
  cz_of c _ R fun r hr => if_neg fun hh => by unfold hq at hl hh; omega
theorem rcv_cz (c : Dev nD) (d h s : Fin 2) (R : ℕ) (hl : last d < hq s R) : (atPos ER (cell c (some (.rcv d s h))) R ∅ 0 : sProp 𝕄) ⊢ CZ (F := F) c (some (.rcv d s h)) :=
  cz_of c _ R fun r hr => if_neg fun hh => by unfold hq at hl hh; omega

theorem chain_end0 (c : Dev nD) (h : Fin 2) :
    Cs D c 0 h 5 ⊢ iprop(G7 (fun k => CZ (F := F) c (some k)) 0 h ∗ cAny (F := F) c 0 0 h ∗ cAny (F := F) c 0 1 h) := by
  unfold Cs Pos Tail G7
  rw [if_neg (by decide)]
  have e1 : bigSep (Finset.Ico 1 (min 5 (last 0))) (Don (F := F) c 0 h) = iprop(Don c 0 h 1 ∗ Don c 0 h 2 ∗ Don c 0 h 3) := by
    rw [show min 5 (last 0) = 4 by decide, ico_head (by decide), ico_head (by decide), show Finset.Ico (1 + 1 + 1) 4 = {3} by decide, bigSep_singleton]
  rw [e1]
  iintro ⟨⟨Hs1, Hs0, Hv1, Hv0⟩, ⟨-, -, H1, H2, H3⟩, -, -, Hr, Hl, Ha⟩
  isplitl [Hs1 Hs0 Hv1 Hv0 H1 H2 H3]
  · isplitl [Hs0]; · iapply (snd_cz c 0 h 0 2 (by decide)); iexact Hs0
    isplitl [Hs1]; · iapply (snd_cz c 0 h 1 2 (by decide)); iexact Hs1
    isplitl [Hv0]; · iapply (rcv_cz c 0 h 0 2 (by decide)); iexact Hv0
    isplitl [Hv1]; · iapply (rcv_cz c 0 h 1 2 (by decide)); iexact Hv1
    isplitl [H1]; · iapply (don_cz c 0 h 1); iexact H1
    isplitl [H2]; · iapply (don_cz c 0 h 2); iexact H2
    iapply (don_cz c 0 h 3); iexact H3
  isplitl [Hr Hl]
  · unfold cAny
    iexists _
    iapply (cPts_halve c 0 0 h _).2
    isplitl [Hl]; · iexact Hl
    iexact Hr
  iexact Ha

theorem chain_end1 (c : Dev nD) (h : Fin 2) :
    iprop(Cs D c 1 h 4 ∗ atPos ER (cell c (some (.fr 1 2 h))) 0 ∅ 0)
      ⊢ iprop(G7 (fun k => CZ (F := F) c (some k)) 1 h ∗ cAny (F := F) c 1 0 h ∗ cAny (F := F) c 1 1 h) := by
  unfold Cs Pos Tail G7
  rw [if_neg (by decide)]
  have e1 : bigSep (Finset.Ico 1 (min 4 (last 1))) (Don (F := F) c 1 h) = iprop(Don c 1 h 1 ∗ Don c 1 h 2) := by
    rw [show min 4 (last 1) = 3 by decide, ico_head (by decide), show Finset.Ico (1 + 1) 3 = {2} by decide, bigSep_singleton]
  rw [e1]
  iintro ⟨⟨⟨Hs0, Hs1, Hv0, Hv1⟩, ⟨-, -, H1, H2⟩, -, -, Hr, Hl, Ha⟩, H3⟩
  isplitl [Hs1 Hs0 Hv1 Hv0 H1 H2 H3]
  · isplitl [Hs0]; · iapply (snd_cz c 1 h 0 1 (by decide)); iexact Hs0
    isplitl [Hs1]; · iapply (snd_cz c 1 h 1 2 (by decide)); iexact Hs1
    isplitl [Hv0]; · iapply (rcv_cz c 1 h 0 1 (by decide)); iexact Hv0
    isplitl [Hv1]; · iapply (rcv_cz c 1 h 1 2 (by decide)); iexact Hv1
    isplitl [H1]; · iapply (don_cz c 1 h 1); iexact H1
    isplitl [H2]; · iapply (don_cz c 1 h 2); iexact H2
    iapply (cz_of c (some (.fr 1 2 h)) 0 (fun r _ => if_neg (fun hh => absurd hh.2 (by decide)))); iexact H3
  isplitl [Ha]; · iexact Ha
  unfold cAny
  iexists _
  iapply (cPts_halve c 1 1 h _).2
  isplitl [Hl]; · iexact Hl
  iexact Hr

theorem si_end (c : Dev nD) (s : Fin 2) :
    SI D c s 4 ⊢ iprop((CZ (F := F) c (some (.kc s)) ∗ CZ (F := F) c (some (.vc s))) ∗ KVmem D c s) := by
  refine (si_elim D c s 4).trans ?_
  iintro ⟨Hk, Hv, H⟩
  isplitl [Hk Hv]
  · isplitl [Hk]; · iapply (cz_of c (some (.kc s)) 4 (dut_later _)); iexact Hk
    iapply (cz_of c (some (.vc s)) 4 (dut_later _)); iexact Hv
  iexact H

/-! ## All of it -/

/-- Every cell's counter back at zero. -/
def Sems0 (c : Dev nD) : sProp 𝕄 := iprop((bigSep Finset.univ fun k : Ok => semVal (cell c (some k)) 0) ∗ semVal (cell c none) 0)

theorem all_close (c : Dev nD) :
    iprop(invs (F := F) D K ∗ (bigSep Finset.univ fun k : Ok => CZ (F := F) c (some k)) ∗ CZ (F := F) c none) ⊢ iprop(|={Set.univ}=> Sems0 (F := F) c) := by
  have hone : ∀ k : Ok, iprop(invs (F := F) D K ∗ CZ (F := F) c (some k)) ⊢ iprop(|={Set.univ}=> semVal (cell c (some k)) 0) := fun k => cz_close D K c (some k)
  have hall := (bigSep_with_persistent (M := MT nD τ sig ℕ (Elt F) ℕ UU ℕ) (R := invs (F := F) D K) (S := (Finset.univ : Finset Ok)) (Φ := fun k => CZ (F := F) c (some k))
    (Ψ := fun k => iprop(|={Set.univ}=> semVal (cell c (some k)) 0)) fun k _ => hone k)
  iintro ⟨#HI, Hk, Hb⟩
  ihave Hk := hall $$ [Hk]
  · isplitr; · iexact HI
    iexact Hk
  imod (bigSep_fupd (Mask := Set ℕ) (Fr := frame) (E := Set.univ) Finset.univ (fun k : Ok => (semVal (cell c (some k)) 0 : sProp 𝕄))) $$ Hk with Hk
  imod (cz_close D K c none) $$ [Hb] with Hb
  · isplitr; · iexact HI
    iexact Hb
  imodintro
  unfold Sems0
  isplitl [Hk]; · iexact Hk
  iexact Hb

end Cert.KernelIdealRun

end
-- ==== Proof.KernelIdealRun.Body.lean ====
/-
The body of the kernel on one device, from what the launch gives it to what it gives back.
-/
module

public import proofs.«01_k».proof.Proof.KernelIdealRun.Clos

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (D : Data F) (K : Dev nD × Kd → ℕ)

/-- What the launch gives of a chain: its positions, credits and duties. -/
def Sg (c : Dev nD) (d h : Fin 2) : sProp 𝕄 :=
  iprop(Pos (F := F) c d h 1 2 ∗ Tail (F := F) c d h 1 1
    ∗ dutyTok ER (cell c (some (.snd d (sl 1) h))) (rd 1) 0 ∗ dutyTok ER (cell (dn d c) (some (.rcv d (sl 1) h))) (rd 1) 0)

theorem cs0_intro (c : Dev nD) (d h : Fin 2) :
    iprop(Sg (F := F) c d h ∗ cPts c d 0 h fullShare (D.W c) ∗ cAny (F := F) (dn d c) d 1 h) ⊢ Cs0 D c d h := by
  unfold Sg Cs0
  iintro ⟨⟨HP, HT, H1, H2⟩, HW, HA⟩
  isplitl [HP]; · iexact HP
  isplitl [HT]; · iexact HT
  isplitl [HW]; · iexact HW
  isplitl [HA]; · iexact HA
  isplitl [H1]; · iexact H1
  iexact H2

/-- The protocol's part of what the body starts from. -/
def Gst (c : Dev nD) : sProp 𝕄 :=
  iprop(Bst (F := F) c ∗ (Sg (F := F) c 0 0 ∗ Sg (F := F) c 0 1 ∗ Sg (F := F) c 1 0 ∗ Sg (F := F) c 1 1)
    ∗ KVst (F := F) c 0 ∗ KVst (F := F) c 1
    ∗ atPos ER (cell c (some (.fr 1 2 0))) 0 ∅ 0 ∗ atPos ER (cell c (some (.fr 1 2 1))) 0 ∅ 0)
/-- The scratch buffers, at anything. -/
def Scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))
/-- The three staged operands. -/
def Stg (c : Dev nD) (x : Vec F S1x1024x1024 .f32) (wq wo : Vec F S1024x1024 .f32) : sProp 𝕄 :=
  iprop((((c : Thread nD τ).loc cc0_stg0_0) ↦{fullShare} x) ∗ (((c : Thread nD τ).loc cc0_stg1_0) ↦{fullShare} wq) ∗ (((c : Thread nD τ).loc cc0_stg2_0) ↦{fullShare} wo))

/-- The mask the trips add to the scores of equal blocks, as the program builds it. -/
def Msk : FVec F S512x512 .f32 :=
  k0_pay1 k0_pay73 (iota .tc S512x512 32 [1] iota_S512x512_d1_w32) 64#32 k0_pay74 k0_pay75 (Scalar.extui (Scalar.cmpi .sgt 64#32 0#32))

/-- The result on a device whose block of the activations is `x`. -/
def outV (c : Dev nD) (x : Vec F S1x1024x1024 .f32) : Vec F S1x1024x1024 .f32 := acc D c Msk (k0_pay72 x) 8

/-- The travelling buffer, region by region: slot `0` of each way whole, slot `1` of each way at anything. -/
theorem scr_split (c : Dev nD) (f : cc0_scratch0.ty.Contents (Elt F)) :
    (((c : Thread nD τ).loc cc0_scratch0) ↦{fullShare} f : sProp 𝕄)
      ⊢ iprop(cU c 0 0 f ∗ cU c 1 0 f ∗ (cAny (F := F) c 0 1 0 ∗ cAny (F := F) c 0 1 1) ∗ (cAny (F := F) c 1 1 0 ∗ cAny (F := F) c 1 1 1)) := by
  rw [comm_all c f, c3_chain]
  unfold cAny
  iintro ⟨H000, H001, H010, H011, H100, H101, H110, H111⟩
  isplitl [H000 H001]
  · iapply (cU_split c 0 0 f).2
    isplitl [H000]; · iexact H000
    iexact H001
  isplitl [H100 H101]
  · iapply (cU_split c 1 0 f).2
    isplitl [H100]; · iexact H100
    iexact H101
  isplitl [H010 H011]
  · isplitl [H010]; · iexists f; iexact H010
    iexists f; iexact H011
  isplitl [H110]; · iexists f; iexact H110
  iexists f; iexact H111

theorem scr_join (c : Dev nD) (f₀ : cc0_scratch0.ty.Contents (Elt F)) :
    iprop((cAny (F := F) c 0 0 0 ∗ cAny (F := F) c 0 1 0) ∗ (cAny (F := F) c 0 0 1 ∗ cAny (F := F) c 0 1 1)
        ∗ (cAny (F := F) c 1 0 0 ∗ cAny (F := F) c 1 1 0) ∗ (cAny (F := F) c 1 0 1 ∗ cAny (F := F) c 1 1 1))
      ⊢ (iprop(∃ f, ((c : Thread nD τ).loc cc0_scratch0) ↦{fullShare} f) : sProp 𝕄) := by
  refine BIBase.Entails.trans ?_ (comm_join c f₀)
  rw [c3_chain]
  iintro ⟨⟨H000, H010⟩, ⟨H001, H011⟩, ⟨H100, H110⟩, ⟨H101, H111⟩⟩
  isplitl [H000]; · iexact H000
  isplitl [H001]; · iexact H001
  isplitl [H010]; · iexact H010
  isplitl [H011]; · iexact H011
  isplitl [H100]; · iexact H100
  isplitl [H101]; · iexact H101
  isplitl [H110]; · iexact H110
  iexact H111

theorem ow_end (c : Dev nD) : Ow c 8 = 0 := by
  have e0 : ∀ h, oc c 0 h 5 = 0 := fun h => by
    unfold oc
    rw [show Finset.Ico (5 + 1) (last 0 + 1) = ∅ by decide, show Finset.Ico (max 5 1) (last 0) = ∅ by decide]; simp
  have e1 : ∀ h, oc c 1 h 4 = 0 := fun h => by
    unfold oc
    rw [show Finset.Ico (4 + 1) (last 1 + 1) = ∅ by decide, show Finset.Ico (max 4 1) (last 1) = ∅ by decide]; simp
  unfold Ow
  rw [show nextP 0 8 = 5 by decide, show nextP 1 8 = 4 by decide, e0, e0, e1, e1]
  simp

set_option maxHeartbeats 4000000 in
/-- After the last trip: every cell closed, every buffer whole. -/
theorem trips_end (c : Dev nD) (M : FVec F S512x512 .f32) (x : FVec F S1024x1024 .bf16) (f₀ : cc0_scratch0.ty.Contents (Elt F)) :
    iprop(TInv D K c M x 8 ∗ KVrem D c ∗ atPos ER (cell c none) 1 ∅ 0 ∗ atPos ER (cell c (some (.fr 1 2 0))) 0 ∅ 0 ∗ atPos ER (cell c (some (.fr 1 2 1))) 0 ∅ 0)
      ⊢ iprop(|={Set.univ}=> (Sems0 (F := F) c ∗ KVarr D c ∗ Scr (F := F) c ∗ (∃ Wt, owes (c : Thread nD τ) 0 Wt)
          ∗ (((c : Thread nD τ).loc cc0_stg3_0) ↦{fullShare} (acc D c M x 8)))) := by
  have hsx : SX D c 8 = SI D c 0 4 := if_neg (by decide)
  have hch : Ch D c 8 = iprop(Cs D c 0 0 5 ∗ Cs D c 0 1 5 ∗ Cs D c 1 0 4 ∗ Cs D c 1 1 4) := if_neg (by decide)
  have hs1 : SI D c (sl (8 + 1)) ((8 + 1) / 2) = SI D c 1 4 := rfl
  unfold TInv Fst
  rw [hsx, hch, hs1, ow_end]
  iintro ⟨⟨#HI, -, -, HS0, HS1, ⟨⟨H00, H01, H10, H11⟩, Ho⟩, Hx, Hout⟩, Hrem, Hb, Hf0, Hf1⟩
  ihave HS0 := (si_end D c 0) $$ HS0
  ihave HS1 := (si_end D c 1) $$ HS1
  ihave H00 := (chain_end0 D c 0) $$ H00
  ihave H01 := (chain_end0 D c 1) $$ H01
  ihave H10 := (chain_end1 D c 0) $$ [H10 Hf0]
  · isplitl [H10]; · iexact H10
    iexact Hf0
  ihave H11 := (chain_end1 D c 1) $$ [H11 Hf1]
  · isplitl [H11]; · iexact H11
    iexact Hf1
  icases HS0 with ⟨⟨Hk0, Hv0⟩, HM0⟩
  icases HS1 with ⟨⟨Hk1, Hv1⟩, HM1⟩
  icases H00 with ⟨G00, R00⟩
  icases H01 with ⟨G01, R01⟩
  icases H10 with ⟨G10, R10⟩
  icases H11 with ⟨G11, R11⟩
  ihave HZ := (Entails.of_eq (ok_split (fun k => CZ (F := F) c (some k))).symm) $$ [G00 G01 G10 G11 Hk0 Hv0 Hk1 Hv1]
  · isplitl [G00]; · iexact G00
    isplitl [G01]; · iexact G01
    isplitl [G10]; · iexact G10
    isplitl [G11]; · iexact G11
    unfold G4
    isplitl [Hk0]; · iexact Hk0
    isplitl [Hv0]; · iexact Hv0
    isplitl [Hk1]; · iexact Hk1
    iexact Hv1
  imod (all_close D K c) $$ [HZ Hb] with HSem
  · isplitr; · iexact HI
    isplitl [HZ]; · iexact HZ
    iapply (cz_of c none 1 (fun r hr => if_neg (by omega))); iexact Hb
  imodintro
  isplitl [HSem]; · iexact HSem
  ihave HKV := (kvmem_elim D c (KC D c c) (VC D c c)) $$ [Hrem HM0 HM1]
  · isplitl [Hrem]; · iexact Hrem
    isplitl [HM0]; · iexact HM0
    iexact HM1
  icases HKV with ⟨HKV, H1, H2⟩
  isplitl [HKV]; · iexact HKV
  isplitl [R00 R01 R10 R11 H1 H2 Hx]
  · unfold Scr
    isplitl [R00 R01 R10 R11]
    · iapply (scr_join c f₀)
      isplitl [R00]; · iexact R00
      isplitl [R01]; · iexact R01
      isplitl [R10]; · iexact R10
      iexact R11
    isplitl [H1]; · iexact H1
    isplitl [H2]; · iexact H2
    iexact Hx
  isplitl [Ho]; · iexact Ho
  iexact Hout

set_option maxHeartbeats 4000000 in
theorem body_wp (c : Dev nD) (x : Vec F S1x1024x1024 .f32) (wq wo : Vec F S1024x1024 .f32) (hW : D.W c = WT wq wo) :
    iprop(invs (F := F) D K ∗ rch0 (F := F) ∗ levAts L lv ∗ Gst (F := F) c ∗ KVarr D c ∗ Scr (F := F) c
        ∗ (∃ Wt, owes (c : Thread nD τ) (O₀ c) Wt) ∗ Stg c x wq wo ∗ (∃ f, ((c : Thread nD τ).loc cc0_stg3_0) ↦{fullShare} f))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (fun _ => iprop(Sems0 (F := F) c ∗ KVarr D c ∗ Scr (F := F) c ∗ (∃ Wt, owes (c : Thread nD τ) 0 Wt)
          ∗ Stg c x wq wo ∗ (((c : Thread nD τ).loc cc0_stg3_0) ↦{fullShare} (outV D c x)))) := by
  have hg : c = grp c (2 * 0 + (0 : Fin 2).val) := (show ∀ c : Dev nD, c = grp c (2 * 0 + (0 : Fin 2).val) by decide) c
  rw [cc0_body_eq_skeleton]
  unfold cc0_body_skel Gst Scr Stg
  iintro ⟨#HI, #HR, #HL, ⟨HB, ⟨S00, S01, S10, S11⟩, HK0, HK1, Hf0, Hf1⟩, HKV, ⟨⟨%f0, H0⟩, ⟨%f1, H1⟩, ⟨%f2, H2⟩, H3⟩, Ho, ⟨Hx, Hq, Hw⟩, ⟨%fo, Hout⟩⟩
  ihave H0 := (scr_split c f0) $$ H0
  icases H0 with ⟨U0, U1, A0, A1⟩
  ihave HKV := (kvmem_intro D c f1 f2) $$ [HKV H1 H2]
  · isplitl [HKV]; · iexact HKV
    isplitl [H1]; · iexact H1
    iexact H2
  icases HKV with ⟨Hrem, HM0, HM1⟩
  ihave HS0 := (si_intro D c 0) $$ [HK0 HM0]
  · isplitr; · iexact HR
    isplitl [HK0]; · iexact HK0
    iexact HM0
  ihave HS1 := (si_intro D c 1) $$ [HK1 HM1]
  · isplitr; · iexact HR
    isplitl [HK1]; · iexact HK1
    iexact HM1
  ihave HS0 := (Entails.of_eq (show SI D c 0 0 = iprop(atPos ER (cell c (some (.kc 0))) 0 ∅ 0 ∗ atPos ER (cell c (some (.vc 0))) 0 ∅ 0
    ∗ reached ER (cell c (some (.kc 0))) 0 ∗ reached ER (cell c (some (.vc 0))) 0 ∗ kRun D c 0 0 0 ∗ vRun D c 0 0 0) from rfl)) $$ HS0
  icases HS0 with ⟨Hpk, Hpv, #Hrk, #Hrv, Hk, Hv⟩
  rw [wp_bind]
  iapply (wp_part25 D K c f0 wq wo) $$ [Ho HB A0 A1 Hq Hw U0]
  · isplitr; · iexact HI
    isplitr; · iexact HR
    isplitr; · iexact HL
    isplitl [Ho]; · iexact Ho
    isplitl [HB]; · iexact HB
    isplitl [A0]; · iexact A0
    isplitl [A1]; · iexact A1
    isplitl [Hq]; · iexact Hq
    isplitl [Hw]; · iexact Hw
    iexact U0
  iintro %v2 %v5 %v7 ⟨Ho, Hbar, A0, A1, Hq, Hw, U0⟩
  dsimp only
  rw [wp_bind]
  iapply (wp_part26 c f0 wq wo v2) $$ [U1]
  · iexact U1
  iintro %v51 U1
  rw [wp_bind]
  iapply (wp_part27 D K c 0 0 c (by decide) rfl hg rfl v2 v51) $$ [Hk Hv]
  · isplitr; · iexact HI
    isplitr; · iexact Hrk
    isplitr; · iexact Hrv
    isplitl [Hk]; · iexact Hk
    iexact Hv
  iintro ⟨Hk, Hv⟩
  rw [wp_bind]
  iapply (wp_part28 D K c 0 0 c (by decide) rfl hg rfl) $$ [Hk Hv]
  · isplitr; · iexact HI
    isplitr; · iexact Hrk
    isplitr; · iexact Hrv
    isplitl [Hk]; · iexact Hk
    iexact Hv
  iintro ⟨Hk, Hv⟩
  rw [wp_bind]
  iapply (wp_part29 D K c 0 0 c (by decide) rfl hg rfl) $$ [Hk Hv]
  · isplitr; · iexact HI
    isplitr; · iexact Hrk
    isplitr; · iexact Hrv
    isplitl [Hk]; · iexact Hk
    iexact Hv
  iintro ⟨Hk, Hv⟩
  rw [wp_bind]
  iapply (wp_part30 D K c 0 0 c (by decide) rfl hg rfl) $$ [Hk Hv]
  · isplitr; · iexact HI
    isplitr; · iexact Hrk
    isplitr; · iexact Hrv
    isplitl [Hk]; · iexact Hk
    iexact Hv
  iintro ⟨Hk, Hv⟩
  rw [wp_bind]
  iapply (wp_part31 D K c x) $$ [Hv Hx]
  · isplitr; · iexact HI
    isplitr; · iexact Hrv
    isplitl [Hv]; · iexact Hv
    iexact Hx
  iintro ⟨Hv, Hx⟩
  dsimp only
  simp only [Prog.lift, Prog.bind_op, Prog.bind_ret, Prog.pure_eq_ret]
  iapply (wp_oload c fo) $$ Hout
  iintro Hout
  iapply (wp_ostore c fo) $$ Hout
  iintro Hout
  ihave U0 := (Entails.of_eq (congrArg (cU c 0 0) hW.symm)) $$ U0
  ihave U1 := (Entails.of_eq (congrArg (cU c 1 0) hW.symm)) $$ U1
  ihave U0 := (cU_split c 0 0 (D.W c)).1 $$ U0
  ihave U1 := (cU_split c 1 0 (D.W c)).1 $$ U1
  icases U0 with ⟨U00, U01⟩
  icases U1 with ⟨U10, U11⟩
  icases A0 with ⟨A00, A01⟩
  icases A1 with ⟨A10, A11⟩
  ihave C00 := (cs0_intro D c 0 0) $$ [S00 U00 A00]
  · isplitl [S00]; · iexact S00
    isplitl [U00]; · iexact U00
    iexact A00
  ihave C01 := (cs0_intro D c 0 1) $$ [S01 U01 A01]
  · isplitl [S01]; · iexact S01
    isplitl [U01]; · iexact U01
    iexact A01
  ihave C10 := (cs0_intro D c 1 0) $$ [S10 U10 A10]
  · isplitl [S10]; · iexact S10
    isplitl [U10]; · iexact U10
    iexact A10
  ihave C11 := (cs0_intro D c 1 1) $$ [S11 U11 A11]
  · isplitl [S11]; · iexact S11
    isplitl [U11]; · iexact U11
    iexact A11
  unfold Scf.Loop.for
  iapply (Scf.wp_for_bind frame (wpE (defs₀ (F := F)) 𝒱₀ (c : Thread nD τ) none) Set.univ _ _ _ k0_t1_ok _ _
    (fun t _ => TInv D K c Msk (k0_pay72 x) t) (fun t u => trip D K c t v2 v5 v7 (k0_pay72 x) _ _ _ _ _ _ Msk rfl u)) $$ [Hpk Hpv Hk Hv HS1 C00 C01 C10 C11 Ho H3 Hout]
  · unfold TInv Fst
    isplitr; · iexact HI
    isplitr; · iexact HR
    isplitr; · iexact HL
    isplitl [Hpk Hpv Hk Hv]
    · iapply (Entails.of_eq (show SX D c 0 = SF D c 0 0 from if_pos (by decide)).symm)
      unfold SF
      isplitl [Hpk]; · iexact Hpk
      isplitl [Hpv]; · iexact Hpv
      isplitl [Hk]; · iexact Hk
      iexact Hv
    isplitl [HS1]; · iexact HS1
    isplitl [C00 C01 C10 C11 Ho]
    · isplitl [C00 C01 C10 C11]
      · iapply (Entails.of_eq (show Ch D c 0 = iprop(Cs0 D c 0 0 ∗ Cs0 D c 0 1 ∗ Cs0 D c 1 0 ∗ Cs0 D c 1 1) from if_pos rfl).symm)
        isplitl [C00]; · iexact C00
        isplitl [C01]; · iexact C01
        isplitl [C10]; · iexact C10
        iexact C11
      iexact Ho
    isplitl [H3]; · iexact H3
    iexact Hout
  iintro %u HT
  ihave HT := (Entails.of_eq (congrArg (TInv D K c Msk (k0_pay72 x)) (show Scf.trips _ _ _ = 8 from trips_eq))) $$ HT
  rw [wp_ret]
  have hte := trips_end D K c Msk (k0_pay72 x) f0
  unfold Scr at hte
  imod hte $$ [HT Hrem Hbar Hf0 Hf1] with HE
  · isplitl [HT]; · iexact HT
    isplitl [Hrem]; · iexact Hrem
    isplitl [Hbar]; · iexact Hbar
    isplitl [Hf0]; · iexact Hf0
    iexact Hf1
  imodintro
  icases HE with ⟨HSem, HKV, HSc, Ho, Hout⟩
  isplitl [HSem]; · iexact HSem
  isplitl [HKV]; · iexact HKV
  isplitl [HSc]; · iexact HSc
  isplitl [Ho]; · iexact Ho
  isplitl [Hx Hq Hw]
  · isplitl [Hx]; · iexact Hx
    isplitl [Hq]; · iexact Hq
    iexact Hw
  iexact Hout

end Cert.KernelIdealRun

end
-- ==== Proof.KernelIdealRun.Fund.lean ====
/-
What the launch deals out: the rounds of every cell, the duty tokens to the devices that pay them, and the credits for
what each device is owed.
-/
module

public import proofs.«01_k».proof.Proof.KernelIdealRun.Body

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

/-! ## Cells and tokens -/

def ringCells : Finset (GSem nD τ sig) := Finset.univ.map ⟨kcell, kcell_inj⟩

abbrev TokIx : Type := (_ : Dev nD × Kd) × (_ : ℕ) × Fin 8
def tokOf (x : TokIx) : GSem nD τ sig × ℕ × Fin 8 := (kcell x.1, x.2.1, x.2.2)
theorem tokOf_inj : Function.Injective tokOf := by
  rintro ⟨a, r, x⟩ ⟨a', r', x'⟩ h
  have h1 : a = a' := kcell_inj (congrArg Prod.fst h)
  have h2 : r = r' := congrArg (fun y => y.2.1) h
  have h3 : x = x' := congrArg (fun y => y.2.2) h
  subst h1; subst h2; subst h3; rfl
def ringToks : Finset (GSem nD τ sig × ℕ × Fin 8) :=
  ((Finset.univ : Finset (Dev nD × Kd)).sigma fun ck => (Finset.range 4).sigma fun r => dut ck.2 r).map ⟨tokOf, tokOf_inj⟩

def u₀ : UU :=
  (initOf (Pipeline.cells cfgs cellOf_inj) (Pipeline.launchToks cfgs cellOf_inj), initOf ringCells ringToks)

/-- The tokens of the duties of device `c`'s own cells. -/
def toks (c : Dev nD) : sProp 𝕄 :=
  bigSep Finset.univ fun k : Kd => bigSep (Finset.range 4) fun r => bigSep (dut k r) fun x => dutyTok ER (cell c k) r x

/-- The device at whose cell the duty is that device `c` pays. -/
def payE : Kd → Fin 8 → (Dev nD ≃ Dev nD)
  | none, x => if x = 0 then (ringE 0).symm else (ringE 1).symm
  | some (.rcv d s h), x => ringE d
  | some (.fr d p h), x => (ringE d).symm
  | some (.snd d s h), x => Equiv.refl _
  | some (.kc s), x => Equiv.refl _
  | some (.vc s), x => Equiv.refl _

/-- The tokens of the duties at cells of one kind that device `c` pays. -/
def pt (c : Dev nD) (k : Kd) : sProp 𝕄 :=
  bigSep (Finset.range 4) fun r => bigSep (dut k r) fun x => dutyTok ER (cell (payE k x c) k) r x

theorem bigSep_swap {α β : Type} [Fintype α] [DecidableEq β] (s : Finset β) (Φ : α → β → sProp (MT nD τ sig ℕ (Elt F) ℕ UU ℕ)) :
    bigSep Finset.univ (fun a => bigSep s (Φ a)) = bigSep s fun b => bigSep Finset.univ fun a => Φ a b := by
  induction s using Finset.induction_on with
  | empty => simp only [bigSep_empty]; exact bigSep_emp_const _
  | insert b s hb ih =>
    rw [bigSep_insert hb, ← ih, ← bigSep_sep]
    exact bigSep_congr fun a _ => bigSep_insert hb

theorem toks_around : (bigSep Finset.univ fun c : Dev nD => (toks c : sProp 𝕄)) = bigSep Finset.univ fun c : Dev nD => bigSep Finset.univ fun k : Kd => pt c k := by
  unfold toks pt
  refine (bigSep_swap _ _).trans (Eq.trans ?_ (bigSep_swap _ _).symm)
  refine bigSep_congr fun k _ => ?_
  refine (bigSep_swap _ _).trans (Eq.trans ?_ (bigSep_swap _ _).symm)
  refine bigSep_congr fun r _ => ?_
  refine (bigSep_swap _ _).trans (Eq.trans ?_ (bigSep_swap _ _).symm)
  exact bigSep_congr fun x _ => bigSep_univ_equiv (payE k x) (fun c : Dev nD => (dutyTok ER (cell c k) r x : sProp 𝕄))

theorem bigSep_kd (Φ : Kd → sProp (MT nD τ sig ℕ (Elt F) ℕ UU ℕ)) :
    bigSep Finset.univ Φ = iprop((bigSep Finset.univ fun k : Ok => Φ (some k)) ∗ Φ none) := by
  rw [bigSep_univ_equiv (Equiv.optionEquivSumPUnit.{0} Ok).symm Φ, bigSep_univ_sum]
  rw [bigSep_univ_of_subsingleton (PUnit.unit : PUnit.{1})]
  rfl

variable (D : Data F)

/-- What the launch element deals device `c`. -/
def G (c : Dev nD) : sProp 𝕄 :=
  iprop((bigSep Finset.univ fun k : Kd => roundState ER (Rd D) (kcell (c, k)) 0)
    ∗ (bigSep Finset.univ fun k : Kd => iprop(atPos ER (kcell (c, k)) 0 ∅ 0 ∗ reached ER (kcell (c, k)) 0)) ∗ toks c)

theorem fund_ring : BI.own (ER (initOf ringCells ringToks)) ⊢ (|==> bigSep Finset.univ (G D) : sProp 𝕄) := by
  have hX (Φ : GSem nD τ sig → sProp (MT nD τ sig ℕ (Elt F) ℕ UU ℕ)) : bigSep ringCells Φ = bigSep Finset.univ fun c : Dev nD => bigSep Finset.univ fun k : Kd => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, Pipeline.bigSep_sigma, bigSep_univ_prod]
    refine bigSep_congr fun c _ => ?_
    unfold toks
    refine bigSep_congr fun k _ => ?_
    rw [Pipeline.bigSep_sigma]; rfl
  iintro HX
  imod (Rounds.fund ER (Rd D) ringCells ringToks) $$ HX with ⟨Hst, Hr, Hat, Htok⟩
  imodintro
  ihave Hst' := (Entails.of_eq (hX fun g => roundState ER (Rd D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

abbrev ownS (c : Dev nD) : sProp 𝕄 := Pipeline.ownSems0 (Ix := ℕ) (Name := ℕ) (U := UU) (Lvl := ℕ) (Val := Elt F) (τ := τ) osem c

theorem unscopedSems0_eq (c : Dev nD) : (unscopedSems0 c : sProp 𝕄) = semVal (cell c none) 0 := by
  unfold unscopedSems0; rw [bigSep_eq_bigSepL_of_eq [SemLoc.reg barS] (by decide) (by decide)]; rfl
theorem ownS_eq (c : Dev nD) : ownS (F := F) c = bigSep Finset.univ fun k : Ok => semVal (cell c (some k)) 0 := rfl

theorem core_alloc (c : Dev nD) :
    iprop(ownS (F := F) c ∗ unscopedSems0 c ∗ G D c)
      ⊢ |={Set.univ}=> iprop((bigSep Finset.univ fun k => iprop(∃ κ : ℕ, cellInv ER (Rd D) κ (kcell (c, k))))
          ∗ (bigSep Finset.univ fun k => iprop(atPos ER (kcell (c, k)) 0 ∅ 0 ∗ reached ER (kcell (c, k)) 0)) ∗ toks c) := by
  unfold G
  have hs : iprop(ownS (F := F) c ∗ unscopedSems0 c) ⊢ (bigSep Finset.univ fun k : Kd => semVal (kcell (c, k)) 0 : sProp 𝕄) := by
    rw [bigSep_kd, unscopedSems0_eq, ownS_eq]
  iintro ⟨Hos, Hus, Hst, Hat, Htok⟩
  ihave Hv := hs $$ [Hos Hus]
  · isplitl [Hos] <;> iassumption
  imod (show iprop((bigSep Finset.univ fun k : Kd => semVal (kcell (c, k)) 0) ∗ bigSep Finset.univ fun k : Kd => roundState ER (Rd D) (kcell (c, k)) 0)
      ⊢ (|={Set.univ}=> bigSep Finset.univ fun k => iprop(∃ κ : ℕ, cellInv ER (Rd D) κ (kcell (c, k))) : sProp 𝕄) from by
        rw [← bigSep_sep']
        exact (bigSep_mono fun k _ => (Rounds.body_intro ER (Rd D) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What the global step leaves device `c` with. -/
def G' (c : Dev nD) : sProp 𝕄 :=
  iprop(∃ K : Dev nD × Kd → ℕ, (invs D K ∗ rch0) ∗ (bigSep Finset.univ fun k : Kd => atPos ER (kcell (c, k)) 0 ∅ 0) ∗ bigSep Finset.univ fun k : Kd => pt c k)

theorem G'_intro (K : Dev nD × Kd → ℕ) (c : Dev nD) :
    iprop((invs D K ∗ rch0) ∗ (bigSep Finset.univ fun k : Kd => atPos ER (kcell (c, k)) 0 ∅ 0) ∗ bigSep Finset.univ fun k : Kd => pt c k) ⊢ G' D c := by
  unfold G'
  iintro H
  iexists K
  iexact H

theorem regroup :
    (bigSep Finset.univ fun c : Dev nD => iprop((bigSep Finset.univ fun k => iprop(∃ κ : ℕ, cellInv ER (Rd D) κ (kcell (c, k))))
          ∗ (bigSep Finset.univ fun k => iprop(atPos ER (kcell (c, k)) 0 ∅ 0 ∗ reached ER (kcell (c, k)) 0)) ∗ toks c) : sProp 𝕄)
      ⊢ bigSep Finset.univ (G' D) := by
  rw [bigSep_sep', bigSep_sep', ← bigSep_univ_prod (fun ck : Dev nD × Kd => iprop(∃ κ : ℕ, cellInv ER (Rd D) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄)), toks_around]
  iintro ⟨HI, ⟨Hat, #HR⟩, Htok⟩
  ihave HK := (BI.bigSep_exists_pi Finset.univ (fun (ck : Dev nD × Kd) (κ : ℕ) => (cellInv ER (Rd D) κ (kcell ck) : sProp 𝕄))) $$ HI
  icases HK with ⟨%K, #HI⟩
  iapply (bigSep_with_persistent (M := MT nD τ sig ℕ (Elt F) ℕ UU ℕ) (R := iprop(invs D K ∗ rch0))
    (Φ := fun c => iprop((bigSep Finset.univ fun k : Kd => atPos ER (kcell (c, k)) 0 ∅ 0) ∗ bigSep Finset.univ fun k : Kd => pt c k)) fun c _ => G'_intro D K c)
  isplitr
  · isplitl
    · unfold invs; iexact HI
    · unfold rch0; iexact HR
  · iapply (Entails.of_eq (bigSep_sep' Finset.univ (fun c : Dev nD => bigSep Finset.univ fun k : Kd => (atPos ER (kcell (c, k)) 0 ∅ 0 : sProp 𝕄)) (fun c => bigSep Finset.univ fun k : Kd => pt c k)).symm)
    isplitl [Hat]; · iexact Hat
    iexact Htok

theorem glob : (bigSep Finset.univ fun c => iprop(ownS (F := F) c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

end Cert.KernelIdealRun
-- ==== Proof.KernelIdealRun.Due.lean ====
/-
The credits the launch deals: device `c` is owed its barrier's two units, and on each chain the copies that come to it and
the returns of the slots it has sent from.
-/
module

public import proofs.«01_k».proof.Proof.KernelIdealRun.Body

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

/-- What device `c` is owed on one chain, and on all. -/
def dueN (c : Dev nD) (d h : Fin 2) : CellTallies nD τ sig ℕ :=
  (∑ q ∈ Finset.Ico 1 (last d + 1), tallyAt (cell c (some (.rcv d (sl q) h))) q NW)
    + ∑ q ∈ Finset.Ico 1 (last d), tallyAt (cell c (some (.fr d (fi q) h))) q 1
def due (c : Dev nD) : CellTallies nD τ sig ℕ :=
  ((dueN c 0 0 + dueN c 0 1) + (dueN c 1 0 + dueN c 1 1)) + tallyAt (cell c none) 0 1 + tallyAt (cell c none) 0 1

theorem sum_oc (d h : Fin 2) : ∑ c, oc c d h 0 = ∑ c, dueN c d h := by
  unfold oc dueN
  rw [Finset.sum_add_distrib, Finset.sum_add_distrib]
  congr 1
  · exact Equiv.sum_comp (ringE d) fun c => ∑ q ∈ Finset.Ico 1 (last d + 1), (tallyAt (cell c (some (.rcv d (sl q) h))) q NW : CellTallies nD τ sig ℕ)
  · exact Equiv.sum_comp (ringE d).symm fun c => ∑ q ∈ Finset.Ico 1 (last d), (tallyAt (cell c (some (.fr d (fi q) h))) q 1 : CellTallies nD τ sig ℕ)

theorem sum_bar (d : Fin 2) : ∑ c, (tallyAt (cell (up d c) none) 0 1 : CellTallies nD τ sig ℕ) = ∑ c, tallyAt (cell c none) 0 1 :=
  Equiv.sum_comp (ringE d).symm fun c => (tallyAt (cell c none) 0 1 : CellTallies nD τ sig ℕ)

theorem sum_owed : ∑ c, O₀ c = ∑ c, due c := by
  unfold O₀ O₁ Ow due
  simp only [show nextP 0 0 = 0 from rfl, show nextP 1 0 = 0 from rfl, Finset.sum_add_distrib, sum_oc, sum_bar]

theorem due_ne {c c' : Dev nD} (h : c ≠ c') (sm : SemLoc sig) : due c ((c' : Thread nD τ), sm) = 0 := by
  have hz (k : Kd) (q n : ℕ) : (tallyAt (cell c k) q n : CellTallies nD τ sig ℕ) ((c' : Thread nD τ), sm) = 0 :=
    tallyAt_ne_cell (fun he => h (congrArg (fun g : GSem nD τ sig => g.1.1) he).symm) q n
  unfold due dueN
  simp only [Pi.add_apply, Finset.sum_apply, hz, Finset.sum_const_zero, add_zero]

theorem due_nontc (c : Dev nD) {t : Thread nD τ} (h : t ≠ (c : Thread nD τ)) (sm : SemLoc sig) : due c (t, sm) = 0 := by
  have hz (k : Kd) (q n : ℕ) : (tallyAt (cell c k) q n : CellTallies nD τ sig ℕ) (t, sm) = 0 :=
    tallyAt_ne_cell (fun he => h (congrArg (fun g : GSem nD τ sig => g.1) he)) q n
  unfold due dueN
  simp only [Pi.add_apply, Finset.sum_apply, hz, Finset.sum_const_zero, add_zero]

theorem owed_at (c : Dev nD) (sm : SemLoc sig) :
    launchCredit (Pipeline.owing O₀) 0 ((c : Thread nD τ), sm) = due c ((c : Thread nD τ), sm) := by
  refine Finsupp.ext fun u => ?_
  rw [Pipeline.launchCredit_owing]
  have h := congrArg (fun T : CellTallies nD τ sig ℕ => T ((c : Thread nD τ), sm) u) sum_owed
  simp only [Finset.sum_apply, Finsupp.coe_finset_sum] at h
  rw [h]
  exact Finset.sum_eq_single c (fun c' _ hne => by rw [due_ne hne]; rfl) (fun hn => absurd (Finset.mem_univ _) hn)

theorem cred_due (c : Dev nD) : (Pipeline.launchCred O₀ c : sProp 𝕄) ⊢ cred (due c) := by
  unfold Pipeline.launchCred
  rw [cred_cells (due c), bigSep_univ_prod, bigSep_erase (Finset.mem_univ (c : Thread nD τ))]
  have h0 : (bigSep (Finset.univ.erase (c : Thread nD τ)) fun t => bigSep Finset.univ fun sm : SemLoc sig => (cred (tallyOn (t, sm) (due c (t, sm))) : sProp 𝕄)) = iprop(emp) := by
    refine (bigSep_congr (Ψ := fun _ => iprop(emp)) fun t ht => ?_).trans (bigSep_emp_const _)
    refine (bigSep_congr (Ψ := fun _ => iprop(emp)) fun sm _ => ?_).trans (bigSep_emp_const _)
    rw [due_nontc c (Finset.ne_of_mem_erase ht), tallyOn_zero, cred_zero]
  rw [h0]
  refine BIBase.Entails.trans (Entails.of_eq ?_) (equiv_iff.mpr (equiv_iff.mp sep_emp).symm).1
  exact bigSep_congr fun sm _ => by rw [owed_at]

theorem cred_finsum (s : Finset ℕ) (T : ℕ → CellTallies nD τ sig ℕ) : (cred (∑ i ∈ s, T i) : sProp 𝕄) = bigSep s fun i => cred (T i) := by
  induction s using Finset.induction_on with
  | empty => rw [Finset.sum_empty, cred_zero, BI.bigSep_empty]; rfl
  | insert c S hc ih => rw [Finset.sum_insert hc, BI.bigSep_insert hc, BI.Entails.antisymm (cred_add _ _).1 (cred_add _ _).2, ih]; rfl

/-- The credits of one chain. -/
def Crn (c : Dev nD) (d h : Fin 2) : sProp 𝕄 :=
  iprop((bigSep (Finset.Ico 1 (last d + 1)) (Rcr (F := F) c d h)) ∗ bigSep (Finset.Ico 1 (last d)) fun q => cred (tallyAt (cell c (some (.fr d (fi q) h))) q 1))

theorem crn_intro (c : Dev nD) (d h : Fin 2) : (cred (dueN c d h) : sProp 𝕄) ⊢ Crn c d h := by
  unfold dueN Crn Rcr
  refine BIBase.Entails.trans (cred_add _ _).1 ?_
  rw [cred_finsum, cred_finsum]

theorem due_split (c : Dev nD) : (Pipeline.launchCred O₀ c : sProp 𝕄)
    ⊢ iprop(((Crn c 0 0 ∗ Crn c 0 1) ∗ Crn c 1 0 ∗ Crn c 1 1) ∗ cred (tallyAt (cell c none) 0 2)) := by
  refine BIBase.Entails.trans (cred_due c) ?_
  unfold due
  rw [add_assoc, tallyAt_add, show (1 + 1 : ℕ) = 2 from rfl]
  refine BIBase.Entails.trans (cred_add _ _).1 ?_
  have h2 : (cred ((dueN c 0 0 + dueN c 0 1) + (dueN c 1 0 + dueN c 1 1)) : sProp 𝕄) ⊢ iprop((Crn c 0 0 ∗ Crn c 0 1) ∗ Crn c 1 0 ∗ Crn c 1 1) :=
    BIBase.Entails.trans (cred_add _ _).1 (Idealize.SL.BI.sep_mono
      (BIBase.Entails.trans (cred_add _ _).1 (Idealize.SL.BI.sep_mono (crn_intro c 0 0) (crn_intro c 0 1)))
      (BIBase.Entails.trans (cred_add _ _).1 (Idealize.SL.BI.sep_mono (crn_intro c 1 0) (crn_intro c 1 1))))
  iintro ⟨HA, HB⟩
  ihave HA := h2 $$ HA
  isplitl [HA]; · iexact HA
  iexact HB

end Cert.KernelIdealRun
-- ==== Proof.KernelIdealRun.Deal.lean ====
/-
What the launch has dealt a device, brought into the shape its kernel starts from.
-/
module

public import proofs.«01_k».proof.Proof.KernelIdealRun.Fund
public import proofs.«01_k».proof.Proof.KernelIdealRun.Due

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (c : Dev nD)

theorem range4 (Φ : ℕ → sProp (MT nD τ sig ℕ (Elt F) ℕ UU ℕ)) : bigSep (Finset.range 4) Φ = iprop(Φ 0 ∗ Φ 1 ∗ Φ 2 ∗ Φ 3) :=
  bigSep_eq_bigSepL_of_eq [0, 1, 2, 3] (by decide) (by decide) Φ

/-- A cell whose rounds `0` and `1` have one duty each; one with one duty, in round `0`. -/
theorem pt_two (k : Kd) (h0 : dut k 0 = {0}) (h1 : dut k 1 = {0}) :
    (pt c k : sProp 𝕄) ⊢ iprop(dutyTok ER (cell (payE k 0 c) k) 0 0 ∗ dutyTok ER (cell (payE k 0 c) k) 1 0) := by
  unfold pt; rw [range4, h0, h1, bigSep_singleton, bigSep_singleton]
  iintro ⟨H0, H1, -⟩
  isplitl [H0]; · iexact H0
  iexact H1
theorem pt_one (k : Kd) (h0 : dut k 0 = {0}) : (pt c k : sProp 𝕄) ⊢ dutyTok ER (cell (payE k 0 c) k) 0 0 := by
  unfold pt; rw [range4, h0, bigSep_singleton]
  iintro ⟨H0, -⟩
  iexact H0
theorem pt_bar : (pt c none : sProp 𝕄) ⊢ iprop(dutyTok ER (cell (up 0 c) none) 0 0 ∗ dutyTok ER (cell (up 1 c) none) 0 1) := by
  have he : bigSep (dut none 0) (fun x => (dutyTok ER (cell (payE none x c) none) 0 x : sProp 𝕄))
      = iprop(dutyTok ER (cell (up 0 c) none) 0 0 ∗ dutyTok ER (cell (up 1 c) none) 0 1) :=
    bigSep_eq_bigSepL_of_eq [0, 1] (by decide) (by decide) _
  unfold pt; rw [range4, he]
  iintro ⟨H0, -⟩
  iexact H0

theorem pt_kc (s : Fin 2) : (pt c (some (.kc s)) : sProp 𝕄) ⊢ bigSep Finset.univ fun hh => kToks c s hh 0 := by
  refine Entails.of_eq ?_
  unfold pt kToks
  rw [bigSep_swap, ← Finset.range_eq_Ico]
  refine bigSep_congr fun r hr => ?_
  rw [show dut (some (.kc s)) r = Finset.univ from if_pos (Finset.mem_range.1 hr)]
  rfl
theorem pt_vc (s : Fin 2) : (pt c (some (.vc s)) : sProp 𝕄) ⊢ bigSep Finset.univ fun hh => vToks c s hh 0 := by
  refine Entails.of_eq ?_
  unfold pt vToks
  rw [bigSep_swap, ← Finset.range_eq_Ico]
  refine bigSep_congr fun r hr => ?_
  rw [show dut (some (.vc s)) r = Finset.univ from if_pos (Finset.mem_range.1 hr)]
  rfl

/-- A device's place at a cell, and the tokens it pays at the cells of that kind. -/
def ap (k : Kd) : sProp 𝕄 := atPos ER (cell c k) 0 ∅ 0

theorem ico3 (Φ : ℕ → sProp (MT nD τ sig ℕ (Elt F) ℕ UU ℕ)) : bigSep (Finset.Ico 1 4) Φ = iprop(Φ 1 ∗ Φ 2 ∗ Φ 3) :=
  bigSep_eq_bigSepL_of_eq [1, 2, 3] (by decide) (by decide) Φ
theorem ico2 (Φ : ℕ → sProp (MT nD τ sig ℕ (Elt F) ℕ UU ℕ)) : bigSep (Finset.Ico 1 3) Φ = iprop(Φ 1 ∗ Φ 2) :=
  bigSep_eq_bigSepL_of_eq [1, 2] (by decide) (by decide) Φ

theorem deal0 (h : Fin 2) : iprop(G7 (fun k => ap (F := F) c (some k)) 0 h ∗ G7 (fun k => pt (F := F) c (some k)) 0 h ∗ Crn c 0 h) ⊢ Sg (F := F) c 0 h := by
  unfold G7 Crn Sg Pos Tail
  have t1 := pt_two (F := F) c (some (.snd 0 0 h)) rfl rfl
  have t2 := pt_two (F := F) c (some (.snd 0 1 h)) rfl rfl
  have t3 := pt_two (F := F) c (some (.rcv 0 0 h)) rfl rfl
  have t4 := pt_two (F := F) c (some (.rcv 0 1 h)) rfl rfl
  have t5 := pt_one (F := F) c (some (.fr 0 0 h)) rfl
  have t6 := pt_one (F := F) c (some (.fr 0 1 h)) rfl
  have t7 := pt_one (F := F) c (some (.fr 0 2 h)) rfl
  rw [show last 0 = 4 from rfl, show min 1 4 = 1 from rfl, ico3, ico3, show Finset.Ico 1 1 = (∅ : Finset ℕ) from rfl, bigSep_empty]
  unfold Fwd ap
  iintro ⟨⟨A1, A2, A3, A4, A5, A6, A7⟩, ⟨T1, T2, T3, T4, T5, T6, T7⟩, HR, C1, C2, C3⟩
  ihave T1 := t1 $$ T1
  ihave T2 := t2 $$ T2
  ihave T3 := t3 $$ T3
  ihave T4 := t4 $$ T4
  ihave T5 := t5 $$ T5
  ihave T6 := t6 $$ T6
  ihave T7 := t7 $$ T7
  icases T1 with ⟨S2, S4⟩
  icases T2 with ⟨S1, S3⟩
  icases T3 with ⟨R2, R4⟩
  icases T4 with ⟨R1, R3⟩
  isplitl [A1 A2 A3 A4]
  · isplitl [A2]; · iexact A2
    isplitl [A1]; · iexact A1
    isplitl [A4]; · iexact A4
    iexact A3
  isplitr [S1 R1]
  · isplitl [HR]; · iexact HR
    isplitl
    · isplitl [A5 C1 T5 S2 R2]
      · isplitl [A5]; · iexact A5
        isplitl [C1]; · iexact C1
        isplitl [T5]; · iexact T5
        isplitl [S2]; · iexact S2
        iexact R2
      isplitl [A6 C2 T6 S3 R3]
      · isplitl [A6]; · iexact A6
        isplitl [C2]; · iexact C2
        isplitl [T6]; · iexact T6
        isplitl [S3]; · iexact S3
        iexact R3
      isplitl [A7]; · iexact A7
      isplitl [C3]; · iexact C3
      isplitl [T7]; · iexact T7
      isplitl [S4]; · iexact S4
      iexact R4
    iempintro
  isplitl [S1]; · iexact S1
  iexact R1

theorem deal1 (h : Fin 2) : iprop(G7 (fun k => ap (F := F) c (some k)) 1 h ∗ G7 (fun k => pt (F := F) c (some k)) 1 h ∗ Crn c 1 h)
    ⊢ iprop(Sg (F := F) c 1 h ∗ atPos ER (cell c (some (.fr 1 2 h))) 0 ∅ 0) := by
  unfold G7 Crn Sg Pos Tail
  have t1 := pt_one (F := F) c (some (.snd 1 0 h)) rfl
  have t2 := pt_two (F := F) c (some (.snd 1 1 h)) rfl rfl
  have t3 := pt_one (F := F) c (some (.rcv 1 0 h)) rfl
  have t4 := pt_two (F := F) c (some (.rcv 1 1 h)) rfl rfl
  have t5 := pt_one (F := F) c (some (.fr 1 0 h)) rfl
  have t6 := pt_one (F := F) c (some (.fr 1 1 h)) rfl
  rw [show last 1 = 3 from rfl, show min 1 3 = 1 from rfl, ico2, ico2, show Finset.Ico 1 1 = (∅ : Finset ℕ) from rfl, bigSep_empty]
  unfold Fwd ap
  iintro ⟨⟨A1, A2, A3, A4, A5, A6, A7⟩, ⟨T1, T2, T3, T4, T5, T6, -⟩, HR, C1, C2⟩
  ihave S2 := t1 $$ T1
  ihave T2 := t2 $$ T2
  ihave R2 := t3 $$ T3
  ihave T4 := t4 $$ T4
  ihave T5 := t5 $$ T5
  ihave T6 := t6 $$ T6
  icases T2 with ⟨S1, S3⟩
  icases T4 with ⟨R1, R3⟩
  isplitr [A7]
  · isplitl [A1 A2 A3 A4]
    · isplitl [A2]; · iexact A2
      isplitl [A1]; · iexact A1
      isplitl [A4]; · iexact A4
      iexact A3
    isplitr [S1 R1]
    · isplitl [HR]; · iexact HR
      isplitl
      · isplitl [A5 C1 T5 S2 R2]
        · isplitl [A5]; · iexact A5
          isplitl [C1]; · iexact C1
          isplitl [T5]; · iexact T5
          isplitl [S2]; · iexact S2
          iexact R2
        isplitl [A6]; · iexact A6
        isplitl [C2]; · iexact C2
        isplitl [T6]; · iexact T6
        isplitl [S3]; · iexact S3
        iexact R3
      iempintro
    isplitl [S1]; · iexact S1
    iexact R1
  iexact A7

theorem deal (c : Dev nD) :
    iprop((bigSep Finset.univ fun k : Kd => (atPos ER (kcell (c, k)) 0 ∅ 0 : sProp 𝕄)) ∗ (bigSep Finset.univ fun k : Kd => pt c k) ∗ Pipeline.launchCred O₀ c)
      ⊢ Gst (F := F) c := by
  rw [bigSep_kd, bigSep_kd, ok_split, ok_split]
  unfold Gst Bst G4 KVst
  have hd := due_split (F := F) c
  have k0 := pt_kc (F := F) c 0
  have k1 := pt_kc (F := F) c 1
  have v0 := pt_vc (F := F) c 0
  have v1 := pt_vc (F := F) c 1
  have hb := pt_bar (F := F) c
  iintro ⟨⟨⟨A00, A01, A10, A11, Ak0, Av0, Ak1, Av1⟩, AB⟩, ⟨⟨T00, T01, T10, T11, Tk0, Tv0, Tk1, Tv1⟩, TB⟩, HC⟩
  ihave HC := hd $$ HC
  icases HC with ⟨⟨⟨C00, C01⟩, C10, C11⟩, CB⟩
  ihave Tk0 := k0 $$ Tk0
  ihave Tk1 := k1 $$ Tk1
  ihave Tv0 := v0 $$ Tv0
  ihave Tv1 := v1 $$ Tv1
  ihave TB := hb $$ TB
  icases TB with ⟨TB0, TB1⟩
  ihave S00 := (deal0 (F := F) c 0) $$ [A00 T00 C00]
  · isplitl [A00]; · iexact A00
    isplitl [T00]; · iexact T00
    iexact C00
  ihave S01 := (deal0 (F := F) c 1) $$ [A01 T01 C01]
  · isplitl [A01]; · iexact A01
    isplitl [T01]; · iexact T01
    iexact C01
  ihave S10 := (deal1 (F := F) c 0) $$ [A10 T10 C10]
  · isplitl [A10]; · iexact A10
    isplitl [T10]; · iexact T10
    iexact C10
  ihave S11 := (deal1 (F := F) c 1) $$ [A11 T11 C11]
  · isplitl [A11]; · iexact A11
    isplitl [T11]; · iexact T11
    iexact C11
  icases S10 with ⟨S10, P0⟩
  icases S11 with ⟨S11, P1⟩
  isplitl [AB CB TB0 TB1]
  · isplitl [AB]; · iexact AB
    isplitl [CB]; · iexact CB
    isplitl [TB0]; · iexact TB0
    iexact TB1
  isplitl [S00 S01 S10 S11]
  · isplitl [S00]; · iexact S00
    isplitl [S01]; · iexact S01
    isplitl [S10]; · iexact S10
    iexact S11
  isplitl [Ak0 Av0 Tk0 Tv0]
  · isplitl [Ak0]; · iexact Ak0
    isplitl [Av0]; · iexact Av0
    isplitl [Tk0]; · iexact Tk0
    iexact Tv0
  isplitl [Ak1 Av1 Tk1 Tv1]
  · isplitl [Ak1]; · iexact Ak1
    isplitl [Av1]; · iexact Av1
    isplitl [Tk1]; · iexact Tk1
    iexact Tv1
  isplitl [P0]; · iexact P0
  iexact P1

end Cert.KernelIdealRun
-- ==== Proof.KernelIdealRun.Run.lean ====
/-
The run of the whole program: the launch, the body at each device, the result arrays at the end.
-/
module

public import proofs.«01_k».proof.Proof.KernelIdealRun.Deal
public import Idealize.ShloMosaic.Lib.Pipeline.CollectiveSegs

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

open Idealize.ShloMosaic.Pipeline

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The operands of device `c`, as arrays. -/
def xstg (c : Dev nD) : Vec F S1x1024x1024 .f32 := (win0_0.blk (0 : Fin 1)).view.read (Elt F) (m ((c : Thread nD τ).loc main_arg0))
def qstg (c : Dev nD) : Vec F S1024x1024 .f32 := (win0_1.blk (0 : Fin 1)).view.read (Elt F) (m ((c : Thread nD τ).loc main_arg1))
def ostg (c : Dev nD) : Vec F S1024x1024 .f32 := (win0_2.blk (0 : Fin 1)).view.read (Elt F) (m ((c : Thread nD τ).loc main_arg4))

theorem wt_uni (wq wo : Vec F S1024x1024 .f32) (d s s' h : Fin 2) :
    (commV d s h).view.read (Elt F) (WT wq wo) = (commV d s' h).view.read (Elt F) (WT wq wo) := by
  funext i
  rfl

def Dm : Data F where
  W c := WT (qstg m c) (ostg m c)
  Ka c := m ((c : Thread nD τ).loc main_arg2)
  Va c := m ((c : Thread nD τ).loc main_arg3)
  uni _ d s s' h := wt_uni _ _ d s s' h

def start (c : Dev nD) : sProp 𝕄 :=
  iprop((∃ K : Dev nD × Kd → ℕ, invs (Dm m) K ∗ rch0 (F := F)) ∗ levAts L lv ∗ Gst (F := F) c ∗ KVarr (Dm m) c)
def Φ₀ (c : Dev nD) : sProp 𝕄 := iprop(start m c ∗ Scr (F := F) c)
def Φ₁ (c : Dev nD) : sProp 𝕄 := iprop(Sems0 (F := F) c ∗ KVarr (Dm m) c ∗ Scr (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => qstg m c
    | ⟨2, _⟩ => ostg m c
    | ⟨3, _⟩ => outV (Dm m) c (xstg m c)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp (MT nD τ sig ℕ (Elt F) ℕ UU ℕ)) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
set_option maxRecDepth 4000 in
def bodyPost (c : Dev nD) : sProp 𝕄 :=
  iprop(Φ₁ m c ∗ (dats m ρ 0 c).owesAt 0 t0_0.succ
    ∗ stg c cc0_stg0_0 (xstg m c) ∗ stg c cc0_stg1_0 (qstg m c) ∗ stg c cc0_stg2_0 (ostg m c) ∗ stg c cc0_stg3_0 (outV (Dm m) c (xstg m c)))

theorem before_0 (c : Dev nD) (d) : (dats m ρ 0 c).before (0 : Fin 4) t0_0 d = xstg m c := by
  unfold Dat.before; rw [if_pos (fetch_0 t0_0)]; rfl
theorem before_1 (c : Dev nD) (d) : (dats m ρ 0 c).before (1 : Fin 4) t0_0 d = qstg m c := by
  unfold Dat.before; rw [if_pos (fetch_1 t0_0)]; rfl
theorem before_2 (c : Dev nD) (d) : (dats m ρ 0 c).before (2 : Fin 4) t0_0 d = ostg m c := by
  unfold Dat.before; rw [if_pos (fetch_2 t0_0)]; rfl

set_option maxRecDepth 4000 in
set_option maxHeartbeats 4000000 in
theorem body_run (c : Dev nD) : bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (fun _ => bodyPost m ρ c) := by
  unfold bodyPre bodyPost Φ₀ start stg
  iintro ⟨⟨⟨⟨%K, #HI, #HR⟩, #HL, HG, HKV⟩, HS⟩, Ho, ⟨%d0, %g0, %h0, Hx⟩, ⟨%d1, %g1, %h1, Hq⟩, ⟨%d2, %g2, %h2, Hw⟩, ⟨%d3, %g3, %h3, Hout⟩⟩
  obtain rfl : g0 = xstg m c := h0.trans (before_0 m ρ c d0)
  obtain rfl : g1 = qstg m c := h1.trans (before_1 m ρ c d1)
  obtain rfl : g2 = ostg m c := h2.trans (before_2 m ρ c d2)
  unfold Dat.owesAt Pipeline.owesWithin
  icases Ho with ⟨%W, %hW, HO⟩
  rw [show (dats m ρ 0 c).owed t0_0.castSucc = O₀ c from rfl, show (dats m ρ 0 c).owed t0_0.succ = 0 from rfl]
  have hb := body_wp (Dm m) K c (xstg m c) (qstg m c) (ostg m c) rfl
  unfold Stg at hb
  iapply (wp_wand_r frame _ _)
  isplitl
  · iapply hb
    isplitr; · iexact HI
    isplitr; · iexact HR
    isplitr; · iexact HL
    isplitl [HG]; · iexact HG
    isplitl [HKV]; · iexact HKV
    isplitl [HS]; · iexact HS
    isplitl [HO]; · iexists W; iexact HO
    isplitl [Hx Hq Hw]
    · isplitl [Hx]; · iexact Hx
      isplitl [Hq]; · iexact Hq
      iexact Hw
    iexists g3; iexact Hout
  iintro %_ ⟨HZ, HKV, HS, ⟨%W', HO⟩, ⟨Hx, Hq, Hw⟩, Hout⟩
  isplitl [HZ HKV HS]
  · unfold Φ₁
    isplitl [HZ]; · iexact HZ
    isplitl [HKV]; · iexact HKV
    iexact HS
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

set_option maxRecDepth 4000 in
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact body_run m ρ c

/-! ## In and out -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Dm m) c)
      ⊢ |={Set.univ}=> iprop(start m c ∗ emp) := by
  have hr : (Pipeline.unscopedRestP (Ix := ℕ) (Name := ℕ) (U := UU) (Lvl := ℕ) Pipeline.Prefetch.none cfg0.spec c (fun b => m ((c : Thread nD τ).loc b)) : sProp 𝕄) ⊢ KVarr (Dm m) c := by
    rw [show (Pipeline.unscopedRestP (Ix := ℕ) (Name := ℕ) (U := UU) (Lvl := ℕ) Pipeline.Prefetch.none cfg0.spec c (fun b => m ((c : Thread nD τ).loc b)) : sProp 𝕄)
      = Pipeline.unscopedRest cfg0.spec c (fun b => m ((c : Thread nD τ).loc b)) from rfl, unscopedRest0_eq]
    exact Entails.of_eq rfl
  have hd := deal (F := F) c
  unfold G'
  iintro ⟨Hr, Hlev, Hcr, -, ⟨%K, ⟨HI, HR⟩, HA, HP⟩⟩
  ihave HG := hd $$ [HA HP Hcr]
  · isplitl [HA]; · iexact HA
    isplitl [HP]; · iexact HP
    iexact Hcr
  ihave HKV := hr $$ Hr
  imodintro
  unfold start
  isplitl
  · isplitl [HI HR]
    · iexists K
      isplitl [HI]; · iexact HI
      iexact HR
    isplitl [Hlev]; · iexact Hlev
    isplitl [HG]; · iexact HG
    iexact HKV
  iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N) ⊢ iprop((unscopedSems0 c ∗ KVarr (Dm m) c) ∗ ownS (F := F) c ∗ Pipeline.scopedRest cfg0.spec c) := by
  rw [show (dats m ρ 0 c).Φ (Fin.last cfg0.N) = Φ₁ m c from rfl, scopedRest0_eq, unscopedSems0_eq, ownS_eq]
  unfold Φ₁ Sems0 Scr
  iintro ⟨⟨Hk, Hn⟩, HKV, HS⟩
  isplitl [Hn HKV]
  · isplitl [Hn]; · iexact Hn
    iexact HKV
  isplitl [Hk]; · iexact Hk
  iexact HS

theorem above_O₀ (c : Dev nD) : Above (O₀ c) 0 := by
  unfold O₀ O₁
  refine Above.add (Above.add (fun g u h => ⟨(above_ow_bar c g u h).1, lt_trans Nat.zero_lt_one (above_ow_bar c g u h).2⟩) (above_tally (by decide) ?_)) (above_tally (by decide) ?_) <;> exact Nat.zero_lt_one

theorem lv_stage (c : Dev nD) (q : DmaSem sig) (hq : ∀ k : Kd, csem k ≠ SemLoc.dma q) : lv ((c : Thread nD τ), SemLoc.dma q) 0 = 0 := by
  unfold lv
  have : kdOf (SemLoc.dma q) = none := by
    unfold kdOf; rw [dif_neg (fun ⟨k, h⟩ => hq k h)]
  simp only [this]

theorem mayWait_stage (c : Dev nD) (q : DmaSem sig) (hq : ∀ k : Kd, csem k ≠ SemLoc.dma q) (O : CellTallies nD τ sig ℕ) (hO : O = O₀ c ∨ O = 0) :
    (levAts L lv : sProp 𝕄) ⊢ MayWait (c : Thread nD τ) (.dma q) 0 O := by
  rcases hO with rfl | rfl
  · exact Pipeline.mayWait_of_levAts (by rw [L_tc]; decide) fun g i hg => ⟨(above_O₀ c g i hg).1, by rw [lv_stage c q hq]; exact (above_O₀ c g i hg).2⟩
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What a final state holds: the windows' arrays at the computed contents, keys and values as they were. -/
def QC : PUnit × MemSt nD τ sig (Elt F) → Prop := fun r =>
  (∀ c : Dev nD, ∀ w : Fin cfg0.W, r.2.mem ((cfg0.win w).arr.view.loc (c : Thread nD τ)) = finalA m ρ c w)
    ∧ ∀ c : Dev nD, r.2.mem ((c : Thread nD τ).loc main_arg2) = m ((c : Thread nD τ).loc main_arg2)
      ∧ r.2.mem ((c : Thread nD τ).loc main_arg3) = m ((c : Thread nD τ).loc main_arg3)

theorem kv_read (c : Dev nD) (s' : Phys nD τ sig (Elt F)) :
    iprop(KVarr (Dm m) c ∗ Idealize.ShloMosaic.SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ Idealize.ShloMosaic.SI s') : sProp 𝕄) := by
  have hk := pointsTo_read_all (Ix := ℕ) (Name := ℕ) (U := UU) (Lvl := ℕ) ({main_arg2, main_arg3} : Finset (Ref sig .tc)) (fun b => (c : Thread nD τ).loc b) (fun b => m ((c : Thread nD τ).loc b)) s'
  have he : (bigSep ({main_arg2, main_arg3} : Finset (Ref sig .tc)) fun b => (((c : Thread nD τ).loc b) ↦{fullShare} m ((c : Thread nD τ).loc b) : sProp 𝕄)) = KVarr (Dm m) c :=
    bigSep_eq_bigSepL_of_eq [main_arg2, main_arg3] (by decide) (by decide) _
  rw [he] at hk
  refine BIBase.Entails.trans hk ?_
  iintro ⟨%h, HS⟩
  isplitr
  · ipureintro
    exact ⟨h main_arg2 (by decide), h main_arg3 (by decide)⟩
  iexact HS

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Dm m)) (G' := G' (Dm m)) (u₀ := u₀)
    (hu₀ := by
      unfold u₀
      iintro Hu
      ihave H := (ownU_pair _ _) $$ Hu
      icases H with ⟨HP, HX⟩
      imod (fund_ring (Dm m)) $$ HX with HG
      imodintro
      isplitl [HP] <;> iassumption)
    (hglob := glob (Dm m))
    (hA := fun _ _ => rfl) (hpf := fun _ k => k.elim0)
    (X := start m) (Y := fun c => iprop(unscopedSems0 c ∗ KVarr (Dm m) c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ (s.mem ((c : Thread nD τ).loc main_arg2) = m ((c : Thread nD τ).loc main_arg2)
        ∧ s.mem ((c : Thread nD τ).loc main_arg3) = m ((c : Thread nD τ).loc main_arg3)))
    (hY := fun c s' => by
      have hk := kv_read m c s'
      iintro ⟨⟨Hu, HKV⟩, -, HSI⟩
      ihave HSI := hk $$ [HKV HSI]
      · isplitl [HKV] <;> iassumption
      icases HSI with ⟨%hkv, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hkv⟩
      iexact HSI)
    (hQ := fun _ h hs => ⟨⟨fun c w => (h c).1 w, fun c => (h c).2.2.2⟩, sem_eq_zero hs fun c => (h c).2.2.1⟩)

end Cert.KernelIdealRun
-- ==== Proof.KernelIdealRun.Frame.lean ====
/-
The run with the contents dropped: every device's arguments end as they were, every semaphore at zero.
-/
module

public import proofs.«01_k».proof.Proof.KernelIdealRun.Run

@[expose] public section

noncomputable section

namespace Cert.KernelIdealRun

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- An input window's array ends as it was. -/
theorem final_arg0 (c : Dev nD) : finalA m ρ c (0 : Fin 4) = m ((c.tc : Thread nD τ).loc main_arg0) :=
  (dats m ρ 0 c).arrAt_in (0 : Fin 4) rfl _
theorem final_arg1 (c : Dev nD) : finalA m ρ c (1 : Fin 4) = m ((c.tc : Thread nD τ).loc main_arg1) :=
  (dats m ρ 0 c).arrAt_in (1 : Fin 4) rfl _
theorem final_arg4 (c : Dev nD) : finalA m ρ c (2 : Fin 4) = m ((c.tc : Thread nD τ).loc main_arg4) :=
  (dats m ρ 0 c).arrAt_in (2 : Fin 4) rfl _

/-- The five arguments of every device are as they were. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept_of_QC {r : PUnit × MemSt nD τ sig (Elt F)} (h : QC m ρ r) : Kept m r := fun c =>
  ⟨(h.1 c (0 : Fin 4)).trans (final_arg0 m ρ c), (h.1 c (1 : Fin 4)).trans (final_arg1 m ρ c), (h.2 c).1, (h.2 c).2,
    (h.1 c (2 : Fin 4)).trans (final_arg4 m ρ c)⟩

theorem run_frame : θ_run defs (onTc (τ := τ) (main (F := F))) ⟨m, fun _ => 0, ρ⟩ (fun r => Kept m r ∧ r.2.sem = fun _ => 0) :=
  (θ_run defs _ _).mono (fun _ h => ⟨kept_of_QC m ρ h.1, h.2⟩) (run_main m ρ)

end Cert.KernelIdealRun
-- ==== Proof.KernelRun.Frame.lean ====
/-
The frame of the printed kernel: the frame of the idealized program, read at the bits.
-/
module

public import proofs.«01_k».proof.Proof.KernelRun.Same
public import proofs.«01_k».proof.Proof.KernelIdealRun.Frame

@[expose] public section

noncomputable section

namespace Cert.KernelRun

open Cert.Kernel Cert.Kernel.Gen
open Idealize.ShloMosaic Idealize.ShloMosaic.TcCoe Idealize.SL.Sem

variable {F : FTy → Type} [FloatOps F]

/-- A run under one table of bodies is a run under an equal one. -/
theorem run_of_eq {Λ : Labels} {d d' : Defs nD τ sig (Elt F) Λ} (h : d = d') {p} {s : MemSt nD τ sig (Elt F)}
    {Q : PUnit × MemSt nD τ sig (Elt F) → Prop} (hr : θ_run d (onTc (τ := τ) p) s Q) : θ_run d' (onTc (τ := τ) p) s Q := h ▸ hr

attribute [local instance] plainNamed

theorem run_frame (m : (ℓ : Loc nD τ sig) → Buf (Elt F) ℓ) (ρ : Dev nD → PrngReg) :
    θ_run defs (onTc (τ := τ) (main (F := F))) ⟨m, fun _ => 0, ρ⟩
      (fun r => Cert.KernelIdealRun.Kept (F := F) m r ∧ r.2.sem = fun _ => 0) :=
  run_of_eq defs_eq (Cert.KernelIdealRun.run_frame (F := F) m ρ)

end Cert.KernelRun
-- ==== Proof.Value.Bits.lean ====
/- Words that name a block of 64 positions, and the bit that says one block does not come after another. -/
module

public import Idealize.ShloMosaic.PureOps

@[expose] public section

set_option maxRecDepth 65536

noncomputable section

namespace Cert.Value

open Idealize.ShloMosaic

/-- A choice by a decided bit. -/
theorem select_dec {α : Type} (p : Prop) [Decidable p] (a b : α) : Scalar.select (BitVec.ofBool (decide p)) a b = if p then a else b := by
  by_cases h : p <;> simp [Scalar.select, h]

theorem sle_blocks : ∀ a b : Fin 16, IntOp.cmpi CmpIPredicate.sle (BitVec.ofNat 32 a) (BitVec.ofNat 32 b) = BitVec.ofBool (decide ((a : ℕ) ≤ b)) := by
  decide +kernel

/-- The quotient by 64 rounded towards minus infinity, as the reference takes it. -/
theorem fdiv_host : ∀ i : Fin 1024,
    Scalar.select
      (IntOp.andi
        (IntOp.cmpi CmpIPredicate.ne
          (if BitVec.ofNat 32 i = 0 then (0 : BitVec 32) else if (BitVec.ofNat 32 i).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 i) 64#32) 0#32))
      (IntOp.subi (IntOp.divsi ArithUnit.host (BitVec.ofNat 32 i) 64#32) 1#32)
      (IntOp.divsi ArithUnit.host (BitVec.ofNat 32 i) 64#32) = BitVec.ofNat 32 (i / 64) := by
  decide +kernel

/-- The same quotient, as the kernel takes it. -/
theorem fdiv_vec : ∀ i : Fin 512,
    Scalar.select
      (IntOp.andi
        (IntOp.cmpi CmpIPredicate.ne
          (IntOp.subi (BitVec.setWidth 32 (IntOp.cmpi CmpIPredicate.sgt (BitVec.ofNat 32 i) 0#32))
            (BitVec.setWidth 32 (IntOp.cmpi CmpIPredicate.slt (BitVec.ofNat 32 i) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i) 64#32) 0#32))
      (IntOp.subi (IntOp.divsi ArithUnit.vector (BitVec.ofNat 32 i) 64#32) 1#32)
      (IntOp.divsi ArithUnit.vector (BitVec.ofNat 32 i) 64#32) = BitVec.ofNat 32 (i / 64) := by
  decide +kernel

theorem sle_div {n m : ℕ} (hn : n < 1024) (hm : m < 1024) :
    IntOp.cmpi CmpIPredicate.sle (BitVec.ofNat 32 (n / 64)) (BitVec.ofNat 32 (m / 64)) = BitVec.ofBool (decide (n / 64 ≤ m / 64)) :=
  sle_blocks ⟨n / 64, by omega⟩ ⟨m / 64, by omega⟩

end Cert.Value

end
-- ==== Proof.Value.Soft.lean ====
/- Sums over the extended reals: the softmax of a row with hidden entries, shifted by its greatest entry or not. -/
module

public import Idealize.ShloMosaic.PureOps.Ideal
public import Idealize.ShloMosaic.PureOps.Ideal.Laws
public import Mathlib.Data.Finset.Fold

@[expose] public section

noncomputable section

namespace Cert.Value

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum, whatever the terms are. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- An entry of a row of scores: the score where it is seen, the least value where it is hidden. -/
def hid (p : Prop) [Decidable p] (s : EReal) : EReal := if p then s else ⊥

section Row
variable {n : ℕ} (P : Fin n → Prop) [DecidablePred P] (s : Fin n → ℝ)

/-- The weight of an entry after the shift by `μ`, as a real. -/
def wr (μ : ℝ) (j : Fin n) : ℝ := if P j then Real.exp (s j - μ) else 0

theorem exp_hid (μ : ℝ) (j : Fin n) : Ideal.exp (hid (P j) (s j : EReal) - (μ : EReal)) = (wr P s μ j : EReal) := by
  unfold hid wr
  split
  · rw [← EReal.coe_sub, Ideal.exp_coe]
  · rw [EReal.bot_sub, Ideal.exp_bot, EReal.coe_zero]

theorem exp_hid_zero (j : Fin n) : Ideal.exp (hid (P j) (s j : EReal)) = (wr P s 0 j : EReal) := by
  rw [← exp_hid, EReal.coe_zero, sub_zero]

theorem wr_nonneg (μ : ℝ) (j : Fin n) : 0 ≤ wr P s μ j := by
  unfold wr
  split
  · exact (Real.exp_pos _).le
  · exact le_rfl

theorem wr_shift (μ : ℝ) (j : Fin n) : wr P s 0 j = wr P s μ j * Real.exp μ := by
  unfold wr
  split
  · rw [← Real.exp_add]; congr 1; ring
  · rw [zero_mul]

theorem wr_sum_pos (μ : ℝ) (j₀ : Fin n) (h : P j₀) : 0 < ∑ j, wr P s μ j := by
  refine Finset.sum_pos' (fun j _ => wr_nonneg P s μ j) ⟨j₀, Finset.mem_univ _, ?_⟩
  unfold wr
  rw [if_pos h]
  exact Real.exp_pos _

theorem wr_ratio (μ : ℝ) (j : Fin n) : wr P s μ j * (1 / ∑ i, wr P s μ i) = wr P s 0 j * (1 / ∑ i, wr P s 0 i) := by
  have h : ∑ i, wr P s 0 i = (∑ i, wr P s μ i) * Real.exp μ := by
    rw [Finset.sum_mul]; exact Finset.sum_congr rfl fun i _ => wr_shift P s μ i
  have he : Real.exp μ ≠ 0 := (Real.exp_pos μ).ne'
  rw [h, wr_shift P s μ j, one_div, one_div, mul_inv]
  field_simp

/-- The greatest entry of a row with a seen entry is a real. -/
theorem max_real (j₀ : Fin n) (h : P j₀) :
    ∃ μ : ℝ, Finset.univ.fold max (⊥ : EReal) (fun j => hid (P j) (s j : EReal)) = (μ : EReal) := by
  have hlt : Finset.univ.fold max (⊥ : EReal) (fun j => hid (P j) (s j : EReal)) < ⊤ := by
    refine (Finset.fold_max_lt _).2 ⟨bot_lt_top, fun j _ => ?_⟩
    unfold hid
    split
    · exact EReal.coe_lt_top _
    · exact bot_lt_top
  have hgt : ⊥ < Finset.univ.fold max (⊥ : EReal) (fun j => hid (P j) (s j : EReal)) := by
    refine (Finset.lt_fold_max _).2 (Or.inr ⟨j₀, Finset.mem_univ _, ?_⟩)
    unfold hid
    rw [if_pos h]
    exact EReal.bot_lt_coe _
  exact ⟨_, (EReal.coe_toReal hlt.ne hgt.ne').symm⟩

/-- Weights normalised after the shift by the greatest entry, against the reciprocal taken once at the end. -/
theorem softmax (j₀ : Fin n) (h : P j₀) (v : Fin n → EReal) :
    ∑ j, v j * Ideal.div (Ideal.exp (hid (P j) (s j : EReal) - Finset.univ.fold max (⊥ : EReal) (fun j => hid (P j) (s j : EReal))))
        (∑ i, Ideal.exp (hid (P i) (s i : EReal) - Finset.univ.fold max (⊥ : EReal) (fun j => hid (P j) (s j : EReal))))
      = (∑ j, Ideal.exp (hid (P j) (s j : EReal)) * v j) * Ideal.div 1 (∑ j, Ideal.exp (hid (P j) (s j : EReal))) := by
  obtain ⟨μ, hμ⟩ := max_real P s j₀ h
  rw [hμ]
  simp only [exp_hid, exp_hid_zero]
  rw [← coe_sum, ← coe_sum, Ideal.div_coe (wr_sum_pos P s 0 j₀ h).ne', one_mul,
    sum_mul_coe _ _ (one_div_pos.mpr (wr_sum_pos P s 0 j₀ h)).le]
  refine Finset.sum_congr rfl fun j _ => ?_
  rw [Ideal.div_coe (wr_sum_pos P s μ j₀ h).ne', ← EReal.coe_mul, wr_ratio, EReal.coe_mul, mul_comm (v j), mul_assoc, mul_assoc,
    mul_comm (v j)]

end Row

/-- A score of finite queries and keys is a real, the scale being taken on the queries or on the product. -/
theorem score {n : ℕ} (q k : Fin n → ℝ) (c : ℝ) :
    (∑ e, (q e : EReal) * (k e : EReal)) * (c : EReal) = ((∑ e, q e * k e) * c : ℝ)
    ∧ ∑ e, ((q e : EReal) * (c : EReal)) * (k e : EReal) = ((∑ e, q e * k e) * c : ℝ) := by
  constructor
  · rw [EReal.coe_mul, coe_sum]; simp only [EReal.coe_mul]
  · rw [Finset.sum_mul, coe_sum]
    refine Finset.sum_congr rfl fun e _ => ?_
    rw [← EReal.coe_mul, ← EReal.coe_mul]; congr 1; ring

/-- A sum of products of finite numbers is finite. -/
theorem dot_real {n : ℕ} (x w : Fin n → EReal) (hx : ∀ e, ∃ r : ℝ, x e = r) (hw : ∀ e, ∃ r : ℝ, w e = r) :
    ∃ r : ℝ, ∑ e, x e * w e = r := by
  choose a ha using hx
  choose b hb using hw
  refine ⟨∑ e, a e * b e, ?_⟩
  rw [coe_sum]
  exact Finset.sum_congr rfl fun e _ => by rw [ha, hb, EReal.coe_mul]

end Cert.Value

end
-- ==== Proof.Value.Piece.lean ====
/- A head's two pieces read at an index, over the extended reals. -/
module

public import proofs.«01_k».proof.Proof.KernelIdealRun.Heads
public import proofs.«01_k».proof.Proof.Value.Bits
public import proofs.«01_k».proof.Proof.Value.Soft
public import Idealize.ShloMosaic.Lib.Pointwise

@[expose] public section

set_option maxRecDepth 16384

noncomputable section

namespace Cert.Value

open Cert.KernelIdeal Cert.KernelIdeal.Gen Cert.KernelIdealRun
open Idealize.ShloMosaic Idealize.ShloMosaic.TcCoe

/-- The mask at an entry: nothing where the key's block does not come after the row's, the least value elsewhere. -/
theorem msk_apply (i j : Fin 512) : k0_pay1 (F := Ideal) k0_pay73 (iota .tc S512x512 32 [1] iota_S512x512_d1_w32) 64#32 k0_pay74 k0_pay75 (Scalar.extui (Scalar.cmpi .sgt 64#32 0#32)) (ix2 i j)
    = if (j : ℕ) / 64 ≤ (i : ℕ) / 64 then (0 : EReal) else ⊥ := by
  pointwise [k0_pay1, k0_pay73, k0_pay74, k0_pay75]
  rw [fdiv_vec, fdiv_vec, sle_div (by omega) (by omega), select_dec]
  rw [IdealRules.named_const.ideal_named_scalar _ _ _ _ rfl]

theorem hid_add (p : Prop) [Decidable p] (s : EReal) : s + (if p then (0 : EReal) else ⊥) = hid p s := by
  unfold hid
  split
  · exact add_zero s
  · exact EReal.add_bot s

/-- Rows 0–511 of a head, read at an entry. -/
theorem cx0_apply (M : FVec Ideal S512x512 .f32) (qs : FVec Ideal S1024x128 .bf16) (k v : Vec Ideal S1x1x1024x128 .f32) (i : Fin 512) (d : Fin 128) :
    cx0 M qs k v (ix2 i d)
      = (∑ j : Fin 512, Ideal.exp (∑ e : Fin 128, qs (ix2 ⟨i.val, by omega⟩ e) * k (ix4 0 0 ⟨j.val, by omega⟩ e) + M (ix2 i j)) * v (ix4 0 0 ⟨j.val, by omega⟩ d))
        * Ideal.div 1 (∑ j : Fin 512, Ideal.exp (∑ e : Fin 128, qs (ix2 ⟨i.val, by omega⟩ e) * k (ix4 0 0 ⟨j.val, by omega⟩ e) + M (ix2 i j))) := by
  unfold cx0
  pointwise [k0_pay18, k0_pay17, k0_pay14, k0_pay15]

/-- Rows 512–1023 of a head, read at an entry. -/
theorem cx1_apply (M : FVec Ideal S512x512 .f32) (qs : FVec Ideal S1024x128 .bf16) (k v : Vec Ideal S1x1x1024x128 .f32) (i : Fin 512) (d : Fin 128) :
    cx1 M qs k v (ix2 i d)
      = (∑ j : Fin 512, Ideal.exp (∑ e : Fin 128, qs (ix2 ⟨512 + i.val, by omega⟩ e) * k (ix4 0 0 ⟨j.val, by omega⟩ e)) * v (ix4 0 0 ⟨j.val, by omega⟩ d)
          + ∑ j : Fin 512, Ideal.exp (∑ e : Fin 128, qs (ix2 ⟨512 + i.val, by omega⟩ e) * k (ix4 0 0 ⟨512 + j.val, by omega⟩ e) + M (ix2 i j)) * v (ix4 0 0 ⟨512 + j.val, by omega⟩ d))
        * Ideal.div 1 (∑ j : Fin 512, Ideal.exp (∑ e : Fin 128, qs (ix2 ⟨512 + i.val, by omega⟩ e) * k (ix4 0 0 ⟨j.val, by omega⟩ e))
          + ∑ j : Fin 512, Ideal.exp (∑ e : Fin 128, qs (ix2 ⟨512 + i.val, by omega⟩ e) * k (ix4 0 0 ⟨512 + j.val, by omega⟩ e) + M (ix2 i j))) := by
  unfold cx1
  pointwise [k0_pay19, k0_pay16, k0_pay14, k0_pay15]

/-- The scaled queries of a group, read at an entry. -/
theorem pay5_apply (x : FVec Ideal S1024x1024 .bf16) (w : Vec Ideal S1x1x1x1024x1024 .bf16) (i k : Fin 1024) :
    k0_pay5 x w (ix2 i k) = (∑ e : Fin 1024, x (ix2 i e) * w (ix5 0 0 0 e k)) * Ideal.ofBits .f32 0x3DB504F3#32 := by
  pointwise [k0_pay5]

/-- A step of the running output, read at an entry. -/
theorem pay4_apply (a : Vec Ideal S1x1024x1024 .f32) (x : Vec Ideal S1024x1024 .bf16) (w : Vec Ideal S1x1x1x1024x1024 .bf16) (i k : Fin 1024) :
    k0_pay4 a x w (ix3 0 i k) = a (ix3 0 i k) + ∑ e : Fin 1024, x (ix2 i e) * w (ix5 0 0 0 e k) := by
  pointwise [k0_pay4]

theorem pay2_apply (i k : Fin 1024) : k0_pay2 (F := Ideal) (ix3 0 i k) = (0 : EReal) := by
  pointwise [k0_pay2]

theorem pay72_apply (x : Vec Ideal S1x1024x1024 .f32) (i k : Fin 1024) : k0_pay72 x (ix2 i k) = x (ix3 0 i k) := by
  pointwise [k0_pay72]

theorem pay68_apply (w : Vec Ideal S1024x1024 .f32) (i k : Fin 1024) : k0_pay68 w (ix5 0 0 0 i k) = w (ix2 i k) := by
  pointwise [k0_pay68, k0_pay66]

theorem pay69_apply (w : Vec Ideal S1024x1024 .f32) (i k : Fin 1024) : k0_pay69 w (ix5 0 0 0 i k) = w (ix2 i k) := by
  pointwise [k0_pay69, k0_pay67]

/-- A head's columns of the queries, read at an entry. -/
theorem qcol_apply (q : FVec Ideal S1024x1024 .bf16) (hh : Fin 8) (i : Fin 1024) (d : Fin 128) :
    qcol q hh (ix2 i d) = q (ix2 i ⟨128 * hh.val + d.val, by omega⟩) := by
  fin_cases hh <;> unfold qcol <;> pointwise [k0_pay13, k0_pay20, k0_pay30, k0_pay39, k0_pay45, k0_pay54, k0_pay60]

end Cert.Value

end
-- ==== Proof.Value.Ker.lean ====
/- What a device leaves in its output block, read at an entry, over the extended reals. -/
module

public import proofs.«01_k».proof.Proof.KernelIdealRun.Run
public import proofs.«01_k».proof.Proof.Value.Piece
public import Idealize.ShloMosaic.Lib.Pointwise

@[expose] public section

set_option maxRecDepth 16384

noncomputable section

namespace Cert.Value

open Cert.KernelIdeal Cert.KernelIdeal.Gen Cert.KernelIdealRun
open Idealize.ShloMosaic Idealize.ShloMosaic.TcCoe

/-- A sum over 1024 keys in two halves. -/
theorem halves (f : Fin 1024 → EReal) : ∑ k, f k = (∑ k : Fin 512, f ⟨k.val, by omega⟩) + ∑ k : Fin 512, f ⟨512 + k.val, by omega⟩ :=
  Fin.sum_univ_two_halves 512 512 rfl f

/-- A row's weighted values over its sum of weights, from its scores `s` and values `v`. -/
def row (i : Fin 1024) (s v : Fin 1024 → EReal) : EReal :=
  (∑ j : Fin 1024, Ideal.exp (hid ((j : ℕ) / 64 ≤ (i : ℕ) / 64) (s j)) * v j) * Ideal.div 1 (∑ j : Fin 1024, Ideal.exp (hid ((j : ℕ) / 64 ≤ (i : ℕ) / 64) (s j)))

theorem hid_true {p : Prop} [Decidable p] (h : p) (s : EReal) : hid p s = s := if_pos h
theorem hid_false {p : Prop} [Decidable p] (h : ¬ p) (s : EReal) : hid p s = ⊥ := if_neg h

variable (M : FVec Ideal S512x512 .f32) (hM : ∀ i j : Fin 512, M (ix2 i j) = if (j : ℕ) / 64 ≤ (i : ℕ) / 64 then (0 : EReal) else ⊥)
  (qs : FVec Ideal S1024x128 .bf16) (k v : Vec Ideal S1x1x1024x128 .f32)
include hM

theorem cx0_row (i : Fin 512) (d : Fin 128) :
    cx0 M qs k v (ix2 i d) = row ⟨i.val, by omega⟩ (fun j => ∑ e : Fin 128, qs (ix2 ⟨i.val, by omega⟩ e) * k (ix4 0 0 j e)) (fun j => v (ix4 0 0 j d)) := by
  rw [cx0_apply]
  unfold row
  have h2 : ∀ j : Fin 512, ¬ ((512 + j.val) / 64 ≤ i.val / 64) := fun j => by omega
  simp only [hM, hid_add]
  rw [halves, halves (fun j => Ideal.exp _)]
  simp only [hid_false (h2 _), Ideal.exp_bot, zero_mul, Finset.sum_const_zero, add_zero]

theorem cx1_row (i : Fin 512) (d : Fin 128) :
    cx1 M qs k v (ix2 i d) = row ⟨512 + i.val, by omega⟩ (fun j => ∑ e : Fin 128, qs (ix2 ⟨512 + i.val, by omega⟩ e) * k (ix4 0 0 j e)) (fun j => v (ix4 0 0 j d)) := by
  rw [cx1_apply]
  unfold row
  have h1 : ∀ j : Fin 512, j.val / 64 ≤ (512 + i.val) / 64 := fun j => by omega
  have h2 : ∀ j : Fin 512, ((512 + j.val) / 64 ≤ (512 + i.val) / 64) = (j.val / 64 ≤ i.val / 64) := fun j => by
    apply propext; omega
  simp only [hM, hid_add]
  rw [halves, halves (fun j => Ideal.exp _)]
  simp only [hid_true (h1 _), h2]

/-- A piece of the attention output, read at an entry of the whole. -/
theorem ctxOf_apply (q : FVec Ideal S1024x1024 .bf16) (Kf Vf : Fin 8 → Vec Ideal S1x1x1024x128 .f32) (i kk : Fin 1024) :
    ctxOf (Cert.KernelIdealRun.piece M q Kf Vf) (ix2 i kk) = row i
      (fun j => ∑ e : Fin 128, q (ix2 i ⟨128 * (kk.val / 128) + e.val, by omega⟩) * Kf ⟨kk.val / 128, by omega⟩ (ix4 0 0 j e))
      (fun j => Vf ⟨kk.val / 128, by omega⟩ (ix4 0 0 j ⟨kk.val % 128, by omega⟩)) := by
  have hk : kk.val / 128 < 8 := by omega
  show Cert.KernelIdealRun.piece M q Kf Vf (2 * (kk.val / 128) + i.val / 512) (ix2 ⟨i.val % 512, by omega⟩ ⟨kk.val % 128, by omega⟩) = _
  unfold Cert.KernelIdealRun.piece
  by_cases hi : i.val < 512
  · have e1 : (2 * (kk.val / 128) + i.val / 512) % 2 = 0 := by omega
    have e2 : (2 * (kk.val / 128) + i.val / 512) / 2 = kk.val / 128 := by omega
    have e3 : i.val % 512 = i.val := by omega
    simp only [e1, e2, e3, if_true, Nat.mod_eq_of_lt hk]
    rw [cx0_row M hM]
    have hq := fun e => qcol_apply q ⟨kk.val / 128, hk⟩ i e
    simp only at hq
    simp only [hq]
  · have e1 : ¬ (2 * (kk.val / 128) + i.val / 512) % 2 = 0 := by omega
    have e2 : (2 * (kk.val / 128) + i.val / 512) / 2 = kk.val / 128 := by omega
    have e3 : 512 + i.val % 512 = i.val := by omega
    simp only [e1, e2, if_false, Nat.mod_eq_of_lt hk]
    rw [cx1_row M hM]
    have hq := fun e => qcol_apply q ⟨kk.val / 128, hk⟩ i e
    simp only at hq
    simp only [e3, hq]

end Cert.Value

end
-- ==== Proof.Value.Out.lean ====
/- The blocks of a launch with a single point: each is the whole of its array. -/
module

public import proofs.«01_k».proof.Proof.KernelIdealRun.Run
public import Idealize.ShloMosaic.Lib.Pipeline.Value

@[expose] public section

set_option maxRecDepth 16384

noncomputable section

namespace Cert.Value

open Cert.KernelIdeal Cert.KernelIdeal.Gen Cert.KernelIdealRun
open Idealize.ShloMosaic Idealize.ShloMosaic.TcCoe

variable {F : FTy → Type} [FloatOps F] [Named F]
variable (m : (ℓ : Loc nD τ sig) → Buf (Elt F) ℓ) (ρ : Dev nD → PrngReg)

theorem win0_0_emb (i : S1x1024x1024.Idx) : (win0_0.blk (0 : Fin 1)).view.emb i = i := by
  have h0 : ∀ a : Fin 3, win0_0.kind.off (win0_0.index (0 : Fin 1) a) (win0_0.size a) = 0 := by decide
  funext a
  apply Fin.ext
  refine (Idealize.ShloMosaic.Pipeline.Window.rect_emb_val_off win0_0 (0 : Fin 1) i a).trans ?_
  rw [h0 a, zero_add]

theorem xstg_eq (c : Dev nD) : xstg m c = m ((c.tc : Thread nD τ).loc main_arg0) := by
  funext i
  show m ((c.tc : Thread nD τ).loc main_arg0) ((win0_0.blk (0 : Fin 1)).view.emb i) = _
  exact congrArg _ (win0_0_emb i)

theorem win0_1_emb (i : S1024x1024.Idx) : (win0_1.blk (0 : Fin 1)).view.emb i = i := by
  have h0 : ∀ a : Fin 2, win0_1.kind.off (win0_1.index (0 : Fin 1) a) (win0_1.size a) = 0 := by decide
  funext a
  apply Fin.ext
  refine (Idealize.ShloMosaic.Pipeline.Window.rect_emb_val_off win0_1 (0 : Fin 1) i a).trans ?_
  rw [h0 a, zero_add]

theorem qstg_eq (c : Dev nD) : qstg m c = m ((c.tc : Thread nD τ).loc main_arg1) := by
  funext i
  show m ((c.tc : Thread nD τ).loc main_arg1) ((win0_1.blk (0 : Fin 1)).view.emb i) = _
  exact congrArg _ (win0_1_emb i)

theorem win0_2_emb (i : S1024x1024.Idx) : (win0_2.blk (0 : Fin 1)).view.emb i = i := by
  have h0 : ∀ a : Fin 2, win0_2.kind.off (win0_2.index (0 : Fin 1) a) (win0_2.size a) = 0 := by decide
  funext a
  apply Fin.ext
  refine (Idealize.ShloMosaic.Pipeline.Window.rect_emb_val_off win0_2 (0 : Fin 1) i a).trans ?_
  rw [h0 a, zero_add]

theorem ostg_eq (c : Dev nD) : ostg m c = m ((c.tc : Thread nD τ).loc main_arg4) := by
  funext i
  show m ((c.tc : Thread nD τ).loc main_arg4) ((win0_2.blk (0 : Fin 1)).view.emb i) = _
  exact congrArg _ (win0_2_emb i)

theorem win0_3_emb (i : S1x1024x1024.Idx) : (win0_3.blk (0 : Fin 1)).view.emb i = i := by
  have h0 : ∀ a : Fin 3, win0_3.kind.off (win0_3.index (0 : Fin 1) a) (win0_3.size a) = 0 := by decide
  funext a
  apply Fin.ext
  refine (Idealize.ShloMosaic.Pipeline.Window.rect_emb_val_off win0_3 (0 : Fin 1) i a).trans ?_
  rw [h0 a, zero_add]

theorem final_out (c : Dev nD) : finalA m ρ c (3 : Fin 4) = outV (Dm m) c (xstg m c) := by
  funext i
  have h := (dats m ρ 0 c).arrAt_emb_eq_flushed (3 : Fin 4) (fun t t' _ _ hne => absurd (Subsingleton.elim (α := Fin 1) t t') hne) (0 : Fin 1) rfl i
  refine Eq.trans ?_ (h.trans ?_)
  · exact congrArg (finalA m ρ c (3 : Fin 4)) (win0_3_emb i).symm
  · rfl

end Cert.Value

end
-- ==== Proof.Value.Ref.lean ====
/- The reference's result read at an index, over the extended reals. -/
module

public import proofs.«01_k».proof.Proof.Gen.ReferenceIdeal.Run
public import proofs.«01_k».proof.Proof.Value.Bits
public import proofs.«01_k».proof.Proof.Value.Soft
public import Idealize.ShloMosaic.Lib.Pointwise
public import Idealize.ShloMosaic.Lib.Tactic.CleanTypes

@[expose] public section

set_option maxRecDepth 16384

noncomputable section

namespace Cert.Value

open Cert.ReferenceIdeal Cert.ReferenceIdeal.Gen Cert.ReferenceIdeal.Value
open Idealize.ShloMosaic Idealize.ShloMosaic.TcCoe

/-- The block of 64 a position lies in. -/
def rBlk : IVec S1024 32 :=
  (select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32)))))

/-- Which keys (second axis) a row sees. -/
def rSeen : IVec S1024x1024 1 :=
  cmpi .sle (broadcastInDim S1024x1024 ![0, 1] bcast_S1x1024_S1024x1024_0_1 (broadcastInDim S1x1024 ![1] bcast_S1024_S1x1024_1 rBlk))
    (broadcastInDim S1024x1024 ![0, 1] bcast_S1024x1_S1024x1024_0_1 (broadcastInDim S1024x1 ![0] bcast_S1024_S1024x1_0 rBlk))

/-- Which rows see a key at all. -/
def rKeep : IVec S1x1x1024x1 1 :=
  broadcastInDim S1x1x1024x1 ![2] bcast_S1024_S1x1x1024x1_2 (Host.reduce IntOp.ori rSeen (constantI S_ 1 0#1) reducesTo_S1024x1024_S1024_d1 h_S_)

/-- The scores, hidden ones at minus infinity. -/
def rScore (x : FVec Ideal S8x1024x1024 .f32) (Wq : FVec Ideal S1024x8192 .f32) (K : FVec Ideal S8x1024x64x128 .f32) : FVec Ideal S8x64x1024x1024 .f32 :=
  select (broadcastInDim S8x64x1024x1024 ![0, 1, 2, 3] bcast_S1x1x1024x1024_S8x64x1024x1024_0_1_2_3 (broadcastInDim S1x1x1024x1024 ![2, 3] bcast_S1024x1024_S1x1x1024x1024_2_3 rSeen))
    (mulf (Host.dotGeneral dot_S8x1024x64x128_S8x1024x64x128_S8x64x1024x1024_3_3_1_1_02_02 none
        (shapeCast _ (Host.dotGeneral dot_S8x1024x1024_S1024x8192_S8x1024x8192_2_0_01_1_n_n none x Wq) shapeCasts_S8x1024x8192_S8x1024x64x128) K)
      (broadcastInDim S8x64x1024x1024 ![] bcast_S_S8x64x1024x1024 (constant S_ .f32 0x3DB504F3#32)))
    (broadcastInDim S8x64x1024x1024 ![] bcast_S_S8x64x1024x1024 (id (constant S_ .f32 0xFF800000#32)))

/-- The exponentials of the scores less their row's greatest. -/
def rExp (s : FVec Ideal S8x64x1024x1024 .f32) : FVec Ideal S8x64x1024x1024 .f32 :=
  Host.exp (subf s (broadcastInDim S8x64x1024x1024 ![0, 1, 2, 3] bcast_S8x64x1024x1_S8x64x1024x1024_0_1_2_3
    (broadcastInDim S8x64x1024x1 ![0, 1, 2] bcast_S8x64x1024_S8x64x1024x1_0_1_2
      (Host.reduce FloatOps.maximumf s (constant S_ .f32 0xFF800000#32) reducesTo_S8x64x1024x1024_S8x64x1024_d3 h_S_))))

/-- The weights: the exponentials over their row's sum. -/
def rWt (e : FVec Ideal S8x64x1024x1024 .f32) : FVec Ideal S8x64x1024x1024 .f32 :=
  select (broadcastInDim S8x64x1024x1024 ![0, 1, 2, 3] bcast_S1x1x1024x1_S8x64x1024x1024_0_1_2_3 rKeep)
    (Host.divf e (broadcastInDim S8x64x1024x1024 ![0, 1, 2, 3] bcast_S8x64x1024x1_S8x64x1024x1024_0_1_2_3
      (select (broadcastInDim S8x64x1024x1 ![0, 1, 2, 3] bcast_S1x1x1024x1_S8x64x1024x1_0_1_2_3 rKeep)
        (broadcastInDim S8x64x1024x1 ![0, 1, 2] bcast_S8x64x1024_S8x64x1024x1_0_1_2 (Host.reduceAdd e (constant S_ .f32 0x00000000#32) reducesTo_S8x64x1024x1024_S8x64x1024_d3 h_S_))
        (broadcastInDim S8x64x1024x1 ![] bcast_S_S8x64x1024x1 (id (constant S_ .f32 0x3F800000#32))))))
    (broadcastInDim S8x64x1024x1024 ![] bcast_S_S8x64x1024x1024 (id (constant S_ .f32 0x00000000#32)))

/-- The weighted values times the output matrix. -/
def rOut (V : FVec Ideal S8x1024x64x128 .f32) (w : FVec Ideal S8x64x1024x1024 .f32) (Wo : FVec Ideal S8192x1024 .f32) : FVec Ideal S8x1024x1024 .f32 :=
  Host.dotGeneral dot_S8x1024x8192_S8192x1024_S8x1024x1024_2_0_01_1_n_n none
    (shapeCast _ (transpose S8x1024x64x128 [0, 3, 1, 2]
      (Host.dotGeneral dot_S8x1024x64x128_S8x64x1024x1024_S8x64x128x1024_1_3_3_2_02_01 none V w) transposes_S8x64x128x1024_S8x1024x64x128_0_3_1_2)
      shapeCasts_S8x1024x64x128_S8x1024x8192) Wo

theorem res_eq (m : (ℓ : Loc nD τ sig) → Buf (Elt Ideal) ℓ) (c : Dev nD) :
    res_main_v33 m c = rOut (m ((c.tc : Thread nD τ).loc main_arg3))
      (rWt (rExp (rScore (m ((c.tc : Thread nD τ).loc main_arg0)) (m ((c.tc : Thread nD τ).loc main_arg1)) (m ((c.tc : Thread nD τ).loc main_arg2)))))
      (m ((c.tc : Thread nD τ).loc main_arg4)) := rfl

theorem rBlk_apply (i : Fin 1024) : rBlk (ix1 i) = BitVec.ofNat 32 (i / 64) := by
  refine Eq.trans ?_ (fdiv_host i)
  pointwise [rBlk, id]

theorem rSeen_apply (i j : Fin 1024) : rSeen (ix2 i j) = BitVec.ofBool (decide ((j : ℕ) / 64 ≤ (i : ℕ) / 64)) := by
  pointwise [rSeen]
  rw [rBlk_apply, rBlk_apply, sle_div j.2 i.2]

theorem fold_ori_one {n : ℕ} (f : Fin n → BitVec 1) (j : Fin n) (h : f j = 1#1) : Finset.univ.fold IntOp.ori (0#1) f = 1#1 := by
  have hor : ∀ a : BitVec 1, IntOp.ori 1#1 a = 1#1 := by decide
  rw [← Finset.insert_erase (Finset.mem_univ j), Finset.fold_insert (Finset.notMem_erase _ _), h, hor]

theorem rKeep_apply (i : Fin 1024) (a b c : Fin 1) : rKeep (ix4 a b i c) = 1#1 := by
  pointwise [rKeep]
  refine fold_ori_one _ (0 : Fin 1024) ?_
  rw [rSeen_apply, decide_eq_true (by simp)]
  rfl

/-- The scale of the scores. -/
def scl : EReal := Ideal.ofBits .f32 0x3DB504F3#32

theorem ninf : Ideal.ofBits .f32 0xFF800000#32 = (⊥ : EReal) := by simp [Ideal.ofBits, Ideal.ieee]

theorem scl_real : ∃ r : ℝ, scl = r := by
  unfold scl
  simp only [Ideal.ofBits, Ideal.ieee]
  norm_num
  exact ⟨_, rfl⟩

/-- A score of the reference. -/
def rS (x : FVec Ideal S8x1024x1024 .f32) (Wq : FVec Ideal S1024x8192 .f32) (K : FVec Ideal S8x1024x64x128 .f32) (b : Fin 8) (h : Fin 64) (i j : Fin 1024) : EReal :=
  (∑ d : Fin 128, (∑ e : Fin 1024, x (ix3 b i e) * Wq (ix2 e ⟨h.val * 128 + d.val, by omega⟩)) * K (ix4 b j h d)) * scl

theorem rScore_apply (x : FVec Ideal S8x1024x1024 .f32) (Wq : FVec Ideal S1024x8192 .f32) (K : FVec Ideal S8x1024x64x128 .f32) (b : Fin 8) (h : Fin 64) (i j : Fin 1024) :
    rScore x Wq K (ix4 b h i j) = hid ((j : ℕ) / 64 ≤ (i : ℕ) / 64) (rS x Wq K b h i j) := by
  pointwise [rScore, id]
  rw [rSeen_apply, select_dec, ninf]
  rfl

theorem rExp_apply (s : FVec Ideal S8x64x1024x1024 .f32) (b : Fin 8) (h : Fin 64) (i j : Fin 1024) :
    rExp s (ix4 b h i j) = Ideal.exp (s (ix4 b h i j) - Finset.univ.fold max (⊥ : EReal) (fun k => s (ix4 b h i k))) := by
  pointwise [rExp]
  rw [ninf]

theorem rWt_apply (e : FVec Ideal S8x64x1024x1024 .f32) (b : Fin 8) (h : Fin 64) (i j : Fin 1024) :
    rWt e (ix4 b h i j) = Ideal.div (e (ix4 b h i j)) (∑ k, e (ix4 b h i k)) := by
  pointwise [rWt, id]
  rw [rKeep_apply]
  rfl

theorem rOut_apply (V : FVec Ideal S8x1024x64x128 .f32) (w : FVec Ideal S8x64x1024x1024 .f32) (Wo : FVec Ideal S8192x1024 .f32) (b : Fin 8) (i n : Fin 1024) :
    rOut V w Wo (ix3 b i n) = ∑ k : Fin 8192, (∑ j : Fin 1024, V (ix4 b j ⟨k.val / 128, by omega⟩ ⟨k.val % 128, by omega⟩) * w (ix4 b ⟨k.val / 128, by omega⟩ i j)) * Wo (ix2 k n) := by
  pointwise [rOut]

end Cert.Value

end
-- ==== Proof.Value.Whole.lean ====
/- What a device leaves in its output block: the sum over the groups of heads. -/
module

public import proofs.«01_k».proof.Proof.Value.Ker
public import proofs.«01_k».proof.Proof.Value.Out
public import proofs.«01_k».proof.Proof.Value.Ref

@[expose] public section

set_option maxRecDepth 16384

noncomputable section

namespace Cert.Value

open Cert.KernelIdeal Cert.KernelIdeal.Gen Cert.KernelIdealRun
open Idealize.ShloMosaic Idealize.ShloMosaic.TcCoe

variable (m : (ℓ : Loc nD τ sig) → Buf (Elt Ideal) ℓ) (c : Dev nD)

theorem PW_query (t : ℕ) (e k : Fin 1024) : PW (Dm m) c t 0 (ix5 0 0 0 e k) = qstg m (grp c t) (ix2 e k) := by
  refine Eq.trans ?_ (pay68_apply (qstg m (grp c t)) e k)
  show WT (qstg m (grp c t)) (ostg m (grp c t)) ((commM.access (plR (dirT t) (sl (posT t)) 0)).emb (ix5 0 0 0 e k)) = _
  unfold WT
  rw [if_pos (by rfl)]
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega
  | ⟨n + 5, h⟩ => exact absurd h (Nat.not_lt.2 (Nat.le_add_left _ _))

theorem PW_output (t : ℕ) (e k : Fin 1024) : PW (Dm m) c t 1 (ix5 0 0 0 e k) = ostg m (grp c t) (ix2 e k) := by
  refine Eq.trans ?_ (pay69_apply (ostg m (grp c t)) e k)
  show WT (qstg m (grp c t)) (ostg m (grp c t)) ((commM.access (plR (dirT t) (sl (posT t)) 1)).emb (ix5 0 0 0 e k)) = _
  unfold WT
  rw [if_neg (by show ¬ (1 + 1 * 0 = 0); omega)]
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega
  | ⟨n + 5, h⟩ => exact absurd h (Nat.not_lt.2 (Nat.le_add_left _ _))

theorem hd_emb (b g : Fin 8) (hh : Fin 8) (j : Fin 1024) (d : Fin 128) :
    hdIdx b g ((kbR 0 hh).emb (ix4 0 0 j d)) = ix4 b j ⟨8 * g.val + hh.val, by omega⟩ d := by
  funext a
  apply Fin.ext
  match a with
  | ⟨0, _⟩ => rfl
  | ⟨1, _⟩ => show 0 + 1 * j.val = j.val; omega
  | ⟨2, _⟩ => show 8 * g.val + (hh.val + 1 * 0) = 8 * g.val + hh.val; omega
  | ⟨3, _⟩ => show 0 + 1 * d.val = d.val; omega
  | ⟨n + 4, h⟩ => exact absurd h (Nat.not_lt.2 (Nat.le_add_left _ _))

theorem KL_apply (D : Data Ideal) (g : Dev nD) (hh : Fin 8) (j : Fin 1024) (d : Fin 128) :
    KL D c g hh (ix4 0 0 j d) = D.Ka c (ix4 c j ⟨8 * g.val + hh.val, by have := g.isLt; have : nD = 8 := rfl; omega⟩ d) :=
  congrArg (D.Ka c) (hd_emb c g hh j d)

theorem VL_apply (D : Data Ideal) (g : Dev nD) (hh : Fin 8) (j : Fin 1024) (d : Fin 128) :
    VL D c g hh (ix4 0 0 j d) = D.Va c (ix4 c j ⟨8 * g.val + hh.val, by have := g.isLt; have : nD = 8 := rfl; omega⟩ d) :=
  congrArg (D.Va c) (hd_emb c g hh j d)

/-- The part of an output entry that group `g` of heads gives. -/
def part (X : Fin 1024 → EReal) (K V : FVec Ideal S8x1024x64x128 .f32) (wq wo : FVec Ideal S1024x1024 .f32) (c g : Fin 8) (i n : Fin 1024) : EReal :=
  ∑ kk : Fin 1024, row i
    (fun j => ∑ e : Fin 128, ((∑ e' : Fin 1024, X e' * wq (ix2 e' ⟨128 * (kk.val / 128) + e.val, by omega⟩)) * scl) * K (ix4 c j ⟨8 * g.val + kk.val / 128, by omega⟩ e))
    (fun j => V (ix4 c j ⟨8 * g.val + kk.val / 128, by omega⟩ ⟨kk.val % 128, by omega⟩)) * wo (ix2 kk n)

theorem acc_apply (x : FVec Ideal S1x1024x1024 .f32) (i n : Fin 1024) (t : ℕ) :
    acc (Dm m) c Msk (k0_pay72 x) t (ix3 0 i n) = ∑ u ∈ Finset.range t,
      part (fun e => x (ix3 0 i e)) (m ((c.tc : Thread nD τ).loc main_arg2)) (m ((c.tc : Thread nD τ).loc main_arg3)) (qstg m (grp c u)) (ostg m (grp c u)) c (grp c u) i n := by
  induction t with
  | zero =>
    rw [Finset.range_zero, Finset.sum_empty]
    exact pay2_apply i n
  | succ t ih =>
    rw [Finset.sum_range_succ, ← ih]
    show k0_pay4 (acc (Dm m) c Msk (k0_pay72 x) t) (ctxOf (XT (Dm m) c Msk (k0_pay72 x) t)) (PW (Dm m) c t 1) (ix3 0 i n) = _
    rw [pay4_apply]
    refine congrArg _ (Finset.sum_congr rfl fun kk _ => ?_)
    rw [PW_output]
    refine congrArg (· * _) ?_
    show ctxOf (Cert.KernelIdealRun.piece Msk (k0_pay5 (k0_pay72 x) (PW (Dm m) c t 0)) (KL (Dm m) c (grp c t)) (VL (Dm m) c (grp c t))) (ix2 i kk) = _
    rw [ctxOf_apply Msk msk_apply]
    simp only [pay5_apply, pay72_apply, PW_query, KL_apply, VL_apply]
    rfl

theorem grp_bij : Function.Bijective fun t : Fin 8 => grp c t.val := by
  refine (Finite.injective_iff_bijective).1 ?_
  intro a b
  revert c a b
  decide

theorem outV_apply (x : FVec Ideal S1x1024x1024 .f32) (i n : Fin 1024) :
    outV (Dm m) c x (ix3 0 i n) = ∑ g : Fin 8,
      part (fun e => x (ix3 0 i e)) (m ((c.tc : Thread nD τ).loc main_arg2)) (m ((c.tc : Thread nD τ).loc main_arg3)) (qstg m g) (ostg m g) c g i n := by
  unfold outV
  rw [acc_apply, Finset.sum_range]
  exact Fintype.sum_bijective _ (grp_bij c) _ _ fun t => rfl

end Cert.Value

end
-- ==== Proof.Value.Match.lean ====
/- The two results compared entry by entry, where activations, queries' weights and keys are real numbers. -/
module

public import proofs.«01_k».proof.Proof.Value.Whole
public import Idealize.ShloMosaic.Lib.Layout

@[expose] public section

set_option maxRecDepth 16384

noncomputable section

namespace Cert.Value

open Idealize.ShloMosaic Idealize.ShloMosaic.TcCoe

/-- A sum over 8192 columns, group of 1024 by group. -/
theorem groups (f : Fin 8192 → EReal) : ∑ k, f k = ∑ g : Fin 8, ∑ kk : Fin 1024, f ⟨1024 * g.val + kk.val, by omega⟩ := by
  rw [← Fintype.sum_prod_type' (fun (g : Fin 8) (kk : Fin 1024) => f ⟨1024 * g.val + kk.val, by omega⟩)]
  refine (Fintype.sum_equiv (finProdFinEquiv (m := 8) (n := 1024)) _ _ fun x => ?_).symm
  refine congrArg f (Fin.ext ?_)
  show 1024 * x.1.val + x.2.val = x.2.val + 1024 * x.1.val
  omega

/-- A score with the scale on the queries is the score with the scale on the product, and real. -/
theorem score_scl (Q K : Fin 128 → EReal) (hQ : ∀ d, ∃ r : ℝ, Q d = r) (hK : ∀ d, ∃ r : ℝ, K d = r) :
    ∑ d, (Q d * scl) * K d = (∑ d, Q d * K d) * scl ∧ ∃ r : ℝ, (∑ d, Q d * K d) * scl = r := by
  choose q hq using hQ
  choose k hk using hK
  obtain ⟨c, hc⟩ := scl_real
  simp only [hq, hk, hc]
  exact ⟨(score q k c).2.trans (score q k c).1.symm, _, (score q k c).1⟩

section

variable (X : FVec Ideal Cert.ReferenceIdeal.S8x1024x1024 .f32) (Wq : FVec Ideal Cert.ReferenceIdeal.S1024x8192 .f32)
  (K V : FVec Ideal Cert.ReferenceIdeal.S8x1024x64x128 .f32) (Wo : FVec Ideal Cert.ReferenceIdeal.S8192x1024 .f32)
  (hX : ∀ i, ∃ r : ℝ, (X i : EReal) = r) (hW : ∀ i, ∃ r : ℝ, (Wq i : EReal) = r) (hK : ∀ i, ∃ r : ℝ, (K i : EReal) = r)
include hX hW hK

/-- An entry of the reference's result: per column its row of weighted values over the row's sum of weights. -/
theorem ref_entry (b : Fin 8) (i n : Fin 1024) :
    rOut V (rWt (rExp (rScore X Wq K))) Wo (ix3 b i n) = ∑ k : Fin 8192,
      row i (fun j => rS X Wq K b ⟨k.val / 128, by omega⟩ i j) (fun j => V (ix4 b j ⟨k.val / 128, by omega⟩ ⟨k.val % 128, by omega⟩)) * Wo (ix2 k n) := by
  rw [rOut_apply]
  refine Finset.sum_congr rfl fun k _ => congrArg (· * _) ?_
  have hs : ∀ j, ∃ r : ℝ, rS X Wq K b ⟨k.val / 128, by omega⟩ i j = r := fun j =>
    (score_scl _ _ (fun d => dot_real _ _ (fun e => hX _) (fun e => hW _)) (fun d => hK _)).2
  choose s hs using hs
  simp only [rWt_apply, rExp_apply, rScore_apply, hs]
  exact softmax (fun j : Fin 1024 => (j : ℕ) / 64 ≤ (i : ℕ) / 64) s 0 (by simp) _

/-- A group's part of the device's entry is the reference's sum over the group's columns. -/
theorem part_entry (wq wo : FVec Ideal Cert.KernelIdeal.S1024x1024 .f32) (b g : Fin 8) (i n : Fin 1024)
    (hq : ∀ e k : Fin 1024, wq (ix2 e k) = Wq (ix2 e ⟨1024 * g.val + k.val, by omega⟩))
    (ho : ∀ k n : Fin 1024, wo (ix2 k n) = Wo (ix2 ⟨1024 * g.val + k.val, by omega⟩ n)) :
    part (fun e => X (ix3 b i e)) K V wq wo b g i n = ∑ kk : Fin 1024,
      row i (fun j => rS X Wq K b ⟨(1024 * g.val + kk.val) / 128, by omega⟩ i j)
        (fun j => V (ix4 b j ⟨(1024 * g.val + kk.val) / 128, by omega⟩ ⟨(1024 * g.val + kk.val) % 128, by omega⟩))
        * Wo (ix2 ⟨1024 * g.val + kk.val, by omega⟩ n) := by
  unfold part
  refine Finset.sum_congr rfl fun kk _ => ?_
  rw [ho]
  refine congrArg (· * _) ?_
  have e1 : (1024 * g.val + kk.val) / 128 = 8 * g.val + kk.val / 128 := by omega
  have e2 : (1024 * g.val + kk.val) % 128 = kk.val % 128 := by omega
  simp only [e1, e2]
  refine congrArg (row i · _) (funext fun j => ?_)
  refine Eq.trans ?_ (score_scl (fun d => ∑ e : Fin 1024, X (ix3 b i e) * Wq (ix2 e ⟨(8 * g.val + kk.val / 128) * 128 + d.val, by omega⟩)) _
    (fun d => dot_real _ _ (fun e => hX _) (fun e => hW _)) (fun d => hK _)).1
  refine Finset.sum_congr rfl fun d _ => ?_
  have e3 : ∀ p : 1024 * g.val + (128 * (kk.val / 128) + d.val) < 8192,
      (⟨1024 * g.val + (128 * (kk.val / 128) + d.val), p⟩ : Fin 8192) = ⟨(8 * g.val + kk.val / 128) * 128 + d.val, by omega⟩ := fun p => Fin.ext (by show 1024 * g.val + (128 * (kk.val / 128) + d.val) = (8 * g.val + kk.val / 128) * 128 + d.val; omega)
  simp only [hq, e3]

end

end Cert.Value

end
-- ==== Proof.Value.Pre.lean ====
/- The side conditions of the precondition, and what it says: queries' inputs and keys are real numbers. -/
module

public import proofs.«01_k».proof.Pre_finite_KernelIdeal
public import proofs.«01_k».proof.Pre_finite_ReferenceIdeal
public import Idealize.ShloMosaic.Lib.ReduceAll
public import Idealize.ShloMosaic.PureOps.Ideal.Laws

@[expose] public section

noncomputable section

namespace Cert.Value

open Idealize.ShloMosaic

theorem preFacts_kernel : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S8x1024x64x128 := by decide
  reducesTo_S8x1024x64x128_S_d0_1_2_3 := by decide

theorem preFacts_reference : Cert.Pre_finite_ReferenceIdeal.Facts where
  bcast_S_S8x1024x1024 := by decide
  reducesTo_S8x1024x1024_S_d0_1_2 := by decide
  h_S_ := by decide
  bcast_S_S1024x8192 := by decide
  reducesTo_S1024x8192_S_d0_1 := by decide
  bcast_S_S8x1024x64x128 := by decide
  reducesTo_S8x1024x64x128_S_d0_1_2_3 := by decide

theorem pinf : Ideal.ofBits .f32 0x7F800000#32 = (⊤ : EReal) := by simp [Ideal.ofBits, Ideal.ieee]

/-- A number whose absolute value is below infinity is real. -/
theorem real_of_lt (a : EReal) (h : Ideal.cmp .olt (max a (-a)) (Ideal.ofBits .f32 0x7F800000#32) = 1#1) : ∃ r : ℝ, a = r := by
  rw [pinf] at h
  have hlt : max a (-a) < ⊤ := by
    by_contra hn
    simp [Ideal.cmp, hn] at h
  rw [max_lt_iff] at hlt
  have hb : a ≠ ⊥ := by rintro rfl; simp at hlt
  exact ⟨_, (EReal.coe_toReal hlt.1.ne hb).symm⟩

instance : Subsingleton Cert.Pre_finite_KernelIdeal.S_.Idx := ⟨fun _ _ => funext fun a => a.elim0⟩

open Cert.Pre_finite_KernelIdeal in
/-- Where the precondition holds, the activations, the queries' weights and the keys are real numbers. -/
theorem real_of_pre [Cert.Pre_finite_KernelIdeal.Facts] (x : FVec Ideal S1x1024x1024 .f32) (wq : FVec Ideal S1024x1024 .f32)
    (K V : FVec Ideal S8x1024x64x128 .f32) (wo : FVec Ideal S1024x1024 .f32) (h : fn x wq K V wo = fun _ => 1#1) :
    (∀ i, ∃ r : ℝ, (x i : EReal) = r) ∧ (∀ i, ∃ r : ℝ, (wq i : EReal) = r) ∧ ∀ i, ∃ r : ℝ, (K i : EReal) = r := by
  have h0 := congrFun h (fun a => a.elim0)
  obtain ⟨h1, hK⟩ := IntOp.andi_eq_one.1 h0
  obtain ⟨hx, hw⟩ := IntOp.andi_eq_one.1 h1
  exact ⟨fun i => real_of_lt _ (Host.reduce_andi_all _ _ _ _ _ hx i), fun i => real_of_lt _ (Host.reduce_andi_all _ _ _ _ _ hw i),
    fun i => real_of_lt _ (Host.reduce_andi_all _ _ _ _ _ hK i)⟩

end Cert.Value

end
-- ==== Proof.Value.Agree.lean ====
/- What a device ends with is its block of the reference's result. -/
module

public import proofs.«01_k».proof.Proof.KernelIdealRun.Frame
public import proofs.«01_k».proof.Proof.Value.Match
public import proofs.«01_k».proof.Proof.Value.Pre

@[expose] public section

set_option maxRecDepth 16384

noncomputable section

namespace Cert.Value

open Idealize.ShloMosaic Idealize.ShloMosaic.TcCoe

section

variable {α : Type} (c : Fin 8)

theorem rows3_apply (v : (⟨3, ![8, 1024, 1024]⟩ : Shape).Idx → α) (i j : Fin 1024) :
    Layout.block ⟨3, ![1, 1024, 1024]⟩ ⟨3, ![8, 1024, 1024]⟩ 0 8 c v (by decide) (ix3 0 i j) = v (ix3 c i j) := by
  refine congrArg v (funext fun a => Fin.ext ?_)
  match a with
  | ⟨0, _⟩ => show c.val * 1 + 0 = c.val; omega
  | ⟨1, _⟩ => rfl
  | ⟨2, _⟩ => rfl

theorem cols2_apply (v : (⟨2, ![1024, 8192]⟩ : Shape).Idx → α) (i j : Fin 1024) :
    Layout.block ⟨2, ![1024, 1024]⟩ ⟨2, ![1024, 8192]⟩ 1 8 c v (by decide) (ix2 i j) = v (ix2 i ⟨1024 * c.val + j.val, by omega⟩) := by
  refine congrArg v (funext fun a => Fin.ext ?_)
  match a with
  | ⟨0, _⟩ => rfl
  | ⟨1, _⟩ => show c.val * 1024 + j.val = 1024 * c.val + j.val; omega

theorem rows2_apply (v : (⟨2, ![8192, 1024]⟩ : Shape).Idx → α) (i j : Fin 1024) :
    Layout.block ⟨2, ![1024, 1024]⟩ ⟨2, ![8192, 1024]⟩ 0 8 c v (by decide) (ix2 i j) = v (ix2 ⟨1024 * c.val + i.val, by omega⟩ j) := by
  refine congrArg v (funext fun a => Fin.ext ?_)
  match a with
  | ⟨0, _⟩ => show c.val * 1024 + i.val = 1024 * c.val + i.val; omega
  | ⟨1, _⟩ => rfl

end

section

open Cert.KernelIdeal Cert.KernelIdeal.Gen Cert.KernelIdealRun

variable (m : (ℓ : Loc nD τ sig) → Buf (Elt Ideal) ℓ) (ρ : Dev nD → PrngReg)
  (X : FVec Ideal Cert.ReferenceIdeal.S8x1024x1024 .f32) (Wq : FVec Ideal Cert.ReferenceIdeal.S1024x8192 .f32)
  (K V : FVec Ideal Cert.ReferenceIdeal.S8x1024x64x128 .f32) (Wo : FVec Ideal Cert.ReferenceIdeal.S8192x1024 .f32)
  (h0 : ∀ c : Dev nD, m ((c.tc : Thread nD τ).loc main_arg0) = Layout.block ⟨3, ![1, 1024, 1024]⟩ ⟨3, ![8, 1024, 1024]⟩ 0 8 c X)
  (h1 : ∀ c : Dev nD, m ((c.tc : Thread nD τ).loc main_arg1) = Layout.block ⟨2, ![1024, 1024]⟩ ⟨2, ![1024, 8192]⟩ 1 8 c Wq)
  (h2 : ∀ c : Dev nD, m ((c.tc : Thread nD τ).loc main_arg2) = K)
  (h3 : ∀ c : Dev nD, m ((c.tc : Thread nD τ).loc main_arg3) = V)
  (h4 : ∀ c : Dev nD, m ((c.tc : Thread nD τ).loc main_arg4) = Layout.block ⟨2, ![1024, 1024]⟩ ⟨2, ![8192, 1024]⟩ 0 8 c Wo)
  (r0 : ∀ (c : Dev nD) (i : S1x1024x1024.Idx), ∃ r : ℝ, @Eq EReal (m ((c.tc : Thread nD τ).loc main_arg0) i) (r : EReal))
  (r1 : ∀ (c : Dev nD) (i : S1024x1024.Idx), ∃ r : ℝ, @Eq EReal (m ((c.tc : Thread nD τ).loc main_arg1) i) (r : EReal))
  (r2 : ∀ (c : Dev nD) (i : S8x1024x64x128.Idx), ∃ r : ℝ, @Eq EReal (m ((c.tc : Thread nD τ).loc main_arg2) i) (r : EReal))

include h0 r0 in
theorem x_real (i : Cert.ReferenceIdeal.S8x1024x1024.Idx) : ∃ r : ℝ, (X i : EReal) = r := by
  have key : ∀ (c : Dev nD) (a b : Fin 1024), ∃ r : ℝ, (X (ix3 c a b) : EReal) = r := fun c a b => by
    obtain ⟨r, hr⟩ := r0 c (ix3 0 a b)
    exact ⟨r, (rows3_apply c X a b).symm.trans ((congrFun (h0 c) _).symm.trans hr)⟩
  rw [eq_ix3 i]
  exact key _ _ _

include h1 r1 in
theorem wq_real (i : Cert.ReferenceIdeal.S1024x8192.Idx) : ∃ r : ℝ, (Wq i : EReal) = r := by
  have key : ∀ (a : Fin 1024) (k : Fin 8192), ∃ r : ℝ, (Wq (ix2 a k) : EReal) = r := fun a k => by
    obtain ⟨r, hr⟩ := r1 (⟨k.val / 1024, by omega⟩ : Fin 8) (ix2 a (⟨k.val % 1024, by omega⟩ : Fin 1024))
    have hb := (cols2_apply ⟨k.val / 1024, by omega⟩ Wq a ⟨k.val % 1024, by omega⟩).symm.trans ((congrFun (h1 (⟨k.val / 1024, by omega⟩ : Fin 8)) _).symm.trans hr)
    refine ⟨r, Eq.trans (congrArg (fun k => Wq (ix2 a k)) (Fin.ext ?_)) hb⟩
    show k.val = 1024 * (k.val / 1024) + k.val % 1024
    omega
  rw [eq_ix2 i]
  exact key _ _

include h0 h1 h2 h3 h4 r0 r1 r2 in
/-- The device's output is its block of the reference's result. -/
theorem agree (c : Dev nD) : finalA m ρ c (3 : Fin 4)
    = Layout.block ⟨3, ![1, 1024, 1024]⟩ ⟨3, ![8, 1024, 1024]⟩ 0 8 c (rOut V (rWt (rExp (rScore X Wq K))) Wo) := by
  have hX := x_real m X h0 r0
  have hW := wq_real m Wq h1 r1
  have hK : ∀ i, ∃ r : ℝ, (K i : EReal) = r := fun i => by rw [← h2 c]; exact r2 c i
  have hx : ∀ i e : Fin 1024, xstg m c (ix3 0 i e) = X (ix3 c i e) := fun i e => by
    rw [xstg_eq, h0]; exact rows3_apply c X i e
  have hq : ∀ (g : Dev nD) (e k : Fin 1024), qstg m g (ix2 e k) = Wq (ix2 e ⟨1024 * g.val + k.val, by have := g.isLt; have : nD = 8 := rfl; omega⟩) := fun g e k => by
    rw [qstg_eq, h1]; exact cols2_apply g Wq e k
  have ho : ∀ (g : Dev nD) (k n : Fin 1024), ostg m g (ix2 k n) = Wo (ix2 ⟨1024 * g.val + k.val, by have := g.isLt; have : nD = 8 := rfl; omega⟩ n) := fun g k n => by
    rw [ostg_eq, h4]; exact rows2_apply g Wo k n
  have key : ∀ i n : Fin 1024, outV (Dm m) c (xstg m c) (ix3 0 i n) = rOut V (rWt (rExp (rScore X Wq K))) Wo (ix3 c i n) := fun i n => by
    rw [outV_apply]
    simp only [h2, h3, hx]
    rw [ref_entry X Wq K V Wo hX hW hK, groups]
    exact Finset.sum_congr rfl fun g _ => part_entry X Wq K V Wo hX hW hK (qstg m g) (ostg m g) c g i n (hq g) (ho g)
  refine (final_out m ρ c).trans (funext fun i : S1x1024x1024.Idx => ?_)
  have hi : i = ix3 (0 : Fin 1) (i 1 : Fin 1024) (i 2 : Fin 1024) :=
    (eq_ix3 i).trans (congrArg (fun a : Fin 1 => ix3 a (i 1 : Fin 1024) (i 2 : Fin 1024)) (Subsingleton.elim (α := Fin 1) (i 0) 0))
  refine (congrArg (outV (Dm m) c (xstg m c)) hi).trans ((key (i 1) (i 2)).trans ?_)
  refine (rows3_apply c (rOut V (rWt (rExp (rScore X Wq K))) Wo) (i 1) (i 2)).symm.trans ?_
  exact (congrArg (Layout.block ⟨3, ![1, 1024, 1024]⟩ ⟨3, ![8, 1024, 1024]⟩ 0 8 c (rOut V (rWt (rExp (rScore X Wq K))) Wo)) hi).symm

end

end Cert.Value

end
-- ==== Proof.lean ====
/-
The proof of the certificate's claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun.Frame
public import proofs.«01_k».proof.Proof.KernelIdealRun.Frame
public import proofs.«01_k».proof.Proof.Value.Agree

@[expose] public section

noncomputable section

namespace Cert.Proof

open Idealize.ShloMosaic Idealize.SL.Sem

attribute [local instance] Cert.Kernel.Gen.facts Cert.KernelIdeal.Gen.facts Cert.ReferenceIdeal.Gen.facts
  Cert.Value.preFacts_kernel Cert.Value.preFacts_reference

theorem frame_kernel : Cert.quiescent_Kernel := fun m ρ _ => Cert.KernelRun.run_frame (F := Bits) m ρ

theorem frame_kernelIdeal : Cert.quiescent_KernelIdeal := fun m ρ _ => Cert.KernelIdealRun.run_frame (F := Ideal) m ρ

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

theorem frame_kernelIdeal_pre : Cert.quiescent_KernelIdeal_pre_finite_KernelIdeal := fun m ρ _ => frame_kernelIdeal m ρ trivial

theorem frame_referenceIdeal_pre : Cert.quiescent_ReferenceIdeal_pre_finite_ReferenceIdeal := fun m ρ _ => frame_referenceIdeal m ρ trivial

/-- Every device's result is its block of the reference's. -/
theorem algebraic : Cert.algebraic_KernelIdeal_ReferenceIdeal_pre_finite_KernelIdeal := by
  intro m g m' g' hpre hblk
  have hr := fun c => Cert.Value.real_of_pre _ _ _ _ _ (hpre c)
  refine ⟨Cert.ReferenceIdeal.Value.res_main_v33 m' 0, ?_, ?_⟩
  · refine (θ_run Cert.KernelIdeal.defs _ _).mono (fun r h c => ⟨?_, Cert.KernelIdealRun.kept_of_QC m g h.1 c⟩) (Cert.KernelIdealRun.run_main (F := Ideal) m g)
    rw [Cert.Value.res_eq]
    exact (h.1.1 c (3 : Fin 4)).trans (Cert.Value.agree m g _ _ _ _ _ (fun c => (hblk c).1) (fun c => (hblk c).2.1) (fun c => (hblk c).2.2.1)
      (fun c => (hblk c).2.2.2.1) (fun c => (hblk c).2.2.2.2) (fun c => (hr c).1) (fun c => (hr c).2.1) (fun c => (hr c).2.2) c)
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Value.preFacts_kernel, Cert.Value.preFacts_reference,
    frame_kernel, frame_kernelIdeal, frame_kernelIdeal_pre, frame_referenceIdeal, frame_referenceIdeal_pre, preserves, algebraic⟩

end Cert.Proof

end
